-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6)
      ∧ r.2.mem ((c.tc : Thread Cert.Kernel31.nD Cert.Kernel31.τ).loc Cert.Kernel31.main_arg7) = m ((c.tc : Thread Cert.Kernel31.nD Cert.Kernel31.τ).loc Cert.Kernel31.main_arg7))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
      ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)) (v5 : (c : Dev Cert.KernelIdeal.nD) → Buf (Elt Ideal) ((c.tc : Thread Cert.KernelIdeal.nD Cert.KernelIdeal.τ).loc Cert.KernelIdeal.main_v54_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_v54_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v20) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v11) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v27) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v51) = v0 c
          ∧ r.2.mem ((c.tc : Thread Cert.Reference28Ideal.nD Cert.Reference28Ideal.τ).loc Cert.Reference28Ideal.main_v50) = v1 c
          ∧ r.2.mem ((c.tc : Thread Cert.Reference28Ideal.nD Cert.Reference28Ideal.τ).loc Cert.Reference28Ideal.main_v52) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v19) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)
      ∧ m' ((c.tc : Thread Cert.Reference31Ideal.nD Cert.Reference31Ideal.τ).loc Cert.Reference31Ideal.main_arg7) = m ((c.tc : Thread Cert.Kernel31Ideal.nD Cert.Kernel31Ideal.τ).loc Cert.Kernel31Ideal.main_arg7)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
          ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v36) = v0 c
          ∧ r.2.mem ((c.tc : Thread Cert.Reference31Ideal.nD Cert.Reference31Ideal.τ).loc Cert.Reference31Ideal.main_v41) = v1 c
          ∧ r.2.mem ((c.tc : Thread Cert.Reference31Ideal.nD Cert.Reference31Ideal.τ).loc Cert.Reference31Ideal.main_v46) = v2 c
          ∧ r.2.mem ((c.tc : Thread Cert.Reference31Ideal.nD Cert.Reference31Ideal.τ).loc Cert.Reference31Ideal.main_v51) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6)
          ∧ r.2.mem ((c.tc : Thread Cert.Reference31Ideal.nD Cert.Reference31Ideal.τ).loc Cert.Reference31Ideal.main_arg7) = m' ((c.tc : Thread Cert.Reference31Ideal.nD Cert.Reference31Ideal.τ).loc Cert.Reference31Ideal.main_arg7))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v44) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v34) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_regular (hKernelIdeal := hKernelIdeal) (hReferenceIdeal := hReferenceIdeal) (hPre_regular := hPre_regular)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_regular.lean ====
abbrev S2048x2048 : Shape := ⟨2, ![2048, 2048]⟩
abbrev S2048x16 : Shape := ⟨2, ![2048, 16]⟩
abbrev S16 : Shape := ⟨1, ![16]⟩
abbrev S2048x1024 : Shape := ⟨2, ![2048, 1024]⟩
abbrev S_ : Shape := ⟨0, ![]⟩
abbrev S1x16 : Shape := ⟨2, ![1, 16]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_
  bcast_S_S2048x1024 : S_.BroadcastsInDim S2048x1024 (![] : Fin 0 → Fin S2048x1024.rank)
  reducesTo_S2048x1024_S_d0_1 : S2048x1024.ReducesTo [0, 1] S_
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)

variable [Facts]

def fn_part2 {F : FTy → Type} [FloatOps F] (main_v28 : IVec S_ 1) (main_v33 : IVec S2048x16 1) (main_c_11 : IVec S_ 1) : IVec S_ 1 :=
  let main_v34 : IVec S_ 1 := (fun x v => Host.reduce IntOp.andi x v reducesTo_S2048x16_S_d0_1 h_S_) main_v33 main_c_11
  let main_v35 : IVec S_ 1 := andi main_v28 main_v34
  main_v35

def fn_part1 {F : FTy → Type} [FloatOps F] (main_arg1 : FVec F S2048x16 .f32) (main_arg3 : FVec F S16 .f32) (main_arg4 : FVec F S2048x1024 .f32) (main_arg5 : FVec F S2048x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1x16 .f32 := broadcastInDim S1x16 ![1] bcast_S16_S1x16_1 main_arg3
  let main_v30 : FVec F S2048x16 .f32 := broadcastInDim S2048x16 ![0, 1] bcast_S1x16_S2048x16_0_1 main_v29
  let main_v31 : FVec F S2048x16 .f32 := addf main_arg1 main_v30
  let main_cst_10 : FVec F S_ .f32 := constant S_ .f32 0x00000000#32
  let main_v32 : FVec F S2048x16 .f32 := broadcastInDim S2048x16 ![] bcast_S_S2048x16 main_cst_10
  let main_v33 : IVec S2048x16 1 := cmpf .une main_v31 main_v32
  let main_c_11 : IVec S_ 1 := constantI S_ 1 1#1
  fn_part2 (F := F) main_v28 main_v33 main_c_11

def fn {F : FTy → Type} [FloatOps F] (main_arg0 : FVec F S2048x2048 .f32) (main_arg1 : FVec F S2048x16 .f32) (main_arg2 : FVec F S16 .f32) (main_arg3 : FVec F S16 .f32) (main_arg4 : FVec F S2048x1024 .f32) (main_arg5 : FVec F S2048x1024 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg3 main_arg4 main_arg5 main_v13 main_v16
-- ==== Kernel.lean ====
abbrev S2048x2048 : Shape := ⟨2, ![2048, 2048]⟩
abbrev S2048x16 : Shape := ⟨2, ![2048, 16]⟩
abbrev S16 : Shape := ⟨1, ![16]⟩
abbrev S2048x1024 : Shape := ⟨2, ![2048, 1024]⟩
abbrev S2048x512 : Shape := ⟨2, ![2048, 512]⟩
abbrev S2048x4x4x64 : Shape := ⟨4, ![2048, 4, 4, 64]⟩
abbrev S2048x4x128 : Shape := ⟨3, ![2048, 4, 128]⟩
abbrev S1x16 : Shape := ⟨2, ![1, 16]⟩
abbrev S_ : Shape := ⟨0, ![]⟩
abbrev S2048x4x4 : Shape := ⟨3, ![2048, 4, 4]⟩
abbrev S2049x4x4 : Shape := ⟨3, ![2049, 4, 4]⟩
abbrev S32x64x4x4 : Shape := ⟨4, ![32, 64, 4, 4]⟩
abbrev S32x1x4x4 : Shape := ⟨4, ![32, 1, 4, 4]⟩
abbrev S32x4x4 : Shape := ⟨3, ![32, 4, 4]⟩
abbrev S2048 : Shape := ⟨1, ![2048]⟩
abbrev S1x2048 : Shape := ⟨2, ![1, 2048]⟩
abbrev S32 : Shape := ⟨1, ![32]⟩
abbrev S32x1 : Shape := ⟨2, ![32, 1]⟩
abbrev S32x2048 : Shape := ⟨2, ![32, 2048]⟩
abbrev S1x2048x4x4 : Shape := ⟨4, ![1, 2048, 4, 4]⟩
abbrev S32x2048x4x4 : Shape := ⟨4, ![32, 2048, 4, 4]⟩
abbrev S32x2048x1x1 : Shape := ⟨4, ![32, 2048, 1, 1]⟩
abbrev S32x2048x4x4x1 : Shape := ⟨5, ![32, 2048, 4, 4, 1]⟩
abbrev S2048x4x4x1 : Shape := ⟨4, ![2048, 4, 4, 1]⟩
abbrev S1x2048x4x4x64 : Shape := ⟨5, ![1, 2048, 4, 4, 64]⟩
abbrev S32x2048x4x4x64 : Shape := ⟨5, ![32, 2048, 4, 4, 64]⟩
abbrev S4x32x4x64x128 : Shape := ⟨5, ![4, 32, 4, 64, 128]⟩
abbrev S16x2048 : Shape := ⟨2, ![16, 2048]⟩
abbrev S4x4x32x64 : Shape := ⟨4, ![4, 4, 32, 64]⟩
abbrev S4x32x4x64 : Shape := ⟨4, ![4, 32, 4, 64]⟩
abbrev S4x4x1 : Shape := ⟨3, ![4, 4, 1]⟩
abbrev S64x256 : Shape := ⟨2, ![64, 256]⟩
abbrev S64x128 : Shape := ⟨2, ![64, 128]⟩
abbrev S1x1x4x64 : Shape := ⟨4, ![1, 1, 4, 64]⟩
abbrev S1x4x1 : Shape := ⟨3, ![1, 4, 1]⟩
abbrev S1x1x4x64x128 : Shape := ⟨5, ![1, 1, 4, 64, 128]⟩
abbrev S1x4x64x128 : Shape := ⟨4, ![1, 4, 64, 128]⟩
abbrev S64x64 : Shape := ⟨2, ![64, 64]⟩
abbrev S1x1x1x64 : Shape := ⟨4, ![1, 1, 1, 64]⟩
abbrev S1x64 : Shape := ⟨2, ![1, 64]⟩
abbrev S1x1x1 : Shape := ⟨3, ![1, 1, 1]⟩
abbrev S1x1 : Shape := ⟨2, ![1, 1]⟩
abbrev S1x1x1x64x128 : Shape := ⟨5, ![1, 1, 1, 64, 128]⟩
abbrev S64 : Shape := ⟨1, ![64]⟩
abbrev S64x1 : Shape := ⟨2, ![64, 1]⟩
abbrev S1 : Shape := ⟨1, ![1]⟩
abbrev S1x1x64x128 : Shape := ⟨4, ![1, 1, 64, 128]⟩
abbrev S1x64x128 : Shape := ⟨3, ![1, 64, 128]⟩

abbrev nBuf : Space → Nat
  | .hbm => 88
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S2048x16, .f32⟩
  | .hbm, ⟨2, _⟩ => ⟨S16, .f32⟩
  | .hbm, ⟨3, _⟩ => ⟨S16, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x4x4x64, .f32⟩
  | .hbm, ⟨10, _⟩ => ⟨S2048x4x128, .f32⟩
  | .hbm, ⟨11, _⟩ => ⟨S2048x4x128, .f32⟩
  | .hbm, ⟨12, _⟩ => ⟨S1x16, .f32⟩
  | .hbm, ⟨13, _⟩ => ⟨S2048x16, .f32⟩
  | .hbm, ⟨14, _⟩ => ⟨S2048x16, .f32⟩
  | .hbm, ⟨15, _⟩ => ⟨S_, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .i1⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x4x4, .f32⟩
  | .hbm, ⟨35, _⟩ => ⟨S2048x4x4, .f32⟩
  | .hbm, ⟨36, _⟩ => ⟨S_, .f32⟩
  | .hbm, ⟨37, _⟩ => ⟨S_, .f32⟩
  | .hbm, ⟨38, _⟩ => ⟨S2048x4x4, .f32⟩
  | .hbm, ⟨39, _⟩ => ⟨S_, .i32⟩
  | .hbm, ⟨40, _⟩ => ⟨S_, .f32⟩
  | .hbm, ⟨41, _⟩ => ⟨S2049x4x4, .f32⟩
  | .hbm, ⟨42, _⟩ => ⟨S2048x4x4, .f32⟩
  | .hbm, ⟨43, _⟩ => ⟨S32x64x4x4, .f32⟩
  | .hbm, ⟨44, _⟩ => ⟨S32x1x4x4, .f32⟩
  | .hbm, ⟨45, _⟩ => ⟨S32x4x4, .f32⟩
  | .hbm, ⟨46, _⟩ => ⟨S2048, .i32⟩
  | .hbm, ⟨47, _⟩ => ⟨S1x2048, .i32⟩
  | .hbm, ⟨48, _⟩ => ⟨S32, .i32⟩
  | .hbm, ⟨49, _⟩ => ⟨S32x1, .i32⟩
  | .hbm, ⟨50, _⟩ => ⟨S_, .i32⟩
  | .hbm, ⟨51, _⟩ => ⟨S32x1, .i32⟩
  | .hbm, ⟨52, _⟩ => ⟨S32x1, .i32⟩
  | .hbm, ⟨53, _⟩ => ⟨S32x2048, .i32⟩
  | .hbm, ⟨54, _⟩ => ⟨S32x2048, .i32⟩
  | .hbm, ⟨55, _⟩ => ⟨S32x2048, .i1⟩
  | .hbm, ⟨56, _⟩ => ⟨S32x1x4x4, .f32⟩
  | .hbm, ⟨57, _⟩ => ⟨S1x2048x4x4, .f32⟩
  | .hbm, ⟨58, _⟩ => ⟨S32x2048x4x4, .f32⟩
  | .hbm, ⟨59, _⟩ => ⟨S32x2048x4x4, .f32⟩
  | .hbm, ⟨60, _⟩ => ⟨S32x2048x4x4, .f32⟩
  | .hbm, ⟨61, _⟩ => ⟨S32x2048x1x1, .i1⟩
  | .hbm, ⟨62, _⟩ => ⟨S_, .f32⟩
  | .hbm, ⟨63, _⟩ => ⟨S_, .f32⟩
  | .hbm, ⟨64, _⟩ => ⟨S32x2048x4x4, .i1⟩
  | .hbm, ⟨65, _⟩ => ⟨S32x2048x4x4, .f32⟩
  | .hbm, ⟨66, _⟩ => ⟨S32x2048x4x4, .f32⟩
  | .hbm, ⟨67, _⟩ => ⟨S32x2048x4x4, .f32⟩
  | .hbm, ⟨68, _⟩ => ⟨S32x2048x4x4x1, .f32⟩
  | .hbm, ⟨69, _⟩ => ⟨S2048x4x4x1, .f32⟩
  | .hbm, ⟨70, _⟩ => ⟨S2048x4x4x64, .f32⟩
  | .hbm, ⟨71, _⟩ => ⟨S2048x4x4x64, .f32⟩
  | .hbm, ⟨72, _⟩ => ⟨S1x2048x4x4x64, .f32⟩
  | .hbm, ⟨73, _⟩ => ⟨S32x2048x4x4x64, .f32⟩
  | .hbm, ⟨74, _⟩ => ⟨S32x2048x4x4x64, .f32⟩
  | .hbm, ⟨75, _⟩ => ⟨S32x2048x4x4x64, .f32⟩
  | .hbm, ⟨76, _⟩ => ⟨S4x32x4x64x128, .f32⟩
  | .hbm, ⟨77, _⟩ => ⟨S16x2048, .f32⟩
  | .hbm, ⟨78, _⟩ => ⟨S4x4x32x64, .f32⟩
  | .hbm, ⟨79, _⟩ => ⟨S4x32x4x64, .f32⟩
  | .hbm, ⟨80, _⟩ => ⟨S4x4x1, .f32⟩
  | .hbm, ⟨81, _⟩ => ⟨S4x4x1, .f32⟩
  | .hbm, ⟨82, _⟩ => ⟨S2048x1024, .f32⟩
  | .hbm, ⟨83, _⟩ => ⟨S2048x512, .f32⟩
  | .hbm, ⟨84, _⟩ => ⟨S2048x512, .f32⟩
  | .hbm, ⟨85, _⟩ => ⟨S4x32x4x64, .f32⟩
  | .hbm, ⟨86, _⟩ => ⟨S4x4x1, .f32⟩
  | .hbm, ⟨87, _⟩ => ⟨S4x4x1, .f32⟩
  | .local _ .vmem, ⟨0, _⟩ => ⟨S64x256, .f32⟩
  | .local _ .vmem, ⟨1, _⟩ => ⟨S64x256, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S1x1x4x64, .f32⟩
  | .local _ .vmem, ⟨7, _⟩ => ⟨S1x1x4x64, .f32⟩
  | .local _ .vmem, ⟨8, _⟩ => ⟨S1x4x1, .f32⟩
  | .local _ .vmem, ⟨9, _⟩ => ⟨S1x4x1, .f32⟩
  | .local _ .vmem, ⟨10, _⟩ => ⟨S1x4x1, .f32⟩
  | .local _ .vmem, ⟨11, _⟩ => ⟨S1x4x1, .f32⟩
  | .local _ .vmem, ⟨12, _⟩ => ⟨S1x1x4x64x128, .f32⟩
  | .local _ .vmem, ⟨13, _⟩ => ⟨S1x1x4x64x128, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S64x256, .f32⟩
  | .local _ .vmem, ⟨19, _⟩ => ⟨S64x256, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S1x1x4x64, .f32⟩
  | .local _ .vmem, ⟨25, _⟩ => ⟨S1x1x4x64, .f32⟩
  | .local _ .vmem, ⟨26, _⟩ => ⟨S1x4x1, .f32⟩
  | .local _ .vmem, ⟨27, _⟩ => ⟨S1x4x1, .f32⟩
  | .local _ .vmem, ⟨28, _⟩ => ⟨S1x4x1, .f32⟩
  | .local _ .vmem, ⟨29, _⟩ => ⟨S1x4x1, .f32⟩
  | .local _ .vmem, ⟨30, _⟩ => ⟨S1x4x64x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_call0_cst : Ref sig .tc := ⟨.hbm, 36, rfl⟩
abbrev main_call1_call0_v0 : Ref sig .tc := ⟨.hbm, 37, rfl⟩
abbrev main_v17 : Ref sig .tc := ⟨.hbm, 38, rfl⟩
abbrev main_c : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_v54_2 : Ref sig .tc := ⟨.hbm, 84, rfl⟩
abbrev main_v54_3 : Ref sig .tc := ⟨.hbm, 85, rfl⟩
abbrev main_v54_4 : Ref sig .tc := ⟨.hbm, 86, rfl⟩
abbrev main_v54_5 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c8_i32 : BitVec 32 := 8#32
  let v1 : BitVec 32 := Scalar.addi c8_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c12_i32 : BitVec 32 := 12#32
  let v1 : BitVec 32 := Scalar.addi c12_i32 arg0
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x2048 : Shape := ⟨2, ![2048, 2048]⟩
abbrev S2048x16 : Shape := ⟨2, ![2048, 16]⟩
abbrev S16 : Shape := ⟨1, ![16]⟩
abbrev S2048x1024 : Shape := ⟨2, ![2048, 1024]⟩
abbrev S2048x512 : Shape := ⟨2, ![2048, 512]⟩
abbrev S2048x4x4x64 : Shape := ⟨4, ![2048, 4, 4, 64]⟩
abbrev S2048x4x128 : Shape := ⟨3, ![2048, 4, 128]⟩
abbrev S1x16 : Shape := ⟨2, ![1, 16]⟩
abbrev S_ : Shape := ⟨0, ![]⟩
abbrev S2048x4x4 : Shape := ⟨3, ![2048, 4, 4]⟩
abbrev S2048x1x4x4 : Shape := ⟨4, ![2048, 1, 4, 4]⟩
abbrev S1x2048x4x4 : Shape := ⟨4, ![1, 2048, 4, 4]⟩
abbrev S2048x2048x4x4 : Shape := ⟨4, ![2048, 2048, 4, 4]⟩
abbrev S2048x2048x1x1 : Shape := ⟨4, ![2048, 2048, 1, 1]⟩
abbrev S4x2048x2048 : Shape := ⟨3, ![4, 2048, 2048]⟩
abbrev S2048x2048x4 : Shape := ⟨3, ![2048, 2048, 4]⟩
abbrev S2048x2048x4x1 : Shape := ⟨4, ![2048, 2048, 4, 1]⟩
abbrev S2048x4x4x1 : Shape := ⟨4, ![2048, 4, 4, 1]⟩
abbrev S4x4x64x2048 : Shape := ⟨4, ![4, 4, 64, 2048]⟩
abbrev S4x4x2048x2048 : Shape := ⟨4, ![4, 4, 2048, 2048]⟩
abbrev S4x2048x128 : Shape := ⟨3, ![4, 2048, 128]⟩
abbrev S16x2048 : Shape := ⟨2, ![16, 2048]⟩
abbrev S4x4x32x64 : Shape := ⟨4, ![4, 4, 32, 64]⟩
abbrev S4x32x4x64 : Shape := ⟨4, ![4, 32, 4, 64]⟩
abbrev S4x4x1 : Shape := ⟨3, ![4, 4, 1]⟩

abbrev nBuf : Space → Nat
  | .hbm => 181
  | .vmem => 0
  | .smem => 0
  | _ => 0

abbrev hbmTy0_0 (i : Nat) : BufTy := match i % 128 with
  | 0 => ⟨S2048x2048, .f32⟩
  | 1 => ⟨S2048x16, .f32⟩
  | 2 => ⟨S16, .f32⟩
  | 3 => ⟨S16, .f32⟩
  | 4 => ⟨S2048x1024, .f32⟩
  | 5 => ⟨S2048x1024, .f32⟩
  | 6 => ⟨S2048x1024, .f32⟩
  | 7 => ⟨S2048x512, .f32⟩
  | 8 => ⟨S2048x512, .f32⟩
  | 9 => ⟨S2048x4x4x64, .f32⟩
  | 10 => ⟨S2048x4x128, .f32⟩
  | 11 => ⟨S2048x4x128, .f32⟩
  | 12 => ⟨S1x16, .f32⟩
  | 13 => ⟨S2048x16, .f32⟩
  | 14 => ⟨S2048x16, .f32⟩
  | 15 => ⟨S_, .f32⟩
  | 16 => ⟨S2048x16, .f32⟩
  | 17 => ⟨S2048x16, .f32⟩
  | 18 => ⟨S2048x16, .f32⟩
  | 19 => ⟨S2048x16, .f32⟩
  | 20 => ⟨S2048x16, .i1⟩
  | 21 => ⟨S2048x16, .f32⟩
  | 22 => ⟨S2048x16, .f32⟩
  | 23 => ⟨S2048x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S_, .f32⟩
  | 30 => ⟨S2048x16, .f32⟩
  | 31 => ⟨S2048x16, .i1⟩
  | 32 => ⟨S_, .f32⟩
  | 33 => ⟨S2048x16, .f32⟩
  | 34 => ⟨S2048x16, .f32⟩
  | 35 => ⟨S_, .f32⟩
  | 36 => ⟨S2048x16, .f32⟩
  | 37 => ⟨S2048x16, .i1⟩
  | 38 => ⟨S_, .f32⟩
  | 39 => ⟨S2048x16, .f32⟩
  | 40 => ⟨S2048x16, .f32⟩
  | 41 => ⟨S2048x16, .f32⟩
  | 42 => ⟨S2048x16, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x16, .f32⟩
  | 51 => ⟨S2048x16, .i1⟩
  | 52 => ⟨S_, .f32⟩
  | 53 => ⟨S2048x16, .f32⟩
  | 54 => ⟨S2048x16, .f32⟩
  | 55 => ⟨S2048x16, .f32⟩
  | 56 => ⟨S2048x16, .f32⟩
  | 57 => ⟨S2048x16, .f32⟩
  | 58 => ⟨S_, .f32⟩
  | 59 => ⟨S2048x16, .f32⟩
  | 60 => ⟨S2048x16, .f32⟩
  | 61 => ⟨S16, .f32⟩
  | 62 => ⟨S16, .f32⟩
  | 63 => ⟨S1x16, .f32⟩
  | 64 => ⟨S2048x16, .f32⟩
  | 65 => ⟨S2048x16, .f32⟩
  | 66 => ⟨S2048x4x4, .f32⟩
  | 67 => ⟨S2048x4x4, .f32⟩
  | 68 => ⟨S_, .f32⟩
  | 69 => ⟨S_, .f32⟩
  | 70 => ⟨S2048x4x4, .f32⟩
  | 71 => ⟨S_, .i1⟩
  | 72 => ⟨S2048x2048, .i1⟩
  | 73 => ⟨S2048x2048, .i32⟩
  | 74 => ⟨S_, .i32⟩
  | 75 => ⟨S2048x2048, .i32⟩
  | 76 => ⟨S2048x2048, .i32⟩
  | 77 => ⟨S2048x2048, .i32⟩
  | 78 => ⟨S2048x2048, .i1⟩
  | 79 => ⟨S_, .i1⟩
  | 80 => ⟨S2048x2048, .i1⟩
  | 81 => ⟨S2048x2048, .i1⟩
  | 82 => ⟨S2048x1x4x4, .f32⟩
  | 83 => ⟨S1x2048x4x4, .f32⟩
  | 84 => ⟨S2048x2048x4x4, .f32⟩
  | 85 => ⟨S2048x2048x4x4, .f32⟩
  | 86 => ⟨S2048x2048x4x4, .f32⟩
  | 87 => ⟨S2048x2048x1x1, .i1⟩
  | 88 => ⟨S_, .f32⟩
  | 89 => ⟨S_, .f32⟩
  | 90 => ⟨S2048x2048x4x4, .i1⟩
  | 91 => ⟨S2048x2048x4x4, .f32⟩
  | 92 => ⟨S2048x2048x4x4, .f32⟩
  | 93 => ⟨S_, .f32⟩
  | 94 => ⟨S2048x2048x4x4, .f32⟩
  | 95 => ⟨S2048x2048x4x4, .f32⟩
  | 96 => ⟨S4x2048x2048, .f32⟩
  | 97 => ⟨S2048x2048x4, .f32⟩
  | 98 => ⟨S2048x2048x4x1, .f32⟩
  | 99 => ⟨S2048x2048x4x4, .f32⟩
  | 100 => ⟨S2048x2048x4x4, .f32⟩
  | 101 => ⟨S2048x4x4x1, .f32⟩
  | 102 => ⟨S2048x4x4x64, .f32⟩
  | 103 => ⟨S2048x4x4x64, .f32⟩
  | 104 => ⟨S4x4x64x2048, .f32⟩
  | 105 => ⟨S2048x4x4x64, .f32⟩
  | 106 => ⟨S2048x1024, .f32⟩
  | 107 => ⟨S2048x4x4x64, .f32⟩
  | 108 => ⟨S4x4x64x2048, .f32⟩
  | 109 => ⟨S4x4x2048x2048, .f32⟩
  | 110 => ⟨S2048x2048x4x4, .f32⟩
  | 111 => ⟨S4x4x64x2048, .f32⟩
  | 112 => ⟨S2048x4x4x64, .f32⟩
  | 113 => ⟨S2048x4x4x64, .f32⟩
  | 114 => ⟨S_, .f32⟩
  | 115 => ⟨S2048x4x4, .f32⟩
  | 116 => ⟨S2048x4x4x1, .f32⟩
  | 117 => ⟨S2048x4x4x64, .f32⟩
  | 118 => ⟨S2048x4x4x64, .f32⟩
  | 119 => ⟨S_, .f32⟩
  | 120 => ⟨S2048x4x4, .f32⟩
  | 121 => ⟨S2048x2048x4x4, .f32⟩
  | 122 => ⟨S2048x2048x4x4, .f32⟩
  | 123 => ⟨S2048x2048x4x4, .f32⟩
  | 124 => ⟨S_, .f32⟩
  | 125 => ⟨S2048x2048x4, .f32⟩
  | 126 => ⟨S2048x2048x4x1, .f32⟩
  | 127 => ⟨S_, .f32⟩
  | _ => ⟨S2048x2048, .f32⟩

abbrev hbmTy0_1 (i : Nat) : BufTy := match i % 128 with
  | 0 => ⟨S2048x2048x4, .f32⟩
  | 1 => ⟨S4x2048x2048, .f32⟩
  | 2 => ⟨S4x2048x128, .f32⟩
  | 3 => ⟨S2048x4x128, .f32⟩
  | 4 => ⟨S4x2048x128, .f32⟩
  | 5 => ⟨S2048x4x128, .f32⟩
  | 6 => ⟨S2048x2048x4x4, .f32⟩
  | 7 => ⟨S_, .f32⟩
  | 8 => ⟨S2048x2048x4x4, .f32⟩
  | 9 => ⟨S2048x2048x4x4, .f32⟩
  | 10 => ⟨S_, .f32⟩
  | 11 => ⟨S2048x4x4, .f32⟩
  | 12 => ⟨S2048x1x4x4, .f32⟩
  | 13 => ⟨S2048x2048x4x4, .f32⟩
  | 14 => ⟨S_, .f32⟩
  | 15 => ⟨S2048x4x4, .f32⟩
  | 16 => ⟨S1x2048x4x4, .f32⟩
  | 17 => ⟨S_, .f32⟩
  | 18 => ⟨S2048x4x4, .f32⟩
  | 19 => ⟨S_, .f32⟩
  | 20 => ⟨S2048x4x4, .f32⟩
  | 21 => ⟨S2048x4x4, .f32⟩
  | 22 => ⟨S_, .f32⟩
  | 23 => ⟨S_, .f32⟩
  | 24 => ⟨S2048x4x4, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S2048x16, .f32⟩
  | 31 => ⟨S_, .f32⟩
  | 32 => ⟨S16, .f32⟩
  | 33 => ⟨S1x16, .f32⟩
  | 34 => ⟨S_, .f32⟩
  | 35 => ⟨S16, .f32⟩
  | 36 => ⟨S16, .f32⟩
  | 37 => ⟨S16, .f32⟩
  | 38 => ⟨S2048x16, .f32⟩
  | 39 => ⟨S_, .f32⟩
  | 40 => ⟨S16, .f32⟩
  | 41 => ⟨S1x16, .f32⟩
  | 42 => ⟨S_, .f32⟩
  | 43 => ⟨S16, .f32⟩
  | 44 => ⟨S2048x512, .f32⟩
  | 45 => ⟨S2048x512, .f32⟩
  | 46 => ⟨S2048x1024, .f32⟩
  | 47 => ⟨S16x2048, .f32⟩
  | 48 => ⟨S4x4x32x64, .f32⟩
  | 49 => ⟨S4x32x4x64, .f32⟩
  | 50 => ⟨S2048x1024, .f32⟩
  | 51 => ⟨S4x4x1, .f32⟩
  | 52 => ⟨S4x4x1, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9_0 : Ref sig .tc := ⟨.hbm, 28, rfl⟩
abbrev main_call0_cst_0 : Ref sig .tc := ⟨.hbm, 29, rfl⟩
abbrev main_call0_v13 : Ref sig .tc := ⟨.hbm, 30, rfl⟩
abbrev main_call0_v14 : Ref sig .tc := ⟨.hbm, 31, rfl⟩
abbrev main_call0_cst_1 : Ref sig .tc := ⟨.hbm, 32, rfl⟩
abbrev main_call0_v15 : Ref sig .tc := ⟨.hbm, 33, rfl⟩
abbrev main_call0_v16 : Ref sig .tc := ⟨.hbm, 34, rfl⟩
abbrev main_call0_cst_2 : Ref sig .tc := ⟨.hbm, 35, rfl⟩
abbrev main_call0_v17 : Ref sig .tc := ⟨.hbm, 36, rfl⟩
abbrev main_call0_v18 : Ref sig .tc := ⟨.hbm, 37, rfl⟩
abbrev main_call0_cst_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_v9_1 : Ref sig .tc := ⟨.hbm, 42, rfl⟩
abbrev main_call0_cst_4 : Ref sig .tc := ⟨.hbm, 43, rfl⟩
abbrev main_call0_cst_5 : Ref sig .tc := ⟨.hbm, 44, rfl⟩
abbrev main_call0_v23 : Ref sig .tc := ⟨.hbm, 45, rfl⟩
abbrev main_call0_cst_6 : Ref sig .tc := ⟨.hbm, 46, rfl⟩
abbrev main_call0_cst_7 : Ref sig .tc := ⟨.hbm, 47, rfl⟩
abbrev main_call0_v24 : Ref sig .tc := ⟨.hbm, 48, rfl⟩
abbrev main_call0_cst_8 : Ref sig .tc := ⟨.hbm, 49, rfl⟩
abbrev main_call0_v25 : Ref sig .tc := ⟨.hbm, 50, rfl⟩
abbrev main_call0_v26 : Ref sig .tc := ⟨.hbm, 51, rfl⟩
abbrev main_call0_cst_9 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_10 : Ref sig .tc := ⟨.hbm, 58, rfl⟩
abbrev main_call0_v32 : Ref sig .tc := ⟨.hbm, 59, rfl⟩
abbrev main_v9_2 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_call1_call0_cst : Ref sig .tc := ⟨.hbm, 68, rfl⟩
abbrev main_call1_call0_v0 : Ref sig .tc := ⟨.hbm, 69, rfl⟩
abbrev main_v17 : Ref sig .tc := ⟨.hbm, 70, rfl⟩
abbrev main_c : Ref sig .tc := ⟨.hbm, 71, rfl⟩
abbrev main_v18 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_0 : Ref sig .tc := ⟨.hbm, 79, rfl⟩
abbrev main_call2_v5 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_call3_v0 : Ref sig .tc := ⟨.hbm, 89, rfl⟩
abbrev main_v26_1 : Ref sig .tc := ⟨.hbm, 90, rfl⟩
abbrev main_call3_v2 : Ref sig .tc := ⟨.hbm, 91, rfl⟩
abbrev main_v26_0 : Ref sig .tc := ⟨.hbm, 92, rfl⟩
abbrev main_call3_cst : Ref sig .tc := ⟨.hbm, 93, rfl⟩
abbrev main_v26_2 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_0 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_1 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_cst_2 : Ref sig .tc := ⟨.hbm, 124, rfl⟩
abbrev main_v54 : Ref sig .tc := ⟨.hbm, 125, rfl⟩
abbrev main_v55 : Ref sig .tc := ⟨.hbm, 126, rfl⟩
abbrev main_cst_3 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_call4_cst : Ref sig .tc := ⟨.hbm, 135, rfl⟩
abbrev main_call4_v0 : Ref sig .tc := ⟨.hbm, 136, rfl⟩
abbrev main_v63 : Ref sig .tc := ⟨.hbm, 137, rfl⟩
abbrev main_cst_4 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_5 : Ref sig .tc := ⟨.hbm, 142, rfl⟩
abbrev main_v67 : Ref sig .tc := ⟨.hbm, 143, rfl⟩
abbrev main_v68 : Ref sig .tc := ⟨.hbm, 144, rfl⟩
abbrev main_cst_6 : Ref sig .tc := ⟨.hbm, 145, rfl⟩
abbrev main_v69 : Ref sig .tc := ⟨.hbm, 146, rfl⟩
abbrev main_cst_7 : Ref sig .tc := ⟨.hbm, 147, rfl⟩
abbrev main_v70 : Ref sig .tc := ⟨.hbm, 148, rfl⟩
abbrev main_v71 : Ref sig .tc := ⟨.hbm, 149, rfl⟩
abbrev main_call5_call0_cst : Ref sig .tc := ⟨.hbm, 150, rfl⟩
abbrev main_call5_call0_v0 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_8 : Ref sig .tc := ⟨.hbm, 159, rfl⟩
abbrev main_v79 : Ref sig .tc := ⟨.hbm, 160, rfl⟩
abbrev main_v80 : Ref sig .tc := ⟨.hbm, 161, rfl⟩
abbrev main_cst_9 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_cst_10 : Ref sig .tc := ⟨.hbm, 167, rfl⟩
abbrev main_v85 : Ref sig .tc := ⟨.hbm, 168, rfl⟩
abbrev main_v86 : Ref sig .tc := ⟨.hbm, 169, rfl⟩
abbrev main_cst_11 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩

abbrev nD : Nat := 1
abbrev τ : Topo := Topo.v7x

variable {F : FTy → Type} [FloatOps F]
-- ==== Kernel2.lean ====
abbrev S2048x1024 : Shape := ⟨2, ![2048, 1024]⟩
abbrev S2048x13440 : Shape := ⟨2, ![2048, 13440]⟩
abbrev S1024x13440 : Shape := ⟨2, ![1024, 13440]⟩
abbrev S1024x1024 : Shape := ⟨2, ![1024, 1024]⟩
abbrev S1024x1920 : Shape := ⟨2, ![1024, 1920]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x13440, .bf16⟩
  | .hbm, ⟨2, _⟩ => ⟨S1024x13440, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1920, .bf16⟩
  | .local _ .vmem, ⟨5, _⟩ => ⟨S1024x1920, .bf16⟩
  | .local _ .vmem, ⟨6, _⟩ => ⟨S1024x1920, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S2048x13440 : Shape := ⟨2, ![2048, 13440]⟩
abbrev S_ : Shape := ⟨0, ![]⟩
abbrev S1024x13440 : Shape := ⟨2, ![1024, 13440]⟩
abbrev S13440x1024 : Shape := ⟨2, ![13440, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x13440, .bf16⟩
  | .hbm, ⟨2, _⟩ => ⟨S_, .f32⟩
  | .hbm, ⟨3, _⟩ => ⟨S1024x13440, .f32⟩
  | .hbm, ⟨4, _⟩ => ⟨S2048x1024, .f32⟩
  | .hbm, ⟨5, _⟩ => ⟨S2048x13440, .f32⟩
  | .hbm, ⟨6, _⟩ => ⟨S2048x13440, .f32⟩
  | .hbm, ⟨7, _⟩ => ⟨S13440x1024, .f32⟩
  | .hbm, ⟨8, _⟩ => ⟨S1024x13440, .f32⟩
  | .hbm, ⟨9, _⟩ => ⟨S1024x13440, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x13440 : Shape := ⟨2, ![2048, 13440]⟩
abbrev S1024x13440 : Shape := ⟨2, ![1024, 13440]⟩
abbrev S2048x1024 : Shape := ⟨2, ![2048, 1024]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x13440, .bf16⟩
  | .hbm, ⟨1, _⟩ => ⟨S1024x13440, .bf16⟩
  | .hbm, ⟨2, _⟩ => ⟨S2048x1024, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x13440 : Shape := ⟨2, ![2048, 13440]⟩
abbrev S1024x13440 : Shape := ⟨2, ![1024, 13440]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x13440, .bf16⟩
  | .hbm, ⟨1, _⟩ => ⟨S1024x13440, .bf16⟩
  | .hbm, ⟨2, _⟩ => ⟨S_, .f32⟩
  | .hbm, ⟨3, _⟩ => ⟨S2048x1024, .f32⟩
  | .hbm, ⟨4, _⟩ => ⟨S1024x13440, .f32⟩
  | .hbm, ⟨5, _⟩ => ⟨S2048x13440, .f32⟩
  | .hbm, ⟨6, _⟩ => ⟨S2048x13440, .f32⟩
  | .hbm, ⟨7, _⟩ => ⟨S2048x1024, .f32⟩
  | _, _ => ⟨S2048x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x1024 : Shape := ⟨2, ![2048, 1024]⟩
abbrev S4096x1024 : Shape := ⟨2, ![4096, 1024]⟩
abbrev S2048x4096 : Shape := ⟨2, ![2048, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4096x1024, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S2048x4096 : Shape := ⟨2, ![2048, 4096]⟩
abbrev S8x1024x512 : Shape := ⟨3, ![8, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S_, .f32⟩
  | .hbm, ⟨3, _⟩ => ⟨S2048x1024, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x1024 : Shape := ⟨2, ![2048, 1024]⟩
abbrev S1024x13440 : Shape := ⟨2, ![1024, 13440]⟩
abbrev S2048x13440 : Shape := ⟨2, ![2048, 13440]⟩
abbrev S1024x1024 : Shape := ⟨2, ![1024, 1024]⟩
abbrev S1024x1920 : Shape := ⟨2, ![1024, 1920]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x13440, .bf16⟩
  | .hbm, ⟨2, _⟩ => ⟨S2048x13440, .f32⟩
  | .local _ .vmem, ⟨0, _⟩ => ⟨S1024x1024, .bf16⟩
  | .local _ .vmem, ⟨1, _⟩ => ⟨S1024x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1920, .f32⟩
  | .local _ .vmem, ⟨5, _⟩ => ⟨S1024x1920, .f32⟩
  | .local _ .vmem, ⟨6, _⟩ => ⟨S1024x1920, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x13440 : Shape := ⟨2, ![1024, 13440]⟩
abbrev S2048x13440 : Shape := ⟨2, ![2048, 13440]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x13440, .bf16⟩
  | .hbm, ⟨2, _⟩ => ⟨S2048x1024, .f32⟩
  | .hbm, ⟨3, _⟩ => ⟨S1024x13440, .f32⟩
  | .hbm, ⟨4, _⟩ => ⟨S2048x13440, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .hbm, ⟨3, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x1024 : Shape := ⟨2, ![2048, 1024]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S2048x3072 : Shape := ⟨2, ![2048, 3072]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S2048x1024 : Shape := ⟨2, ![2048, 1024]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S2048x3072 : Shape := ⟨2, ![2048, 3072]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S2048x1024 : Shape := ⟨2, ![2048, 1024]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S2048x3072 : Shape := ⟨2, ![2048, 3072]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S2048x3072 : Shape := ⟨2, ![2048, 3072]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x3072 : Shape := ⟨2, ![2048, 3072]⟩
abbrev S1024x1024 : Shape := ⟨2, ![1024, 1024]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S2048x3072 : Shape := ⟨2, ![2048, 3072]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x3072 : Shape := ⟨2, ![2048, 3072]⟩
abbrev S1024x1024 : Shape := ⟨2, ![1024, 1024]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2048x3072 : Shape := ⟨2, ![2048, 3072]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x3072 : Shape := ⟨2, ![2048, 3072]⟩
abbrev S1024x1024 : Shape := ⟨2, ![1024, 1024]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S2048x3072 : Shape := ⟨2, ![2048, 3072]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .f32⟩
  | .hbm, ⟨3, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x1024 : Shape := ⟨2, ![2048, 1024]⟩
abbrev S1024x1024 : Shape := ⟨2, ![1024, 1024]⟩
abbrev S2048x3072 : Shape := ⟨2, ![2048, 3072]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x2048, .f32⟩
  | .hbm, ⟨7, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S2048x1024 : Shape := ⟨2, ![2048, 1024]⟩
abbrev S1024x1024 : Shape := ⟨2, ![1024, 1024]⟩
abbrev S2048x3072 : Shape := ⟨2, ![2048, 3072]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .f32⟩
  | .hbm, ⟨3, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x1024 : Shape := ⟨2, ![2048, 1024]⟩
abbrev S1024x1024 : Shape := ⟨2, ![1024, 1024]⟩
abbrev S2048x3072 : Shape := ⟨2, ![2048, 3072]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S2048x1024 : Shape := ⟨2, ![2048, 1024]⟩
abbrev S1024x1024 : Shape := ⟨2, ![1024, 1024]⟩
abbrev S2048x3072 : Shape := ⟨2, ![2048, 3072]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .f32⟩
  | .hbm, ⟨3, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x1024 : Shape := ⟨2, ![2048, 1024]⟩
abbrev S1024x1024 : Shape := ⟨2, ![1024, 1024]⟩
abbrev S2048x3072 : Shape := ⟨2, ![2048, 3072]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .f32⟩
  | .hbm, ⟨3, _⟩ => ⟨S2048x2048, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S2048x3072 : Shape := ⟨2, ![2048, 3072]⟩
abbrev S2048x13440 : Shape := ⟨2, ![2048, 13440]⟩
abbrev S2048x1024 : Shape := ⟨2, ![2048, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x1024, .f32⟩
  | .hbm, ⟨3, _⟩ => ⟨S2048x13440, .bf16⟩
  | .hbm, ⟨4, _⟩ => ⟨S2048x3072, .bf16⟩
  | .hbm, ⟨5, _⟩ => ⟨S2048x13440, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S2048x3072 : Shape := ⟨2, ![2048, 3072]⟩
abbrev S2048x13440 : Shape := ⟨2, ![2048, 13440]⟩
abbrev S2048x1024 : Shape := ⟨2, ![2048, 1024]⟩
abbrev S2048x3x1024 : Shape := ⟨3, ![2048, 3, 1024]⟩
abbrev S_ : Shape := ⟨0, ![]⟩
abbrev S2048x10240 : Shape := ⟨2, ![2048, 10240]⟩
abbrev S2048x128 : Shape := ⟨2, ![2048, 128]⟩

abbrev nBuf : Space → Nat
  | .hbm => 33
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x1024, .f32⟩
  | .hbm, ⟨3, _⟩ => ⟨S2048x13440, .bf16⟩
  | .hbm, ⟨4, _⟩ => ⟨S2048x3072, .f32⟩
  | .hbm, ⟨5, _⟩ => ⟨S2048x3x1024, .f32⟩
  | .hbm, ⟨6, _⟩ => ⟨S2048x3x1024, .f32⟩
  | .hbm, ⟨7, _⟩ => ⟨S2048x3x1024, .f32⟩
  | .hbm, ⟨8, _⟩ => ⟨S_, .f32⟩
  | .hbm, ⟨9, _⟩ => ⟨S2048x3x1024, .f32⟩
  | .hbm, ⟨10, _⟩ => ⟨S2048x3x1024, .f32⟩
  | .hbm, ⟨11, _⟩ => ⟨S_, .f32⟩
  | .hbm, ⟨12, _⟩ => ⟨S2048x3x1024, .f32⟩
  | .hbm, ⟨13, _⟩ => ⟨S2048x3x1024, .f32⟩
  | .hbm, ⟨14, _⟩ => ⟨S_, .f32⟩
  | .hbm, ⟨15, _⟩ => ⟨S2048x3x1024, .f32⟩
  | .hbm, ⟨16, _⟩ => ⟨S2048x3x1024, .f32⟩
  | .hbm, ⟨17, _⟩ => ⟨S2048x3x1024, .f32⟩
  | .hbm, ⟨18, _⟩ => ⟨S2048x3x1024, .f32⟩
  | .hbm, ⟨19, _⟩ => ⟨S2048x3x1024, .f32⟩
  | .hbm, ⟨20, _⟩ => ⟨S_, .f32⟩
  | .hbm, ⟨21, _⟩ => ⟨S2048x1024, .f32⟩
  | .hbm, ⟨22, _⟩ => ⟨S2048x3x1024, .f32⟩
  | .hbm, ⟨23, _⟩ => ⟨S2048x3x1024, .f32⟩
  | .hbm, ⟨24, _⟩ => ⟨S2048x3x1024, .f32⟩
  | .hbm, ⟨25, _⟩ => ⟨S2048x3072, .f32⟩
  | .hbm, ⟨26, _⟩ => ⟨S2048x3x1024, .f32⟩
  | .hbm, ⟨27, _⟩ => ⟨S2048x3072, .f32⟩
  | .hbm, ⟨28, _⟩ => ⟨S2048x3072, .bf16⟩
  | .hbm, ⟨29, _⟩ => ⟨S2048x10240, .bf16⟩
  | .hbm, ⟨30, _⟩ => ⟨S2048x3072, .bf16⟩
  | .hbm, ⟨31, _⟩ => ⟨S2048x128, .bf16⟩
  | .hbm, ⟨32, _⟩ => ⟨S2048x13440, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel24.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel25.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel26.lean ====
abbrev S2048x3072 : Shape := ⟨2, ![2048, 3072]⟩
abbrev S2048x13440 : Shape := ⟨2, ![2048, 13440]⟩
abbrev S2048x1024 : Shape := ⟨2, ![2048, 1024]⟩
abbrev S512x1024 : Shape := ⟨2, ![512, 1024]⟩

abbrev nBuf : Space → Nat
  | .hbm => 3
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x3072 : Shape := ⟨2, ![2048, 3072]⟩
abbrev S2048x13440 : Shape := ⟨2, ![2048, 13440]⟩
abbrev S2048x3x1024 : Shape := ⟨3, ![2048, 3, 1024]⟩
abbrev S_ : Shape := ⟨0, ![]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x3072, .f32⟩
  | .hbm, ⟨3, _⟩ => ⟨S2048x3x1024, .f32⟩
  | .hbm, ⟨4, _⟩ => ⟨S2048x3x1024, .f32⟩
  | .hbm, ⟨5, _⟩ => ⟨S2048x3x1024, .f32⟩
  | .hbm, ⟨6, _⟩ => ⟨S_, .f32⟩
  | .hbm, ⟨7, _⟩ => ⟨S2048x3x1024, .f32⟩
  | .hbm, ⟨8, _⟩ => ⟨S2048x3x1024, .f32⟩
  | .hbm, ⟨9, _⟩ => ⟨S_, .f32⟩
  | .hbm, ⟨10, _⟩ => ⟨S2048x3x1024, .f32⟩
  | .hbm, ⟨11, _⟩ => ⟨S2048x3x1024, .f32⟩
  | .hbm, ⟨12, _⟩ => ⟨S2048x3x1024, .f32⟩
  | .hbm, ⟨13, _⟩ => ⟨S2048x3x1024, .f32⟩
  | .hbm, ⟨14, _⟩ => ⟨S_, .f32⟩
  | .hbm, ⟨15, _⟩ => ⟨S2048x1024, .f32⟩
  | .hbm, ⟨16, _⟩ => ⟨S2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel27.lean ====
abbrev S2048x1024 : Shape := ⟨2, ![2048, 1024]⟩
abbrev S2048x2048 : Shape := ⟨2, ![2048, 2048]⟩
abbrev S2048x13440 : Shape := ⟨2, ![2048, 13440]⟩
abbrev S16 : Shape := ⟨1, ![16]⟩
abbrev S1024 : Shape := ⟨1, ![1024]⟩
abbrev S16x64 : Shape := ⟨2, ![16, 64]⟩
abbrev S1x1024 : Shape := ⟨2, ![1, 1024]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x13440, .f32⟩
  | .hbm, ⟨3, _⟩ => ⟨S16, .f32⟩
  | .hbm, ⟨4, _⟩ => ⟨S1024, .f32⟩
  | .hbm, ⟨5, _⟩ => ⟨S16x64, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference27Ideal.lean ====
abbrev S2048x1024 : Shape := ⟨2, ![2048, 1024]⟩
abbrev S2048x2048 : Shape := ⟨2, ![2048, 2048]⟩
abbrev S2048x13440 : Shape := ⟨2, ![2048, 13440]⟩
abbrev S16 : Shape := ⟨1, ![16]⟩
abbrev S1024 : Shape := ⟨1, ![1024]⟩
abbrev S2048x16x64 : Shape := ⟨3, ![2048, 16, 64]⟩
abbrev S16x1 : Shape := ⟨2, ![16, 1]⟩
abbrev S1x16x1 : Shape := ⟨3, ![1, 16, 1]⟩
abbrev S_ : Shape := ⟨0, ![]⟩
abbrev S2048x4x256 : Shape := ⟨3, ![2048, 4, 256]⟩
abbrev S2048x4 : Shape := ⟨2, ![2048, 4]⟩
abbrev S2048x4x1 : Shape := ⟨3, ![2048, 4, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x13440, .f32⟩
  | .hbm, ⟨3, _⟩ => ⟨S16, .f32⟩
  | .hbm, ⟨4, _⟩ => ⟨S1024, .f32⟩
  | .hbm, ⟨5, _⟩ => ⟨S2048x1024, .f32⟩
  | .hbm, ⟨6, _⟩ => ⟨S2048x16x64, .f32⟩
  | .hbm, ⟨7, _⟩ => ⟨S2048x16x64, .f32⟩
  | .hbm, ⟨8, _⟩ => ⟨S16x1, .f32⟩
  | .hbm, ⟨9, _⟩ => ⟨S1x16x1, .f32⟩
  | .hbm, ⟨10, _⟩ => ⟨S2048x16x64, .f32⟩
  | .hbm, ⟨11, _⟩ => ⟨S2048x16x64, .f32⟩
  | .hbm, ⟨12, _⟩ => ⟨S2048x16x64, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x4x256, .f32⟩
  | .hbm, ⟨26, _⟩ => ⟨S2048x4x256, .f32⟩
  | .hbm, ⟨27, _⟩ => ⟨S_, .f32⟩
  | .hbm, ⟨28, _⟩ => ⟨S2048x4, .f32⟩
  | .hbm, ⟨29, _⟩ => ⟨S2048x4x1, .f32⟩
  | .hbm, ⟨30, _⟩ => ⟨S_, .f32⟩
  | .hbm, ⟨31, _⟩ => ⟨S2048x4x1, .f32⟩
  | .hbm, ⟨32, _⟩ => ⟨S2048x4x1, .f32⟩
  | .hbm, ⟨33, _⟩ => ⟨S_, .f32⟩
  | .hbm, ⟨34, _⟩ => ⟨S2048x4x1, .f32⟩
  | .hbm, ⟨35, _⟩ => ⟨S2048x4x1, .f32⟩
  | .hbm, ⟨36, _⟩ => ⟨S2048x4x1, .f32⟩
  | .hbm, ⟨37, _⟩ => ⟨S2048x4x256, .f32⟩
  | .hbm, ⟨38, _⟩ => ⟨S2048x4x256, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel28.lean ====
abbrev S2048x1024 : Shape := ⟨2, ![2048, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x1, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference28Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel29.lean ====
abbrev S2048x1024 : Shape := ⟨2, ![2048, 1024]⟩
abbrev S2048x13440 : Shape := ⟨2, ![2048, 13440]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x13440, .f32⟩
  | .hbm, ⟨2, _⟩ => ⟨S128, .f32⟩
  | .hbm, ⟨3, _⟩ => ⟨S1x128, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference29Ideal.lean ====
abbrev S2048x1024 : Shape := ⟨2, ![2048, 1024]⟩
abbrev S2048x13440 : Shape := ⟨2, ![2048, 13440]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x13440, .f32⟩
  | .hbm, ⟨2, _⟩ => ⟨S128, .f32⟩
  | .hbm, ⟨3, _⟩ => ⟨S2048x1024, .f32⟩
  | .hbm, ⟨4, _⟩ => ⟨S2048x8x128, .f32⟩
  | .hbm, ⟨5, _⟩ => ⟨S2048x8x128, .f32⟩
  | .hbm, ⟨6, _⟩ => ⟨S2048x8x128, .f32⟩
  | .hbm, ⟨7, _⟩ => ⟨S_, .f32⟩
  | .hbm, ⟨8, _⟩ => ⟨S2048x8, .f32⟩
  | .hbm, ⟨9, _⟩ => ⟨S2048x8x1, .f32⟩
  | .hbm, ⟨10, _⟩ => ⟨S_, .f32⟩
  | .hbm, ⟨11, _⟩ => ⟨S2048x8x1, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x128, .f32⟩
  | .hbm, ⟨18, _⟩ => ⟨S2048x8x128, .f32⟩
  | .hbm, ⟨19, _⟩ => ⟨S1x1x128, .f32⟩
  | .hbm, ⟨20, _⟩ => ⟨S2048x8x128, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S_, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8x128, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel30.lean ====
abbrev S144x128 : Shape := ⟨2, ![144, 128]⟩

abbrev nBuf : Space → Nat
  | .hbm => 7
  | .vmem => 7
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S144x128, .f32⟩
  | .hbm, ⟨5, _⟩ => ⟨S144x128, .f32⟩
  | .hbm, ⟨6, _⟩ => ⟨S144x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S144x128 : Shape := ⟨2, ![144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S_, .f32⟩
  | .hbm, ⟨5, _⟩ => ⟨S144x128, .f32⟩
  | .hbm, ⟨6, _⟩ => ⟨S144x128, .f32⟩
  | .hbm, ⟨7, _⟩ => ⟨S_, .f32⟩
  | .hbm, ⟨8, _⟩ => ⟨S144x128, .f32⟩
  | .hbm, ⟨9, _⟩ => ⟨S144x128, .f32⟩
  | .hbm, ⟨10, _⟩ => ⟨S144x128, .f32⟩
  | .hbm, ⟨11, _⟩ => ⟨S_, .f32⟩
  | .hbm, ⟨12, _⟩ => ⟨S144x128, .f32⟩
  | .hbm, ⟨13, _⟩ => ⟨S144x128, .f32⟩
  | .hbm, ⟨14, _⟩ => ⟨S144x128, .f32⟩
  | .hbm, ⟨15, _⟩ => ⟨S_, .f32⟩
  | .hbm, ⟨16, _⟩ => ⟨S144x128, .f32⟩
  | .hbm, ⟨17, _⟩ => ⟨S144x128, .f32⟩
  | .hbm, ⟨18, _⟩ => ⟨S144x128, .f32⟩
  | .hbm, ⟨19, _⟩ => ⟨S_, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S144x128, .f32⟩
  | .hbm, ⟨26, _⟩ => ⟨S_, .f32⟩
  | .hbm, ⟨27, _⟩ => ⟨S144x128, .f32⟩
  | .hbm, ⟨28, _⟩ => ⟨S144x128, .f32⟩
  | .hbm, ⟨29, _⟩ => ⟨S144x128, .f32⟩
  | .hbm, ⟨30, _⟩ => ⟨S_, .f32⟩
  | .hbm, ⟨31, _⟩ => ⟨S144x128, .f32⟩
  | .hbm, ⟨32, _⟩ => ⟨S144x128, .f32⟩
  | .hbm, ⟨33, _⟩ => ⟨S144x128, .f32⟩
  | .hbm, ⟨34, _⟩ => ⟨S_, .f32⟩
  | .hbm, ⟨35, _⟩ => ⟨S144x128, .f32⟩
  | .hbm, ⟨36, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S8x1024x1668 : Shape := ⟨3, ![8, 1024, 1668]⟩
abbrev S2x1024x1668 : Shape := ⟨3, ![2, 1024, 1668]⟩
abbrev S8x1x1024x1668 : Shape := ⟨4, ![8, 1, 1024, 1668]⟩
abbrev S8x1x256x1668 : Shape := ⟨4, ![8, 1, 256, 1668]⟩
abbrev S1x256x1668 : Shape := ⟨3, ![1, 256, 1668]⟩
abbrev S1x1x256x1668 : Shape := ⟨4, ![1, 1, 256, 1668]⟩
abbrev S256x1668 : Shape := ⟨2, ![256, 1668]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x1668, .bf16⟩
  | .hbm, ⟨1, _⟩ => ⟨S2x1024x1668, .f32⟩
  | .hbm, ⟨2, _⟩ => ⟨S2x1024x1668, .f32⟩
  | .hbm, ⟨3, _⟩ => ⟨S2x1024x1668, .f32⟩
  | .hbm, ⟨4, _⟩ => ⟨S2x1024x1668, .f32⟩
  | .hbm, ⟨5, _⟩ => ⟨S2x1024x1668, .f32⟩
  | .hbm, ⟨6, _⟩ => ⟨S2x1024x1668, .f32⟩
  | .hbm, ⟨7, _⟩ => ⟨S2x1024x1668, .f32⟩
  | .hbm, ⟨8, _⟩ => ⟨S8x1x1024x1668, .bf16⟩
  | .hbm, ⟨9, _⟩ => ⟨S2x1024x1668, .f32⟩
  | .hbm, ⟨10, _⟩ => ⟨S2x1024x1668, .f32⟩
  | .hbm, ⟨11, _⟩ => ⟨S2x1024x1668, .f32⟩
  | .hbm, ⟨12, _⟩ => ⟨S2x1024x1668, .f32⟩
  | .local _ .vmem, ⟨0, _⟩ => ⟨S8x1x256x1668, .bf16⟩
  | .local _ .vmem, ⟨1, _⟩ => ⟨S8x1x256x1668, .bf16⟩
  | .local _ .vmem, ⟨2, _⟩ => ⟨S1x256x1668, .f32⟩
  | .local _ .vmem, ⟨3, _⟩ => ⟨S1x256x1668, .f32⟩
  | .local _ .vmem, ⟨4, _⟩ => ⟨S1x256x1668, .f32⟩
  | .local _ .vmem, ⟨5, _⟩ => ⟨S1x256x1668, .f32⟩
  | .local _ .vmem, ⟨6, _⟩ => ⟨S1x256x1668, .f32⟩
  | .local _ .vmem, ⟨7, _⟩ => ⟨S1x256x1668, .f32⟩
  | .local _ .vmem, ⟨8, _⟩ => ⟨S1x256x1668, .f32⟩
  | .local _ .vmem, ⟨9, _⟩ => ⟨S1x256x1668, .f32⟩
  | .local _ .vmem, ⟨10, _⟩ => ⟨S1x256x1668, .f32⟩
  | .local _ .vmem, ⟨11, _⟩ => ⟨S1x256x1668, .f32⟩
  | .local _ .vmem, ⟨12, _⟩ => ⟨S1x256x1668, .f32⟩
  | .local _ .vmem, ⟨13, _⟩ => ⟨S1x256x1668, .f32⟩
  | .local _ .vmem, ⟨14, _⟩ => ⟨S1x256x1668, .f32⟩
  | .local _ .vmem, ⟨15, _⟩ => ⟨S1x256x1668, .f32⟩
  | _, _ => ⟨S8x1024x1668, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, arg0.toNat, v16.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

abbrev stage0_0 : Fin 2 → Memref sig .tc .vmem S8x1x256x1668 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1668 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference31Ideal.lean ====
abbrev S8x1024x1668 : Shape := ⟨3, ![8, 1024, 1668]⟩
abbrev S2x1024x1668 : Shape := ⟨3, ![2, 1024, 1668]⟩
abbrev S_ : Shape := ⟨0, ![]⟩
abbrev S1024x1668 : Shape := ⟨2, ![1024, 1668]⟩
abbrev S1x1024x1668 : Shape := ⟨3, ![1, 1024, 1668]⟩

abbrev nBuf : Space → Nat
  | .hbm => 70
  | .vmem => 0
  | .smem => 0
  | _ => 0

abbrev bufTy : (tb : Table) → Fin (tcTables nBuf tb) → BufTy
  | .hbm, ⟨0, _⟩ => ⟨S8x1024x1668, .bf16⟩
  | .hbm, ⟨1, _⟩ => ⟨S2x1024x1668, .f32⟩
  | .hbm, ⟨2, _⟩ => ⟨S2x1024x1668, .f32⟩
  | .hbm, ⟨3, _⟩ => ⟨S2x1024x1668, .f32⟩
  | .hbm, ⟨4, _⟩ => ⟨S2x1024x1668, .f32⟩
  | .hbm, ⟨5, _⟩ => ⟨S2x1024x1668, .f32⟩
  | .hbm, ⟨6, _⟩ => ⟨S2x1024x1668, .f32⟩
  | .hbm, ⟨7, _⟩ => ⟨S2x1024x1668, .f32⟩
  | .hbm, ⟨8, _⟩ => ⟨S8x1024x1668, .f32⟩
  | .hbm, ⟨9, _⟩ => ⟨S_, .f32⟩
  | .hbm, ⟨10, _⟩ => ⟨S1024x1668, .f32⟩
  | .hbm, ⟨11, _⟩ => ⟨S1x1024x1668, .f32⟩
  | .hbm, ⟨12, _⟩ => ⟨S1024x1668, .f32⟩
  | .hbm, ⟨13, _⟩ => ⟨S1x1024x1668, .f32⟩
  | .hbm, ⟨14, _⟩ => ⟨S1024x1668, .f32⟩
  | .hbm, ⟨15, _⟩ => ⟨S1x1024x1668, .f32⟩
  | .hbm, ⟨16, _⟩ => ⟨S1024x1668, .f32⟩
  | .hbm, ⟨17, _⟩ => ⟨S_, .f32⟩
  | .hbm, ⟨18, _⟩ => ⟨S1024x1668, .f32⟩
  | .hbm, ⟨19, _⟩ => ⟨S1024x1668, .f32⟩
  | .hbm, ⟨20, _⟩ => ⟨S_, .f32⟩
  | .hbm, ⟨21, _⟩ => ⟨S1024x1668, .f32⟩
  | .hbm, ⟨22, _⟩ => ⟨S1024x1668, .f32⟩
  | .hbm, ⟨23, _⟩ => ⟨S1024x1668, .f32⟩
  | .hbm, ⟨24, _⟩ => ⟨S_, .f32⟩
  | .hbm, ⟨25, _⟩ => ⟨S1024x1668, .f32⟩
  | .hbm, ⟨26, _⟩ => ⟨S1024x1668, .f32⟩
  | .hbm, ⟨27, _⟩ => ⟨S1024x1668, .f32⟩
  | .hbm, ⟨28, _⟩ => ⟨S_, .f32⟩
  | .hbm, ⟨29, _⟩ => ⟨S1024x1668, .f32⟩
  | .hbm, ⟨30, _⟩ => ⟨S1024x1668, .f32⟩
  | .hbm, ⟨31, _⟩ => ⟨S1024x1668, .f32⟩
  | .hbm, ⟨32, _⟩ => ⟨S_, .f32⟩
  | .hbm, ⟨33, _⟩ => ⟨S1024x1668, .f32⟩
  | .hbm, ⟨34, _⟩ => ⟨S1024x1668, .f32⟩
  | .hbm, ⟨35, _⟩ => ⟨S_, .f32⟩
  | .hbm, ⟨36, _⟩ => ⟨S1024x1668, .f32⟩
  | .hbm, ⟨37, _⟩ => ⟨S1024x1668, .f32⟩
  | .hbm, ⟨38, _⟩ => ⟨S1024x1668, .f32⟩
  | .hbm, ⟨39, _⟩ => ⟨S_, .f32⟩
  | .hbm, ⟨40, _⟩ => ⟨S1024x1668, .f32⟩
  | .hbm, ⟨41, _⟩ => ⟨S1024x1668, .f32⟩
  | .hbm, ⟨42, _⟩ => ⟨S1024x1668, .f32⟩
  | .hbm, ⟨43, _⟩ => ⟨S_, .f32⟩
  | .hbm, ⟨44, _⟩ => ⟨S1024x1668, .f32⟩
  | .hbm, ⟨45, _⟩ => ⟨S1024x1668, .f32⟩
  | .hbm, ⟨46, _⟩ => ⟨S1024x1668, .f32⟩
  | .hbm, ⟨47, _⟩ => ⟨S_, .f32⟩
  | .hbm, ⟨48, _⟩ => ⟨S1024x1668, .f32⟩
  | .hbm, ⟨49, _⟩ => ⟨S1024x1668, .f32⟩
  | .hbm, ⟨50, _⟩ => ⟨S1x1024x1668, .f32⟩
  | .hbm, ⟨51, _⟩ => ⟨S1024x1668, .f32⟩
  | .hbm, ⟨52, _⟩ => ⟨S1x1024x1668, .f32⟩
  | .hbm, ⟨53, _⟩ => ⟨S1x1024x1668, .f32⟩
  | .hbm, ⟨54, _⟩ => ⟨S2x1024x1668, .f32⟩
  | .hbm, ⟨55, _⟩ => ⟨S1x1024x1668, .f32⟩
  | .hbm, ⟨56, _⟩ => ⟨S1024x1668, .f32⟩
  | .hbm, ⟨57, _⟩ => ⟨S1x1024x1668, .f32⟩
  | .hbm, ⟨58, _⟩ => ⟨S1x1024x1668, .f32⟩
  | .hbm, ⟨59, _⟩ => ⟨S2x1024x1668, .f32⟩
  | .hbm, ⟨60, _⟩ => ⟨S1x1024x1668, .f32⟩
  | .hbm, ⟨61, _⟩ => ⟨S1024x1668, .f32⟩
  | .hbm, ⟨62, _⟩ => ⟨S1x1024x1668, .f32⟩
  | .hbm, ⟨63, _⟩ => ⟨S1x1024x1668, .f32⟩
  | .hbm, ⟨64, _⟩ => ⟨S2x1024x1668, .f32⟩
  | .hbm, ⟨65, _⟩ => ⟨S1x1024x1668, .f32⟩
  | .hbm, ⟨66, _⟩ => ⟨S1024x1668, .f32⟩
  | .hbm, ⟨67, _⟩ => ⟨S1x1024x1668, .f32⟩
  | .hbm, ⟨68, _⟩ => ⟨S1x1024x1668, .f32⟩
  | .hbm, ⟨69, _⟩ => ⟨S2x1024x1668, .f32⟩
  | _, _ => ⟨S8x1024x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel32.lean ====
abbrev S2048x13440 : Shape := ⟨2, ![2048, 13440]⟩
abbrev S4x3072 : Shape := ⟨2, ![4, 3072]⟩
abbrev S_ : Shape := ⟨0, ![]⟩
abbrev S1x3072 : Shape := ⟨2, ![1, 3072]⟩
abbrev S2048x3072 : Shape := ⟨2, ![2048, 3072]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x13440, .f32⟩
  | .hbm, ⟨1, _⟩ => ⟨S4x3072, .f32⟩
  | .hbm, ⟨2, _⟩ => ⟨S_, .f32⟩
  | .hbm, ⟨3, _⟩ => ⟨S1x3072, .f32⟩
  | .hbm, ⟨4, _⟩ => ⟨S2048x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2048x13440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S2048x13440 : Shape := ⟨2, ![2048, 13440]⟩
abbrev S4x3072 : Shape := ⟨2, ![4, 3072]⟩
abbrev S2048x3072 : Shape := ⟨2, ![2048, 3072]⟩
abbrev S_ : Shape := ⟨0, ![]⟩
abbrev S2051x3072 : Shape := ⟨2, ![2051, 3072]⟩
abbrev S1x3072 : Shape := ⟨2, ![1, 3072]⟩
abbrev S3072 : Shape := ⟨1, ![3072]⟩
abbrev S2048x3x8x128 : Shape := ⟨4, ![2048, 3, 8, 128]⟩
abbrev S2048x2x8x128 : Shape := ⟨4, ![2048, 2, 8, 128]⟩
abbrev S2048x2x8 : Shape := ⟨3, ![2048, 2, 8]⟩
abbrev S2048x2x8x1 : Shape := ⟨4, ![2048, 2, 8, 1]⟩
abbrev S2048x1x8x128 : Shape := ⟨4, ![2048, 1, 8, 128]⟩

abbrev nBuf : Space → Nat
  | .hbm => 60
  | .vmem => 0
  | .smem => 0
  | _ => 0

abbrev bufTy : (tb : Table) → Fin (tcTables nBuf tb) → BufTy
  | .hbm, ⟨0, _⟩ => ⟨S2048x13440, .f32⟩
  | .hbm, ⟨1, _⟩ => ⟨S4x3072, .f32⟩
  | .hbm, ⟨2, _⟩ => ⟨S2048x3072, .f32⟩
  | .hbm, ⟨3, _⟩ => ⟨S_, .i32⟩
  | .hbm, ⟨4, _⟩ => ⟨S_, .f32⟩
  | .hbm, ⟨5, _⟩ => ⟨S2051x3072, .f32⟩
  | .hbm, ⟨6, _⟩ => ⟨S2048x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S2048x3x8x128, .f32⟩
  | .hbm, ⟨46, _⟩ => ⟨S2048x2x8x128, .f32⟩
  | .hbm, ⟨47, _⟩ => ⟨S2048x2x8x128, .f32⟩
  | .hbm, ⟨48, _⟩ => ⟨S_, .f32⟩
  | .hbm, ⟨49, _⟩ => ⟨S2048x2x8, .f32⟩
  | .hbm, ⟨50, _⟩ => ⟨S2048x2x8x1, .f32⟩
  | .hbm, ⟨51, _⟩ => ⟨S_, .f32⟩
  | .hbm, ⟨52, _⟩ => ⟨S2048x2x8x1, .f32⟩
  | .hbm, ⟨53, _⟩ => ⟨S2048x2x8x1, .f32⟩
  | .hbm, ⟨54, _⟩ => ⟨S2048x2x8x1, .f32⟩
  | .hbm, ⟨55, _⟩ => ⟨S2048x2x8x128, .f32⟩
  | .hbm, ⟨56, _⟩ => ⟨S2048x2x8x128, .f32⟩
  | .hbm, ⟨57, _⟩ => ⟨S2048x1x8x128, .f32⟩
  | .hbm, ⟨58, _⟩ => ⟨S2048x3x8x128, .f32⟩
  | .hbm, ⟨59, _⟩ => ⟨S2048x3072, .f32⟩
  | _, _ => ⟨S2048x13440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel33.lean ====
abbrev S2048x13440 : Shape := ⟨2, ![2048, 13440]⟩
abbrev S4x2048 : Shape := ⟨2, ![4, 2048]⟩
abbrev S2048 : Shape := ⟨1, ![2048]⟩
abbrev S1x2048 : Shape := ⟨2, ![1, 2048]⟩
abbrev S2048x2048 : Shape := ⟨2, ![2048, 2048]⟩
abbrev S2048x128 : Shape := ⟨2, ![2048, 128]⟩
abbrev S4x128 : Shape := ⟨2, ![4, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S2048x13440, .f32⟩
  | .hbm, ⟨1, _⟩ => ⟨S4x2048, .f32⟩
  | .hbm, ⟨2, _⟩ => ⟨S2048, .f32⟩
  | .hbm, ⟨3, _⟩ => ⟨S1x2048, .f32⟩
  | .hbm, ⟨4, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2048x13440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S2048x13440 : Shape := ⟨2, ![2048, 13440]⟩
abbrev S4x2048 : Shape := ⟨2, ![4, 2048]⟩
abbrev S2048 : Shape := ⟨1, ![2048]⟩
abbrev S2048x2048 : Shape := ⟨2, ![2048, 2048]⟩
abbrev S_ : Shape := ⟨0, ![]⟩
abbrev S2051x2048 : Shape := ⟨2, ![2051, 2048]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x13440, .f32⟩
  | .hbm, ⟨1, _⟩ => ⟨S4x2048, .f32⟩
  | .hbm, ⟨2, _⟩ => ⟨S2048, .f32⟩
  | .hbm, ⟨3, _⟩ => ⟨S2048x2048, .f32⟩
  | .hbm, ⟨4, _⟩ => ⟨S_, .i32⟩
  | .hbm, ⟨5, _⟩ => ⟨S_, .f32⟩
  | .hbm, ⟨6, _⟩ => ⟨S2051x2048, .f32⟩
  | .hbm, ⟨7, _⟩ => ⟨S2048x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S1x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | _, _ => ⟨S2048x13440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Head.lean ====
/-
  One head of one chunk: the vector operations the kernel performs for it, named one by one, and what each of them
  holds at an index when the values it reads are real numbers. The four heads of a block run the same operations, so
  every lemma here is used four times.

  A chunk has 64 positions (`i`, `j`), a head 64 channels (`p`), and a state 128 entries per channel (`k`).
-/
module

public import proofs.«01_k».proof.Proof.Gen.KernelIdeal.Skeleton
public import Idealize.ShloMosaic.Lib.Pointwise
public import Idealize.ShloMosaic.PureOps.Ideal

@[expose] public section

noncomputable section

namespace Cert.KernelIdeal.Head

open Idealize.ShloMosaic Cert.KernelIdeal.Gen

variable [KernelIdeal.Facts]

/-- A vector of extended reals. -/
abbrev V (s : Shape) : Type := FVec Ideal s .f32

/-- Row number and column number of a 64 by 64 square. -/
abbrev rows : IVec S64x64 32 := iota .tc S64x64 32 [0] iota_S64x64_d0_w32
abbrev cols : IVec S64x64 32 := iota .tc S64x64 32 [1] iota_S64x64_d1_w32
/-- Where the row is not before the column, where the two agree, where the column is not before the row. -/
def lower : IVec S64x64 1 := cmpi .sge rows cols
def diag : IVec S64x64 1 := cmpi .eq rows cols
def upper : IVec S64x64 1 := cmpi .sge cols rows

/-- The zero square, row and column the masks fall back to. -/
abbrev zz (s : Shape) : V s := broadcast s (Scalar.ofBits .f32 0x00000000#32)

/-- A row summed against a mask along its columns: entry `i` is `Σ_j [mask i j] v j`. -/
def overRow (mk : IVec S64x64 1) (v : V S1x64) : V S64x1 :=
  shapeCast S64x1 (multiReduction .add [1] S64
    (select mk (broadcastTo S64x64 (shapeCast S1x64 v shapeCasts_S1x64_S1x64) broadcasts_S1x64_S64x64) (zz S64x64))
    0x00000000#32 reduces_S64x64_S64 (.inl rfl) rfl) shapeCasts_S64_S64x1

/-- A column summed against a mask along its rows: entry `j` is `Σ_i [mask i j] v i`. -/
def overCol (mk : IVec S64x64 1) (v : V S64x1) : V S1x64 :=
  shapeCast S1x64 (multiReduction .add [0] S64
    (select mk (broadcastTo S64x64 (shapeCast S64x1 v shapeCasts_S64x1_S64x1) broadcasts_S64x1_S64x64) (zz S64x64))
    0x00000000#32 reduces_S64x64_S64_2 (.inl rfl) rfl) shapeCasts_S64_S1x64

/-- The sum of each row of a square, as a column; of each column, as a row. -/
def rowSum (m : V S64x64) : V S64x1 :=
  shapeCast S64x1 (multiReduction .add [1] S64 m 0x00000000#32 reduces_S64x64_S64 (.inl rfl) rfl) shapeCasts_S64_S64x1
def colSum (m : V S64x64) : V S1x64 :=
  shapeCast S1x64 (multiReduction .add [0] S64 m 0x00000000#32 reduces_S64x64_S64_2 (.inl rfl) rfl) shapeCasts_S64_S1x64

def lane (v : V S1x64) : V S1x1 :=
  shapeCast S1x1 (multiReduction .add [1] S1 v 0x00000000#32 reduces_S1x64_S1 (.inl rfl) rfl) shapeCasts_S1_S1x1

/-- Comparing two positions as 32-bit words compares the positions. -/
theorem word_le (i j : Fin 64) : IntOp.cmpi .sge (BitVec.ofNat 32 i.val) (BitVec.ofNat 32 j.val) = BitVec.ofBool (decide (j ≤ i)) := by
  revert i j; decide
theorem word_eq (i j : Fin 64) : IntOp.cmpi .eq (BitVec.ofNat 32 i.val) (BitVec.ofNat 32 j.val) = BitVec.ofBool (decide (i = j)) := by
  revert i j; decide

theorem select_bool {α : Type} (p : Prop) [Decidable p] (a b : α) :
    Scalar.select (BitVec.ofBool (decide p)) a b = if p then a else b := by
  by_cases h : p <;> simp [Scalar.select, h]

theorem lower_apply (i j : Fin 64) : lower (ix2 i j) = BitVec.ofBool (decide (j ≤ i)) := by
  pointwise [lower, rows, cols]; exact word_le i j
theorem diag_apply (i j : Fin 64) : diag (ix2 i j) = BitVec.ofBool (decide (i = j)) := by
  pointwise [diag, rows, cols]; exact word_eq i j
theorem upper_apply (i j : Fin 64) : upper (ix2 i j) = BitVec.ofBool (decide (i ≤ j)) := by
  pointwise [upper, rows, cols]; exact word_le j i

/-- A sum of real numbers, each taken where a condition holds, is the same sum of extended reals. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ
theorem coe_ite (p : Prop) [Decidable p] (a b : ℝ) : (((if p then a else b : ℝ)) : EReal) = if p then (a : EReal) else b := by
  split <;> rfl

theorem overRow_apply (mk : IVec S64x64 1) (v : V S1x64) (i : Fin 64) :
    overRow mk v (ix2 i 0) = ∑ j : Fin 64, Scalar.select (mk (ix2 i j)) (v (ix2 0 j)) 0 := by
  pointwise [overRow, zz]
theorem overCol_apply (mk : IVec S64x64 1) (v : V S64x1) (i : Fin 64) :
    overCol mk v (ix2 0 i) = ∑ j : Fin 64, Scalar.select (mk (ix2 j i)) (v (ix2 j 0)) 0 := by
  pointwise [overCol, zz]
theorem rowSum_apply (m : V S64x64) (i : Fin 64) : rowSum m (ix2 i 0) = ∑ j : Fin 64, m (ix2 i j) := by
  pointwise [rowSum]
theorem colSum_apply (m : V S64x64) (i : Fin 64) : colSum m (ix2 0 i) = ∑ j : Fin 64, m (ix2 j i) := by
  pointwise [colSum]
theorem lane_apply (m : V S1x64) : lane m (ix2 0 0) = ∑ j : Fin 64, m (ix2 0 j) := by
  pointwise [lane]

/-! ## The numbers -/

/-- `log (1 + e ^ z)`, as the kernel writes it, and its slope. -/
def softplus (z : ℝ) : ℝ := max z 0 + Real.log (1 + Real.exp (0 - |z|))
def slope (z : ℝ) : ℝ := Real.exp (z - softplus z)

/-- What one head of one chunk reads, as real numbers. -/
structure Nums where
  x : Fin 64 → Fin 64 → ℝ
  b : Fin 64 → Fin 128 → ℝ
  c : Fin 64 → Fin 128 → ℝ
  dt : Fin 64 → ℝ
  al : ℝ
  db : ℝ
  h : Fin 64 → Fin 128 → ℝ
  dh : Fin 64 → Fin 128 → ℝ
  dy : Fin 64 → Fin 64 → ℝ
  dxe : Fin 64 → Fin 64 → ℝ

namespace Nums
variable (r : Nums)
/-- The step's size before and after its softplus, the log of the decay, its running sum and its total. -/
def z (j : Fin 64) : ℝ := r.dt j + r.db
def sp (j : Fin 64) : ℝ := softplus (r.z j)
def a (j : Fin 64) : ℝ := (0 - Real.exp r.al) * r.sp j
def ac (i : Fin 64) : ℝ := ∑ j, if j ≤ i then r.a j else 0
def tot : ℝ := ∑ j, r.a j
def decay (i j : Fin 64) : ℝ := if j ≤ i then Real.exp (r.ac i - r.ac j) else 0
def score (i j : Fin 64) : ℝ := ∑ k, r.c i k * r.b j k
def xd (i p : Fin 64) : ℝ := r.x i p * r.sp i
def out (i : Fin 64) : ℝ := Real.exp (r.tot - r.ac i)
def bdh (i p : Fin 64) : ℝ := ∑ k, r.b i k * r.dh p k
def v (i : Fin 64) : ℝ := (∑ p, r.xd i p * r.bdh i p) * r.out i
def dtot : ℝ := (∑ i, r.v i) + (∑ p, ∑ k, r.h p k * r.dh p k) * Real.exp r.tot
def dstate (p : Fin 64) (k : Fin 128) : ℝ := r.dh p k * Real.exp r.tot + ∑ i, (r.dy i p * Real.exp (r.ac i)) * r.c i k
def dxd (j p : Fin 64) : ℝ := r.bdh j p * r.out j + ∑ i, (r.score i j * r.decay i j) * r.dy i p
def dx (j p : Fin 64) : ℝ := r.dxd j p * r.sp j + r.dxe j p
def ch (i p : Fin 64) : ℝ := ∑ k, r.c i k * r.h p k
def dyx (i j : Fin 64) : ℝ := ∑ p, r.dy i p * r.xd j p
def dseg (i j : Fin 64) : ℝ := if j ≤ i then (r.score i j * r.dyx i j) * r.decay i j else 0
def u (i : Fin 64) : ℝ := ((0 - r.v i) + (∑ p, r.ch i p * r.dy i p) * Real.exp (r.ac i)) + ∑ j, r.dseg i j
def w (j : Fin 64) : ℝ := ∑ i, (0 - r.dseg i j)
def da (j : Fin 64) : ℝ := (r.dtot + ∑ i, if j ≤ i then r.u i else 0) + ∑ i, if j ≤ i then r.w i else 0
def dsp (j : Fin 64) : ℝ := (∑ p, r.x j p * r.dxd j p) + (0 - Real.exp r.al) * r.da j
def dz (j : Fin 64) : ℝ := r.dsp j * slope (r.z j)
def dal : ℝ := (0 - ∑ j, r.da j * r.sp j) * Real.exp r.al
def ddb : ℝ := ∑ j, r.dz j
def dsc (i j : Fin 64) : ℝ := r.dyx i j * r.decay i j
/-- The head's part of the gradients of `B` and `C` that passes through the states. -/
def dbh (i : Fin 64) (k : Fin 128) : ℝ := ∑ p, (r.xd i p * r.out i) * r.dh p k
def dch (i : Fin 64) (k : Fin 128) : ℝ := ∑ p, (r.dy i p * Real.exp (r.ac i)) * r.h p k
end Nums

/-! ## The vectors -/

/-- What one head of one chunk reads. -/
structure Vecs where
  x : V S64x64
  b : V S64x128
  c : V S64x128
  dt : V S1x64
  al : V S1x1
  db : V S1x1
  h : V S64x128
  dh : V S64x128
  dy : V S64x64
  dxe : V S64x64

abbrev lo {s : Shape} (v : V s) : FVec Ideal s .bf16 := truncf .bf16 v bitsLt_bf16_f32

namespace Vecs
variable (e : Vecs)
def z : V S1x64 := addf e.dt (broadcastTo S1x64 e.db broadcasts_S1x1_S1x64)
def ez : V S1x64 := exp (subf (zz S1x64) (absf e.z))
def sp : V S1x64 := addf (maximumf e.z (zz S1x64)) (log1p e.ez)
def eal : V S1x1 := exp e.al
def nal : V S1x64 := broadcastTo S1x64 (subf (zz S1x1) e.eal) broadcasts_S1x1_S1x64
def a : V S1x64 := mulf e.nal e.sp
def spc : V S64x1 := overRow diag e.sp
def ac : V S64x1 := overRow lower e.a
def acr : V S1x64 := overCol upper (overRow diag e.a)
def tot : V S1x1 := lane e.a
def decay : V S64x64 := exp (select lower
  (subf (broadcastTo S64x64 e.ac broadcasts_S64x1_S64x64) (broadcastTo S64x64 e.acr broadcasts_S1x64_S64x64))
  (broadcast S64x64 (Named.named κ "mask" 0xF149F2CA#32)))
def score : V S64x64 := matmul dot_S64x128_S64x128_S64x64_1_1_0_0_n_n none (lo e.c) (lo e.b) (constant S64x64 .f32 0x00000000#32)
def xd : V S64x64 := mulf e.x (broadcastTo S64x64 e.spc broadcasts_S64x1_S64x64)
def eac : V S64x1 := exp e.ac
def etot : V S1x1 := exp e.tot
def out : V S64x1 := exp (subf (broadcastTo S64x1 e.tot broadcasts_S1x1_S64x1) e.ac)
def dhc : V S64x128 := shapeCast S64x128 e.dh shapeCasts_S64x128_S64x128
def bdh : V S64x64 := matmul dot_S64x128_S64x128_S64x64_1_1_0_0_n_n none (lo e.b) (lo e.dhc) (constant S64x64 .f32 0x00000000#32)
def v : V S64x1 := mulf (rowSum (mulf e.xd e.bdh)) e.out
def hdh : V S1x1 := broadcast S1x1 (extractAt ![0, 0, 0] (shapeCast S1x1x1 (multiReduction .add [1, 2] S1
  (shapeCast S1x64x128 (mulf e.h e.dhc) shapeCasts_S64x128_S1x64x128) 0x00000000#32 reduces_S1x64x128_S1 (.inl rfl) rfl)
  shapeCasts_S1_S1x1x1) inpos_S1x1x1_p0_0_0)
def dtot : V S1x1 := addf (shapeCast S1x1 (multiReduction .add [0] S1 e.v 0x00000000#32 reduces_S64x1_S1 (.inl rfl) rfl) shapeCasts_S1_S1x1)
  (mulf e.hdh e.etot)
def dyc : V S64x64 := shapeCast S64x64 e.dy shapeCasts_S64x64_S64x64
def dye : V S64x64 := mulf e.dyc (broadcastTo S64x64 e.eac broadcasts_S64x1_S64x64)
def dstate : V S64x128 := addf (mulf e.dhc (broadcastTo S64x128 e.etot broadcasts_S1x1_S64x128))
  (matmul dot_S64x64_S64x128_S64x128_0_0_1_1_n_n none (lo e.dye) (lo e.c) (constant S64x128 .f32 0x00000000#32))
def dxd : V S64x64 := addf (mulf e.bdh (broadcastTo S64x64 e.out broadcasts_S64x1_S64x64))
  (matmul dot_S64x64_S64x64_S64x64_0_0_1_1_n_n none (lo (mulf e.score e.decay)) (lo e.dyc) (constant S64x64 .f32 0x00000000#32))
def dx : V S64x64 := addf (mulf e.dxd (broadcastTo S64x64 e.spc broadcasts_S64x1_S64x64)) e.dxe
def ch : V S64x64 := matmul dot_S64x128_S64x128_S64x64_1_1_0_0_n_n none (lo e.c) (lo e.h) (constant S64x64 .f32 0x00000000#32)
def dyx : V S64x64 := matmul dot_S64x64_S64x64_S64x64_1_1_0_0_n_n none (lo e.dyc) (lo e.xd) (constant S64x64 .f32 0x00000000#32)
def dseg : V S64x64 := select lower (mulf (mulf e.score e.dyx) e.decay) (zz S64x64)
def u : V S64x1 := addf (addf (subf (zz S64x1) e.v) (mulf (rowSum (mulf e.ch e.dyc)) e.eac)) (rowSum e.dseg)
def w : V S1x64 := colSum (subf (zz S64x64) e.dseg)
def dtotRow : V S1x64 := broadcastTo S1x64 (shapeCast S1x1 (broadcast S1 (extractAt ![0, 0, 0] (shapeCast S1x1x1
  (multiReduction .add [1, 2] S1 (shapeCast S1x1x1 e.dtot shapeCasts_S1x1_S1x1x1) 0x00000000#32 reduces_S1x1x1_S1 (.inl rfl) rfl)
  shapeCasts_S1_S1x1x1) inpos_S1x1x1_p0_0_0)) shapeCasts_S1_S1x1) broadcasts_S1x1_S1x64
/-- A sum over an axis of one entry, which the kernel's layout changes are written with. -/
def col1 (v : V S64x1) : V S64x1 :=
  shapeCast S64x1 (multiReduction .add [1] S64 v 0x00000000#32 reduces_S64x1_S64 (.inl rfl) rfl) shapeCasts_S64_S64x1
def row1 (v : V S1x64) : V S1x64 :=
  shapeCast S1x64 (multiReduction .add [0] S64 v 0x00000000#32 reduces_S1x64_S64 (.inl rfl) rfl) shapeCasts_S64_S1x64
def colUnder (mk : IVec S64x64 1) (v : V S64x1) : V S1x64 :=
  colSum (select mk (broadcastTo S64x64 (col1 v) broadcasts_S64x1_S64x64) (zz S64x64))
def rowUnder (mk : IVec S64x64 1) (v : V S1x64) : V S64x1 :=
  rowSum (select mk (broadcastTo S64x64 (row1 v) broadcasts_S1x64_S64x64) (zz S64x64))
def da : V S1x64 := addf (addf e.dtotRow (colUnder lower e.u)) (colUnder diag (rowUnder upper e.w))
def dsp : V S1x64 := addf (colUnder diag (rowSum (mulf e.x e.dxd))) (mulf e.nal e.da)
def mz : V S1x64 := subf (zz S1x64) (mulf (divf e.dsp (addf e.ez (broadcast S1x64 (Scalar.ofBits .f32 0x3F800000#32)))) e.ez)
def ge : IVec S1x64 1 := cmpf .oge e.z (zz S1x64)
def kink : V S1x64 := select (cmpf .ogt e.z (zz S1x64)) (broadcast S1x64 (Scalar.ofBits .f32 0x3F800000#32))
  (select (cmpf .oeq e.z (zz S1x64)) (broadcast S1x64 (Scalar.ofBits .f32 0x3F000000#32)) (zz S1x64))
def dz : V S1x64 := addf (addf (select e.ge e.mz (zz S1x64)) (subf (zz S1x64) (select e.ge (zz S1x64) e.mz))) (mulf e.dsp e.kink)
def dal : V S1x1 := mulf (subf (zz S1x1) (lane (mulf e.da e.sp))) e.eal
def ddb : V S1x1 := lane e.dz
def dsc : V S64x64 := mulf e.dyx e.decay
def dbh : V S64x128 := matmul dot_S64x64_S64x128_S64x128_1_0_0_1_n_n none
  (lo (mulf e.xd (broadcastTo S64x64 e.out broadcasts_S64x1_S64x64))) (lo e.dhc) (constant S64x128 .f32 0x00000000#32)
def dch : V S64x128 := matmul dot_S64x64_S64x128_S64x128_1_0_0_1_n_n none (lo e.dye) (lo e.h) (constant S64x128 .f32 0x00000000#32)
end Vecs

end Cert.KernelIdeal.Head
-- ==== Proof.Line.lean ====
/-
  One head's recurrence over its whole sequence, in real numbers, and the gradients of its outputs as sums over all pairs of
  tokens; and that one chunk's expressions (Head.lean's `Nums`), at the chunk's tokens, over the state that enters it and the
  cotangent of the state that leaves it, are these gradients at those tokens.
-/
module

public import proofs.«01_k».proof.Proof.Head
public import Mathlib.Algebra.BigOperators.Intervals

@[expose] public section

noncomputable section

namespace Cert.KernelIdeal.Head

open Finset

/-- One head's sequence: its inputs, those of its group, and the cotangents of its outputs, by token. -/
structure Line where
  x : ℕ → Fin 64 → ℝ
  b : ℕ → Fin 128 → ℝ
  c : ℕ → Fin 128 → ℝ
  dt : ℕ → ℝ
  al : ℝ
  db : ℝ
  dy : ℕ → Fin 64 → ℝ
  dxe : ℕ → Fin 64 → ℝ

namespace Line
variable (r : Line)

/-- The number of tokens. -/
abbrev T : ℕ := 2048

def z (s : ℕ) : ℝ := r.dt s + r.db
def sp (s : ℕ) : ℝ := softplus (r.z s)
def a (s : ℕ) : ℝ := (0 - Real.exp r.al) * r.sp s
/-- The sum of the first `k` logs of the decay. -/
def P (k : ℕ) : ℝ := ∑ j ∈ range k, r.a j
def xd (s : ℕ) (p : Fin 64) : ℝ := r.x s p * r.sp s
/-- The decay from token `s` to token `l`, zero for a later `s`. -/
def E (l s : ℕ) : ℝ := if s ≤ l then Real.exp (r.P (l + 1) - r.P (s + 1)) else 0
def G (l s : ℕ) : ℝ := ∑ k, r.c l k * r.b s k
def Q (l s : ℕ) : ℝ := ∑ p, r.dy l p * r.xd s p
def W (l s : ℕ) : ℝ := (r.G l s * r.Q l s) * r.E l s
def dxd (s : ℕ) (p : Fin 64) : ℝ := ∑ l ∈ range T, (r.G l s * r.E l s) * r.dy l p
def dx (s : ℕ) (p : Fin 64) : ℝ := r.dxd s p * r.sp s + r.dxe s p
def da (t : ℕ) : ℝ := ∑ l ∈ Ico t T, ((∑ s ∈ range T, r.W l s) - ∑ l' ∈ range T, r.W l' l)
def dsp (t : ℕ) : ℝ := (∑ p, r.x t p * r.dxd t p) + (0 - Real.exp r.al) * r.da t
def dz (t : ℕ) : ℝ := r.dsp t * slope (r.z t)
def dal : ℝ := (0 - ∑ t ∈ range T, r.da t * r.sp t) * Real.exp r.al
def ddb : ℝ := ∑ t ∈ range T, r.dz t
/-- The head's parts of the gradients of `B` and `C`. -/
def dB (s : ℕ) (k : Fin 128) : ℝ := ∑ l ∈ range T, (r.Q l s * r.E l s) * r.c l k
def dC (l : ℕ) (k : Fin 128) : ℝ := ∑ s ∈ range T, (r.Q l s * r.E l s) * r.b s k

/-- The state that enters chunk `n`, and its cotangent. -/
def H (n : ℕ) (p : Fin 64) (k : Fin 128) : ℝ := ∑ s ∈ range (64 * n), (Real.exp (r.P (64 * n) - r.P (s + 1)) * r.xd s p) * r.b s k
def D (n : ℕ) (p : Fin 64) (k : Fin 128) : ℝ := ∑ l ∈ Ico (64 * n) T, (r.dy l p * Real.exp (r.P (l + 1) - r.P (64 * n))) * r.c l k

/-- What chunk `n` reads. -/
def chunk (n : ℕ) : Nums where
  x i p := r.x (64 * n + i.val) p
  b i k := r.b (64 * n + i.val) k
  c i k := r.c (64 * n + i.val) k
  dt i := r.dt (64 * n + i.val)
  al := r.al
  db := r.db
  h := r.H n
  dh := r.D (n + 1)
  dy i p := r.dy (64 * n + i.val) p
  dxe i p := r.dxe (64 * n + i.val) p

/-! ## Sums over a chunk -/

theorem sum_chunk (f : ℕ → ℝ) (n : ℕ) : ∑ i : Fin 64, f (64 * n + i.val) = ∑ s ∈ Ico (64 * n) (64 * (n + 1)), f s := by
  rw [sum_Ico_eq_sum_range, show 64 * (n + 1) - 64 * n = 64 by omega, Finset.sum_range]

/-- The chunk's tokens from token `t` on. -/
theorem sum_chunk_from (f : ℕ → ℝ) (n : ℕ) (j : Fin 64) :
    (∑ i : Fin 64, if j ≤ i then f (64 * n + i.val) else 0) = ∑ s ∈ Ico (64 * n + j.val) (64 * (n + 1)), f s := by
  have e : ∀ i : Fin 64, (if j ≤ i then f (64 * n + i.val) else 0) = (fun s => if 64 * n + j.val ≤ s then f s else 0) (64 * n + i.val) := by
    intro i
    have : j ≤ i ↔ 64 * n + j.val ≤ 64 * n + i.val := by rw [Fin.le_def]; omega
    simp only [this]
  rw [sum_congr rfl fun i _ => e i, sum_chunk (fun s => if 64 * n + j.val ≤ s then f s else 0), ← sum_filter]
  refine sum_congr ?_ fun _ _ => rfl
  ext s; simp only [mem_filter, mem_Ico]; omega

/-- The chunk's tokens up to token `i`. -/
theorem sum_chunk_to (f : ℕ → ℝ) (n : ℕ) (i : Fin 64) :
    (∑ j : Fin 64, if j ≤ i then f (64 * n + j.val) else 0) = ∑ s ∈ Ico (64 * n) (64 * n + i.val + 1), f s := by
  have e : ∀ j : Fin 64, (if j ≤ i then f (64 * n + j.val) else 0) = (fun s => if s ≤ 64 * n + i.val then f s else 0) (64 * n + j.val) := by
    intro j
    have : j ≤ i ↔ 64 * n + j.val ≤ 64 * n + i.val := by rw [Fin.le_def]; omega
    simp only [this]
  rw [sum_congr rfl fun j _ => e j, sum_chunk (fun s => if s ≤ 64 * n + i.val then f s else 0), ← sum_filter]
  refine sum_congr ?_ fun _ _ => rfl
  ext s; simp only [mem_filter, mem_Ico]; omega

theorem P_sub {m n : ℕ} (h : m ≤ n) : ∑ s ∈ Ico m n, r.a s = r.P n - r.P m := by
  rw [P, P, sum_Ico_eq_sub _ h]

theorem E_of_lt {l s : ℕ} (h : l < s) : r.E l s = 0 := if_neg (by omega)
theorem E_of_le {l s : ℕ} (h : s ≤ l) : r.E l s = Real.exp (r.P (l + 1) - r.P (s + 1)) := if_pos h
theorem W_of_lt {l s : ℕ} (h : l < s) : r.W l s = 0 := by rw [W, r.E_of_lt h, mul_zero]

/-! ## One chunk -/

variable (n : ℕ)

theorem chunk_z (j : Fin 64) : (r.chunk n).z j = r.z (64 * n + j.val) := rfl
theorem chunk_sp (j : Fin 64) : (r.chunk n).sp j = r.sp (64 * n + j.val) := rfl
theorem chunk_a (j : Fin 64) : (r.chunk n).a j = r.a (64 * n + j.val) := rfl
theorem chunk_xd (i p : Fin 64) : (r.chunk n).xd i p = r.xd (64 * n + i.val) p := rfl
theorem chunk_score (i j : Fin 64) : (r.chunk n).score i j = r.G (64 * n + i.val) (64 * n + j.val) := rfl
theorem chunk_dyx (i j : Fin 64) : (r.chunk n).dyx i j = r.Q (64 * n + i.val) (64 * n + j.val) := rfl

theorem chunk_ac (i : Fin 64) : (r.chunk n).ac i = r.P (64 * n + i.val + 1) - r.P (64 * n) :=
  (sum_chunk_to r.a n i).trans (r.P_sub (by omega))

theorem chunk_tot : (r.chunk n).tot = r.P (64 * (n + 1)) - r.P (64 * n) :=
  (sum_chunk r.a n).trans (r.P_sub (by omega))

theorem chunk_decay (i j : Fin 64) : (r.chunk n).decay i j = r.E (64 * n + i.val) (64 * n + j.val) := by
  unfold Nums.decay E
  rw [chunk_ac, chunk_ac]
  refine if_congr (by rw [Fin.le_def]; omega) (congrArg _ (by ring)) rfl

theorem chunk_out (i : Fin 64) : (r.chunk n).out i = Real.exp (r.P (64 * (n + 1)) - r.P (64 * n + i.val + 1)) := by
  unfold Nums.out; rw [chunk_ac, chunk_tot]; congr 1; ring

theorem chunk_dseg (i j : Fin 64) : (r.chunk n).dseg i j = r.W (64 * n + i.val) (64 * n + j.val) := by
  unfold Nums.dseg W
  rw [chunk_score, chunk_dyx, chunk_decay]
  split_ifs with h
  · rfl
  · rw [r.E_of_lt (by rw [Fin.le_def] at h; omega), mul_zero]

theorem chunk_dsc (i j : Fin 64) : (r.chunk n).dsc i j = r.Q (64 * n + i.val) (64 * n + j.val) * r.E (64 * n + i.val) (64 * n + j.val) := by
  unfold Nums.dsc; rw [chunk_dyx, chunk_decay]

/-- The cotangent of the entering state. -/
theorem chunk_dstate (hn : n < 32) (p : Fin 64) (k : Fin 128) : (r.chunk n).dstate p k = r.D n p k := by
  unfold Nums.dstate D
  rw [← sum_Ico_consecutive _ (show 64 * n ≤ 64 * (n + 1) by omega) (show 64 * (n + 1) ≤ T by unfold T; omega), add_comm, chunk_tot]
  congr 1
  · rw [← sum_chunk (fun l => (r.dy l p * Real.exp (r.P (l + 1) - r.P (64 * n))) * r.c l k)]
    refine sum_congr rfl fun i _ => ?_
    rw [chunk_ac]; rfl
  · show (r.D (n + 1) p k) * _ = _
    unfold D
    rw [sum_mul]
    refine sum_congr rfl fun l _ => ?_
    rw [show r.P (l + 1) - r.P (64 * n) = (r.P (l + 1) - r.P (64 * (n + 1))) + (r.P (64 * (n + 1)) - r.P (64 * n)) by ring, Real.exp_add]
    ring

/-- The decay across the end of the chunk, and across its start. -/
theorem E_across_end {l : ℕ} (hl : 64 * (n + 1) ≤ l) (i : Fin 64) :
    Real.exp (r.P (l + 1) - r.P (64 * (n + 1))) * Real.exp (r.P (64 * (n + 1)) - r.P (64 * n + i.val + 1)) = r.E l (64 * n + i.val) := by
  rw [r.E_of_le (by omega), ← Real.exp_add]; congr 1; ring

theorem E_across_start {s : ℕ} (hs : s < 64 * n) (i : Fin 64) :
    Real.exp (r.P (64 * n + i.val + 1) - r.P (64 * n)) * Real.exp (r.P (64 * n) - r.P (s + 1)) = r.E (64 * n + i.val) s := by
  rw [r.E_of_le (by omega), ← Real.exp_add]; congr 1; ring

theorem E_across {l s : ℕ} (hl : 64 * (n + 1) ≤ l) (hs : s < 64 * n) :
    Real.exp (r.P (64 * n) - r.P (s + 1)) * Real.exp (r.P (l + 1) - r.P (64 * (n + 1))) * Real.exp (r.P (64 * (n + 1)) - r.P (64 * n)) = r.E l s := by
  rw [r.E_of_le (by omega), ← Real.exp_add, ← Real.exp_add]; congr 1; ring

theorem chunk_bdh_out (i p : Fin 64) : (r.chunk n).bdh i p * (r.chunk n).out i
    = ∑ l ∈ Ico (64 * (n + 1)) T, (r.G l (64 * n + i.val) * r.E l (64 * n + i.val)) * r.dy l p := by
  rw [chunk_out]
  show (∑ k, r.b (64 * n + i.val) k * r.D (n + 1) p k) * _ = _
  unfold D G
  simp only [mul_sum, sum_mul]
  rw [sum_comm]
  refine sum_congr rfl fun l hl => sum_congr rfl fun k _ => ?_
  rw [← r.E_across_end n (mem_Ico.mp hl).1 i]
  ring

theorem chunk_dxd (hn : n < 32) (j p : Fin 64) : (r.chunk n).dxd j p = r.dxd (64 * n + j.val) p := by
  unfold Nums.dxd dxd
  rw [chunk_bdh_out, range_eq_Ico, ← sum_Ico_consecutive _ (show 0 ≤ 64 * (n + 1) by omega) (show 64 * (n + 1) ≤ T by unfold T; omega),
    ← sum_Ico_consecutive _ (show 0 ≤ 64 * n by omega) (show 64 * n ≤ 64 * (n + 1) by omega), add_comm]
  congr 1
  rw [show (∑ l ∈ Ico 0 (64 * n), (r.G l (64 * n + j.val) * r.E l (64 * n + j.val)) * r.dy l p) = 0 from
    sum_eq_zero fun l hl => by rw [r.E_of_lt (by have := (mem_Ico.mp hl).2; omega), mul_zero, zero_mul], zero_add,
    ← sum_chunk fun l => (r.G l (64 * n + j.val) * r.E l (64 * n + j.val)) * r.dy l p]
  refine sum_congr rfl fun i _ => ?_
  rw [chunk_score, chunk_decay]; rfl

theorem chunk_dx (hn : n < 32) (j p : Fin 64) : (r.chunk n).dx j p = r.dx (64 * n + j.val) p := by
  unfold Nums.dx dx; rw [r.chunk_dxd n hn, chunk_sp]; rfl

theorem chunk_v (i : Fin 64) : (r.chunk n).v i = ∑ l ∈ Ico (64 * (n + 1)) T, r.W l (64 * n + i.val) := by
  have e : (r.chunk n).v i = ∑ p, r.xd (64 * n + i.val) p * ((r.chunk n).bdh i p * (r.chunk n).out i) := by
    unfold Nums.v; rw [sum_mul]; exact sum_congr rfl fun p _ => by rw [chunk_xd, mul_assoc]
  rw [e]
  simp only [chunk_bdh_out, mul_sum]
  rw [sum_comm]
  refine sum_congr rfl fun l _ => ?_
  unfold W Q
  simp only [mul_sum, sum_mul]
  exact sum_congr rfl fun p _ => by ring

theorem chunk_before (i : Fin 64) : (∑ p, (r.chunk n).ch i p * (r.chunk n).dy i p) * Real.exp ((r.chunk n).ac i)
    = ∑ s ∈ range (64 * n), r.W (64 * n + i.val) s := by
  rw [chunk_ac]
  show (∑ p, (∑ k, r.c (64 * n + i.val) k * r.H n p k) * r.dy (64 * n + i.val) p) * _ = _
  unfold H W G Q
  simp only [mul_sum, sum_mul]
  rw [sum_comm' (t' := univ) (s' := fun _ => univ) (by simp)]
  rw [sum_congr rfl fun k _ => sum_comm, sum_comm]
  refine sum_congr rfl fun s hs => ?_
  rw [sum_comm]
  refine sum_congr rfl fun p _ => sum_congr rfl fun k _ => ?_
  rw [← r.E_across_start n (mem_range.mp hs) i]
  ring

theorem chunk_through : (∑ p, ∑ k, (r.chunk n).h p k * (r.chunk n).dh p k) * Real.exp (r.chunk n).tot
    = ∑ s ∈ range (64 * n), ∑ l ∈ Ico (64 * (n + 1)) T, r.W l s := by
  rw [chunk_tot]
  show (∑ p, ∑ k, r.H n p k * r.D (n + 1) p k) * _ = _
  have e : ∀ p k, r.H n p k * r.D (n + 1) p k = ∑ s ∈ range (64 * n), ∑ l ∈ Ico (64 * (n + 1)) T,
      ((Real.exp (r.P (64 * n) - r.P (s + 1)) * r.xd s p) * r.b s k) * ((r.dy l p * Real.exp (r.P (l + 1) - r.P (64 * (n + 1)))) * r.c l k) := by
    intro p k; unfold H D; rw [sum_mul_sum]
  simp only [e]
  rw [sum_congr rfl fun p _ => sum_comm, sum_comm, sum_mul]
  refine sum_congr rfl fun s hs => ?_
  rw [sum_congr rfl fun p _ => sum_comm, sum_comm, sum_mul]
  refine sum_congr rfl fun l hl => ?_
  unfold W G Q
  rw [← r.E_across n (mem_Ico.mp hl).1 (mem_range.mp hs)]
  simp only [mul_sum, sum_mul]
  exact sum_congr rfl fun p _ => sum_congr rfl fun k _ => by ring

/-- A sum from token `t` on of row sums minus column sums of a lower triangle, split at the end of `t`'s chunk. -/
theorem rows_minus_columns (M : ℕ → ℕ → ℝ) (hM : ∀ l s, l < s → M l s = 0) {N0 t N1 N : ℕ} (h0 : N0 ≤ t) (h1 : t ≤ N1) (h2 : N1 ≤ N) :
    ((∑ s ∈ range N1, ∑ l ∈ Ico N1 N, M l s) + ∑ τ ∈ Ico t N1, ((0 - ∑ l ∈ Ico N1 N, M l τ) + ∑ s ∈ range N1, M τ s))
        + ∑ τ ∈ Ico t N1, (0 - ∑ l ∈ Ico N0 N1, M l τ)
      = ∑ l ∈ Ico t N, ((∑ s ∈ range N, M l s) - ∑ l' ∈ range N, M l' l) := by
  rw [← sum_Ico_consecutive _ h1 h2]
  have hrow : ∀ τ ∈ Ico t N1, ((∑ s ∈ range N, M τ s) - ∑ l' ∈ range N, M l' τ)
      = ((0 - ∑ l ∈ Ico N1 N, M l τ) + ∑ s ∈ range N1, M τ s) + (0 - ∑ l ∈ Ico N0 N1, M l τ) := by
    intro τ hτ
    obtain ⟨ha, hb⟩ := mem_Ico.mp hτ
    rw [← sum_range_add_sum_Ico (fun s => M τ s) h2, ← sum_range_add_sum_Ico (fun l => M l τ) h2, range_eq_Ico (a := N1),
      ← sum_Ico_consecutive (fun l => M l τ) (Nat.zero_le N0) (h0.trans h1)]
    rw [show ∑ s ∈ Ico N1 N, M τ s = 0 from sum_eq_zero fun s hs => hM _ _ (by have := (mem_Ico.mp hs).1; omega),
      show ∑ l ∈ Ico 0 N0, M l τ = 0 from sum_eq_zero fun l hl => hM _ _ (by have := (mem_Ico.mp hl).2; omega)]
    ring
  have hrest : ∑ l ∈ Ico N1 N, ((∑ s ∈ range N, M l s) - ∑ l' ∈ range N, M l' l) = ∑ s ∈ range N1, ∑ l ∈ Ico N1 N, M l s := by
    have e : ∀ l ∈ Ico N1 N, ((∑ s ∈ range N, M l s) - ∑ l' ∈ range N, M l' l)
        = (∑ s ∈ range N1, M l s) + ((∑ s ∈ Ico N1 N, M l s) - ∑ l' ∈ Ico N1 N, M l' l) := by
      intro l hl
      rw [← sum_range_add_sum_Ico (fun s => M l s) h2, ← sum_range_add_sum_Ico (fun l' => M l' l) h2,
        show ∑ l' ∈ range N1, M l' l = 0 from sum_eq_zero fun l' hl' => hM _ _ (by have := mem_range.mp hl'; have := (mem_Ico.mp hl).1; omega)]
      ring
    rw [sum_congr rfl e, sum_add_distrib, sum_sub_distrib, sum_comm (s := Ico N1 N) (t := Ico N1 N), sub_self, add_zero, sum_comm]
  rw [sum_congr rfl hrow, hrest]
  simp only [sum_add_distrib, sum_sub_distrib, sum_const_zero]
  ring

theorem chunk_da (hn : n < 32) (j : Fin 64) : (r.chunk n).da j = r.da (64 * n + j.val) := by
  unfold Nums.da da
  rw [← rows_minus_columns r.W (fun l s h => r.W_of_lt h) (N0 := 64 * n) (t := 64 * n + j.val) (N1 := 64 * (n + 1)) (by omega) (by omega)
    (by unfold T; omega)]
  congr 1
  · congr 1
    · unfold Nums.dtot
      rw [chunk_through]
      simp only [chunk_v]
      rw [sum_chunk (fun s => ∑ l ∈ Ico (64 * (n + 1)) T, r.W l s), add_comm, sum_range_add_sum_Ico _ (by omega)]
    · rw [← sum_chunk_from]
      refine sum_congr rfl fun i _ => if_congr Iff.rfl ?_ rfl
      unfold Nums.u
      rw [chunk_before, chunk_v, add_assoc, ← sum_range_add_sum_Ico (r.W (64 * n + i.val)) (show 64 * n ≤ 64 * (n + 1) by omega), ← sum_chunk]
      simp only [chunk_dseg]
  · rw [← sum_chunk_from]
    refine sum_congr rfl fun i _ => if_congr Iff.rfl ?_ rfl
    unfold Nums.w
    rw [← sum_chunk (fun l => r.W l (64 * n + i.val))]
    simp only [chunk_dseg, zero_sub, sum_neg_distrib]

theorem chunk_dz (hn : n < 32) (j : Fin 64) : (r.chunk n).dz j = r.dz (64 * n + j.val) := by
  unfold Nums.dz dz Nums.dsp dsp
  rw [r.chunk_da n hn, chunk_z]
  simp only [r.chunk_dxd n hn]
  rfl

/-- The two gradients that a group's heads share: the part through the states and the part within the chunk. -/
theorem chunk_dB (hn : n < 32) (j : Fin 64) (k : Fin 128) :
    (r.chunk n).dbh j k + ∑ i, (r.chunk n).dsc i j * (r.chunk n).c i k = r.dB (64 * n + j.val) k := by
  unfold dB
  rw [range_eq_Ico, ← sum_Ico_consecutive _ (show 0 ≤ 64 * (n + 1) by omega) (show 64 * (n + 1) ≤ T by unfold T; omega),
    ← sum_Ico_consecutive _ (show 0 ≤ 64 * n by omega) (show 64 * n ≤ 64 * (n + 1) by omega), add_comm]
  congr 1
  · rw [show (∑ l ∈ Ico 0 (64 * n), (r.Q l (64 * n + j.val) * r.E l (64 * n + j.val)) * r.c l k) = 0 from
      sum_eq_zero fun l hl => by rw [r.E_of_lt (by have := (mem_Ico.mp hl).2; omega), mul_zero, zero_mul], zero_add,
      ← sum_chunk fun l => (r.Q l (64 * n + j.val) * r.E l (64 * n + j.val)) * r.c l k]
    refine sum_congr rfl fun i _ => ?_
    rw [chunk_dsc]; rfl
  · unfold Nums.dbh
    rw [chunk_out]
    show ∑ p, (r.xd (64 * n + j.val) p * _) * r.D (n + 1) p k = _
    unfold D Q
    simp only [mul_sum, sum_mul]
    rw [sum_comm]
    refine sum_congr rfl fun l hl => sum_congr rfl fun p _ => ?_
    rw [← r.E_across_end n (mem_Ico.mp hl).1 j]
    ring

theorem chunk_dC (hn : n < 32) (i : Fin 64) (k : Fin 128) :
    (r.chunk n).dch i k + ∑ j, (r.chunk n).dsc i j * (r.chunk n).b j k = r.dC (64 * n + i.val) k := by
  unfold dC
  rw [range_eq_Ico, ← sum_Ico_consecutive _ (show 0 ≤ 64 * (n + 1) by omega) (show 64 * (n + 1) ≤ T by unfold T; omega),
    ← sum_Ico_consecutive _ (show 0 ≤ 64 * n by omega) (show 64 * n ≤ 64 * (n + 1) by omega),
    show (∑ s ∈ Ico (64 * (n + 1)) T, (r.Q (64 * n + i.val) s * r.E (64 * n + i.val) s) * r.b s k) = 0 from
      sum_eq_zero fun s hs => by rw [r.E_of_lt (by have := (mem_Ico.mp hs).1; omega), mul_zero, zero_mul], add_zero]
  congr 1
  · unfold Nums.dch
    rw [chunk_ac]
    show ∑ p, (r.dy (64 * n + i.val) p * _) * r.H n p k = _
    unfold H Q
    simp only [mul_sum, sum_mul]
    rw [sum_comm]
    refine sum_congr (range_eq_Ico _) fun s hs => sum_congr rfl fun p _ => ?_
    rw [← r.E_across_start n (mem_Ico.mp hs).2 i]
    ring
  · rw [← sum_chunk fun s => (r.Q (64 * n + i.val) s * r.E (64 * n + i.val) s) * r.b s k]
    refine sum_congr rfl fun j _ => ?_
    rw [chunk_dsc]; rfl

/-! ## The sums over the chunks -/

theorem sum_chunks (f : ℕ → ℝ) : ∑ n ∈ range 32, ∑ i : Fin 64, f (64 * n + i.val) = ∑ s ∈ range T, f s := by
  have h : ∀ m : ℕ, ∑ n ∈ range m, ∑ i : Fin 64, f (64 * n + i.val) = ∑ s ∈ range (64 * m), f s := by
    intro m
    induction m with
    | zero => simp
    | succ m ih => rw [sum_range_succ, ih, sum_chunk, sum_range_add_sum_Ico _ (by omega)]
  exact h 32

theorem sum_chunk_ddb : ∑ n ∈ range 32, (r.chunk n).ddb = r.ddb := by
  unfold Nums.ddb ddb
  rw [← sum_chunks]
  exact sum_congr rfl fun n hn => sum_congr rfl fun j _ => r.chunk_dz n (mem_range.mp hn) j

theorem sum_chunk_dal : ∑ n ∈ range 32, (r.chunk n).dal = r.dal := by
  unfold Nums.dal dal
  rw [← sum_chunks (fun t => r.da t * r.sp t)]
  show ∑ n ∈ range 32, (0 - ∑ j, (r.chunk n).da j * (r.chunk n).sp j) * Real.exp r.al = _
  rw [← sum_mul]
  congr 1
  rw [sum_sub_distrib, sum_const_zero]
  congr 1
  refine sum_congr rfl fun n hn => sum_congr rfl fun j _ => ?_
  rw [r.chunk_da n (mem_range.mp hn), chunk_sp]

end Line

end Cert.KernelIdeal.Head
-- ==== Proof.HeadValue.lean ====
/-
  What each vector of Head.lean holds at an index: the number of the same name, once the vectors that are read hold
  real numbers.
-/
module

public import proofs.«01_k».proof.Proof.Head

@[expose] public section

noncomputable section

namespace Cert.KernelIdeal.Head

open Idealize.ShloMosaic Cert.KernelIdeal.Gen

variable [KernelIdeal.Facts]

/-- The vectors `e` hold the numbers `r`, none of whose step sizes sits on the kink of the kernel's softplus. -/
structure Holds (e : Vecs) (r : Nums) : Prop where
  x : ∀ i p, e.x (ix2 i p) = (r.x i p : EReal)
  b : ∀ i k, e.b (ix2 i k) = (r.b i k : EReal)
  c : ∀ i k, e.c (ix2 i k) = (r.c i k : EReal)
  dt : ∀ j, e.dt (ix2 0 j) = (r.dt j : EReal)
  al : e.al (ix2 0 0) = (r.al : EReal)
  db : e.db (ix2 0 0) = (r.db : EReal)
  h : ∀ p k, e.h (ix2 p k) = (r.h p k : EReal)
  dh : ∀ p k, e.dh (ix2 p k) = (r.dh p k : EReal)
  dy : ∀ i p, e.dy (ix2 i p) = (r.dy i p : EReal)
  dxe : ∀ i p, e.dxe (ix2 i p) = (r.dxe i p : EReal)
  ne : ∀ j, r.z j ≠ 0

theorem coe_max0 (x : ℝ) : max (x : EReal) 0 = ((max x 0 : ℝ) : EReal) := by
  rw [← EReal.coe_zero]; exact (EReal.coe_strictMono.monotone.map_max).symm

theorem absf_coe (x : ℝ) : (FloatOps.absf (x : Ideal .f32) : Ideal .f32) = ((|x| : ℝ) : EReal) := by
  rw [abs_eq_max_neg]; exact (EReal.coe_strictMono.monotone.map_max (a := x) (b := -x)).symm

/-- The log of one plus a positive number is a number. -/
theorem log1p_exp (x : ℝ) : Ideal.log1p (Real.exp x : EReal) = ((Real.log (1 + Real.exp x) : ℝ) : EReal) := by
  unfold Ideal.log1p
  rw [show (1 : EReal) + (Real.exp x : EReal) = ((1 + Real.exp x : ℝ) : EReal) from by push_cast; rfl,
    Ideal.log_coe, if_neg (by have := Real.exp_pos x; linarith)]

/-- The slope of the softplus off its kink: the two ways to write it. -/
theorem slope_pos {z : ℝ} (h : 0 < z) : 1 - 1 / (Real.exp (0 - |z|) + 1) * Real.exp (0 - |z|) = slope z := by
  unfold slope softplus
  rw [max_eq_left h.le, abs_of_pos h, show z - (z + Real.log (1 + Real.exp (0 - z))) = -Real.log (1 + Real.exp (0 - z)) by ring,
    Real.exp_neg, Real.exp_log (by positivity)]
  have := Real.exp_pos (0 - z)
  field_simp; ring
theorem slope_neg {z : ℝ} (h : z < 0) : 1 / (Real.exp (0 - |z|) + 1) * Real.exp (0 - |z|) = slope z := by
  unfold slope softplus
  rw [max_eq_right h.le, abs_of_neg h, show (0 - -z) = z by ring, zero_add, Real.exp_sub,
    Real.exp_log (by positivity)]
  have := Real.exp_pos z
  field_simp; ring

variable {e : Vecs} {r : Nums} (H : Holds e r)
include H

theorem z_val (j : Fin 64) : e.z (ix2 0 j) = (r.z j : EReal) := by
  pointwise [Vecs.z]
  rw [H.dt, H.db]; rfl

theorem ez_val (j : Fin 64) : e.ez (ix2 0 j) = (Real.exp (0 - |r.z j|) : EReal) := by
  pointwise [Vecs.ez, zz]
  rw [z_val H, absf_coe, ← EReal.coe_zero, ← EReal.coe_sub, Ideal.exp_coe]

theorem sp_val (j : Fin 64) : e.sp (ix2 0 j) = (r.sp j : EReal) := by
  pointwise [Vecs.sp, zz]
  rw [z_val H, ez_val H, log1p_exp, coe_max0]; rfl

theorem eal_val : e.eal (ix2 0 0) = (Real.exp r.al : EReal) := by
  pointwise [Vecs.eal]
  rw [H.al]; rfl

theorem nal_val (j : Fin 64) : e.nal (ix2 0 j) = ((0 - Real.exp r.al : ℝ) : EReal) := by
  pointwise [Vecs.nal, zz]
  rw [eal_val H]; rfl

theorem a_val (j : Fin 64) : e.a (ix2 0 j) = (r.a j : EReal) := by
  pointwise [Vecs.a]
  rw [nal_val H, sp_val H]; rfl

theorem spc_val (i : Fin 64) : e.spc (ix2 i 0) = (r.sp i : EReal) := by
  rw [Vecs.spc, overRow_apply]
  simp only [diag_apply, select_bool, Finset.sum_ite_eq, Finset.mem_univ, if_true, sp_val H]

theorem ac_val (i : Fin 64) : e.ac (ix2 i 0) = (r.ac i : EReal) := by
  rw [Vecs.ac, overRow_apply]
  simp only [lower_apply, select_bool, a_val H, ← EReal.coe_zero, ← coe_ite, ← coe_sum]; rfl

theorem acr_val (i : Fin 64) : e.acr (ix2 0 i) = (r.ac i : EReal) := by
  rw [Vecs.acr, overCol_apply]
  simp only [overRow_apply, upper_apply, diag_apply, select_bool, Finset.sum_ite_eq, Finset.mem_univ, if_true, a_val H,
    ← EReal.coe_zero, ← coe_ite, ← coe_sum]; rfl

theorem tot_val : e.tot (ix2 0 0) = (r.tot : EReal) := by
  rw [Vecs.tot, lane_apply]
  simp only [a_val H, ← coe_sum]; rfl

theorem decay_val (i j : Fin 64) : e.decay (ix2 i j) = (r.decay i j : EReal) := by
  have hm : (Named.named κ "mask" (φ := .f32) 0xF149F2CA#32 : Ideal .f32) = (⊥ : EReal) :=
    IdealRules.named_const.ideal_named_scalar _ _ _ _ rfl
  pointwise [Vecs.decay]
  rw [hm, lower_apply, select_bool, ac_val H, acr_val H, Nums.decay]
  split
  · rw [← EReal.coe_sub, Ideal.exp_coe]
  · rfl

theorem score_val (i j : Fin 64) : e.score (ix2 i j) = (r.score i j : EReal) := by
  pointwise [Vecs.score]
  simp only [H.b, H.c, ← EReal.coe_mul, ← coe_sum]; rfl

theorem xd_val (i p : Fin 64) : e.xd (ix2 i p) = (r.xd i p : EReal) := by
  pointwise [Vecs.xd]
  rw [H.x, spc_val H]; rfl

theorem eac_val (i : Fin 64) : e.eac (ix2 i 0) = (Real.exp (r.ac i) : EReal) := by
  pointwise [Vecs.eac]
  rw [ac_val H]; rfl

theorem etot_val : e.etot (ix2 0 0) = (Real.exp r.tot : EReal) := by
  pointwise [Vecs.etot]
  rw [tot_val H]; rfl

theorem out_val (i : Fin 64) : e.out (ix2 i 0) = (r.out i : EReal) := by
  pointwise [Vecs.out]
  rw [tot_val H, ac_val H]; rfl

theorem bdh_val (i p : Fin 64) : e.bdh (ix2 i p) = (r.bdh i p : EReal) := by
  pointwise [Vecs.bdh, Vecs.dhc]
  simp only [H.b, H.dh, ← EReal.coe_mul, ← coe_sum]; rfl

theorem v_val (i : Fin 64) : e.v (ix2 i 0) = (r.v i : EReal) := by
  pointwise [Vecs.v]
  rw [rowSum_apply]
  pointwise
  simp only [xd_val H, bdh_val H, out_val H, ← EReal.coe_mul, ← coe_sum]; rfl

theorem hdh_val : e.hdh (ix2 0 0) = ((∑ p, ∑ k, r.h p k * r.dh p k : ℝ) : EReal) := by
  pointwise [Vecs.hdh, Vecs.dhc]
  simp only [H.h, H.dh, ← EReal.coe_mul, ← coe_sum]

theorem dtot_val : e.dtot (ix2 0 0) = (r.dtot : EReal) := by
  pointwise [Vecs.dtot]
  simp only [v_val H, hdh_val H, etot_val H, ← EReal.coe_mul, ← coe_sum]; rfl

theorem dtotRow_val (j : Fin 64) : e.dtotRow (ix2 0 j) = (r.dtot : EReal) := by
  pointwise [Vecs.dtotRow]
  simp only [dtot_val H, Finset.univ_unique, Finset.sum_singleton]

theorem dyc_val (i p : Fin 64) : e.dyc (ix2 i p) = (r.dy i p : EReal) := by
  pointwise [Vecs.dyc]
  rw [H.dy]

theorem dye_val (i p : Fin 64) : e.dye (ix2 i p) = ((r.dy i p * Real.exp (r.ac i) : ℝ) : EReal) := by
  pointwise [Vecs.dye]
  rw [dyc_val H, eac_val H]; rfl

theorem dstate_val (p : Fin 64) (k : Fin 128) : e.dstate (ix2 p k) = (r.dstate p k : EReal) := by
  pointwise [Vecs.dstate, Vecs.dhc]
  simp only [H.dh, H.c, etot_val H, dye_val H, ← EReal.coe_mul, ← coe_sum]; rfl

theorem dxd_val (i j : Fin 64) : e.dxd (ix2 i j) = (r.dxd i j : EReal) := by
  pointwise [Vecs.dxd]
  simp only [bdh_val H, out_val H, score_val H, decay_val H, dyc_val H, ← EReal.coe_mul, ← coe_sum]; rfl

theorem dx_val (i p : Fin 64) : e.dx (ix2 i p) = (r.dx i p : EReal) := by
  pointwise [Vecs.dx]
  rw [dxd_val H, spc_val H, H.dxe]; rfl

theorem ch_val (i p : Fin 64) : e.ch (ix2 i p) = (r.ch i p : EReal) := by
  pointwise [Vecs.ch]
  simp only [H.c, H.h, ← EReal.coe_mul, ← coe_sum]; rfl

theorem dyx_val (i j : Fin 64) : e.dyx (ix2 i j) = (r.dyx i j : EReal) := by
  pointwise [Vecs.dyx]
  simp only [dyc_val H, xd_val H, ← EReal.coe_mul, ← coe_sum]; rfl

theorem dseg_val (i j : Fin 64) : e.dseg (ix2 i j) = (r.dseg i j : EReal) := by
  pointwise [Vecs.dseg, zz]
  rw [lower_apply, select_bool, score_val H, dyx_val H, decay_val H]
  simp only [← EReal.coe_mul, ← EReal.coe_zero, ← coe_ite]; rfl

theorem u_val (i : Fin 64) : e.u (ix2 i 0) = (r.u i : EReal) := by
  pointwise [Vecs.u, zz]
  rw [rowSum_apply, rowSum_apply]
  pointwise
  simp only [v_val H, ch_val H, dyc_val H, eac_val H, dseg_val H, ← EReal.coe_mul, ← coe_sum]; rfl

theorem w_val (j : Fin 64) : e.w (ix2 0 j) = (r.w j : EReal) := by
  rw [Vecs.w, colSum_apply]
  pointwise [zz]
  simp only [dseg_val H, ← EReal.coe_zero, ← EReal.coe_sub, ← coe_sum]; rfl

omit H in
theorem colUnder_apply (mk : IVec S64x64 1) (v : V S64x1) (j : Fin 64) :
    Vecs.colUnder mk v (ix2 0 j) = ∑ i : Fin 64, Scalar.select (mk (ix2 i j)) (v (ix2 i 0)) 0 := by
  rw [Vecs.colUnder, colSum_apply]
  pointwise [zz, Vecs.col1]
  simp only [Finset.univ_unique, Finset.sum_singleton, Fin.default_eq_zero]
omit H in
theorem rowUnder_apply (mk : IVec S64x64 1) (v : V S1x64) (i : Fin 64) :
    Vecs.rowUnder mk v (ix2 i 0) = ∑ j : Fin 64, Scalar.select (mk (ix2 i j)) (v (ix2 0 j)) 0 := by
  rw [Vecs.rowUnder, rowSum_apply]
  pointwise [zz, Vecs.row1]
  simp only [Finset.univ_unique, Finset.sum_singleton, Fin.default_eq_zero]

theorem da_val (j : Fin 64) : e.da (ix2 0 j) = (r.da j : EReal) := by
  pointwise [Vecs.da]
  simp only [colUnder_apply, rowUnder_apply, dtotRow_val H, u_val H, w_val H, lower_apply, diag_apply, upper_apply, select_bool,
    Finset.sum_ite_eq', Finset.mem_univ, if_true, ← EReal.coe_zero, ← coe_ite, ← coe_sum]; rfl

theorem dsp_val (j : Fin 64) : e.dsp (ix2 0 j) = (r.dsp j : EReal) := by
  pointwise [Vecs.dsp]
  rw [colUnder_apply]
  simp only [diag_apply, select_bool, Finset.sum_ite_eq', Finset.mem_univ, if_true, rowSum_apply]
  pointwise
  simp only [H.x, dxd_val H, nal_val H, da_val H, ← EReal.coe_mul, ← coe_sum]; rfl

theorem dz_val (j : Fin 64) : e.dz (ix2 0 j) = (r.dz j : EReal) := by
  have hd : Ideal.div (r.dsp j : EReal) ((Real.exp (0 - |r.z j|) : EReal) + 1) =
      ((r.dsp j * (1 / (Real.exp (0 - |r.z j|) + 1)) : ℝ) : EReal) := by
    have h0 : Real.exp (0 - |r.z j|) + 1 ≠ 0 := by positivity
    rw [show ((Real.exp (0 - |r.z j|) : EReal) + 1) = ((Real.exp (0 - |r.z j|) + 1 : ℝ) : EReal) from by push_cast; rfl,
      Ideal.div_coe h0, ← EReal.coe_mul]
  pointwise [Vecs.dz, Vecs.mz, Vecs.ge, Vecs.kink, zz]
  rw [z_val H, dsp_val H, ez_val H, hd]
  rcases lt_or_gt_of_ne (H.ne j) with h | h
  · have h1 : ¬ (0 : EReal) ≤ (r.z j : EReal) := by rw [not_le]; exact_mod_cast h
    have h2 : ¬ (0 : EReal) < (r.z j : EReal) := by rw [not_lt]; exact_mod_cast h.le
    have h3 : ¬ (r.z j : EReal) = 0 := by exact_mod_cast H.ne j
    rw [if_neg h1, if_neg h1, if_neg h2, if_neg h3, Nums.dz, ← slope_neg h]
    simp only [← EReal.coe_zero, ← EReal.coe_mul, ← EReal.coe_sub, ← EReal.coe_add]
    congr 1; ring
  · have h1 : (0 : EReal) ≤ (r.z j : EReal) := by exact_mod_cast h.le
    have h2 : (0 : EReal) < (r.z j : EReal) := by exact_mod_cast h
    rw [if_pos h1, if_pos h1, if_pos h2, Nums.dz, ← slope_pos h]
    simp only [← EReal.coe_zero, ← EReal.coe_one, ← EReal.coe_mul, ← EReal.coe_sub, ← EReal.coe_add]
    congr 1; ring

theorem dal_val : e.dal (ix2 0 0) = (r.dal : EReal) := by
  pointwise [Vecs.dal, zz]
  rw [lane_apply]
  pointwise
  simp only [da_val H, sp_val H, eal_val H, ← EReal.coe_mul, ← coe_sum]; rfl

theorem ddb_val : e.ddb (ix2 0 0) = (r.ddb : EReal) := by
  rw [Vecs.ddb, lane_apply]
  simp only [dz_val H, ← coe_sum]; rfl

theorem dsc_val (i j : Fin 64) : e.dsc (ix2 i j) = (r.dsc i j : EReal) := by
  pointwise [Vecs.dsc]
  rw [dyx_val H, decay_val H]; rfl

theorem dbh_val (i : Fin 64) (k : Fin 128) : e.dbh (ix2 i k) = (r.dbh i k : EReal) := by
  pointwise [Vecs.dbh, Vecs.dhc]
  simp only [xd_val H, out_val H, H.dh, ← EReal.coe_mul, ← coe_sum]; rfl

theorem dch_val (i : Fin 64) (k : Fin 128) : e.dch (ix2 i k) = (r.dch i k : EReal) := by
  pointwise [Vecs.dch]
  simp only [dye_val H, H.h, ← EReal.coe_mul, ← coe_sum]; rfl

end Cert.KernelIdeal.Head
-- ==== Proof.Args.lean ====
/-
  The arguments as real numbers: what finite argument arrays hold, one head's sequence cut out of them, and the running
  sums that the host takes along the tokens.
-/
module

public import proofs.«01_k».proof.Proof.Line
public import proofs.«01_k».proof.Proof.HeadValue
public import Idealize.ShloMosaic.Lib.Pointwise

@[expose] public section

noncomputable section

namespace Cert.KernelIdeal.Head

open Idealize.ShloMosaic Finset

/-- The six arguments' entries: the mixed channels by token and column, the step sizes by token and head, the two rows of
    parameters by head, the output's cotangent and the extra one by token and column. -/
structure Args where
  xbc : ℕ → ℕ → ℝ
  dt : ℕ → ℕ → ℝ
  al : ℕ → ℝ
  db : ℕ → ℝ
  dy : ℕ → ℕ → ℝ
  dxe : ℕ → ℕ → ℝ

/-- The sequence of head `q` of group `g`. -/
def Args.line (r : Args) (g q : ℕ) : Line where
  x s p := r.xbc s (g * 256 + q * 64 + p.val)
  b s k := r.xbc s (1024 + (g * 128 + k.val))
  c s k := r.xbc s (1536 + (g * 128 + k.val))
  dt s := r.dt s (g * 4 + q)
  al := r.al (g * 4 + q)
  db := r.db (g * 4 + q)
  dy s p := r.dy s (g * 256 + q * 64 + p.val)
  dxe s p := r.dxe s (g * 256 + q * 64 + p.val)

/-- The arrays hold the numbers, and no step size sits on the kink. -/
structure Fits (x0 : (⟨2, ![2048, 2048]⟩ : Shape).Idx → EReal) (x1 : (⟨2, ![2048, 16]⟩ : Shape).Idx → EReal)
    (x2 x3 : (⟨1, ![16]⟩ : Shape).Idx → EReal) (x4 x5 : (⟨2, ![2048, 1024]⟩ : Shape).Idx → EReal) (r : Args) : Prop where
  xbc : ∀ i, x0 i = (r.xbc (i 0).val (i 1).val : EReal)
  dt : ∀ i, x1 i = (r.dt (i 0).val (i 1).val : EReal)
  al : ∀ i, x2 i = (r.al (i 0).val : EReal)
  db : ∀ i, x3 i = (r.db (i 0).val : EReal)
  dy : ∀ i, x4 i = (r.dy (i 0).val (i 1).val : EReal)
  dxe : ∀ i, x5 i = (r.dxe (i 0).val (i 1).val : EReal)
  ne : ∀ s h, s < 2048 → h < 16 → r.dt s h + r.db h ≠ 0

/-! ## Running sums -/

theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem coe_sum_range (n : ℕ) (f : ℕ → ℝ) : ((∑ i ∈ range n, f i : ℝ) : EReal) = ∑ i ∈ range n, (f i : EReal) :=
  map_sum (⟨⟨Real.toEReal, EReal.coe_zero⟩, EReal.coe_add⟩ : ℝ →+ EReal) f (range n)

/-- The place of a window's entry. -/
abbrev W (n : Fin (⟨3, ![2048, 1, 1]⟩ : Shape).numel) : (⟨3, ![2048, 1, 1]⟩ : Shape).Idx := (Shape.rowMajor ⟨3, ![2048, 1, 1]⟩).symm n

/-- A window as long as the tokens, slid along them over an array padded by zeros: each entry is the sum of what the window
    meets. -/
theorem window_sum (lo hi : ℕ) (x : FVec Ideal ⟨3, ![2048, 4, 4]⟩ .f32) (v : FVec Ideal ⟨0, ![]⟩ .f32)
    (h : (⟨3, ![2048, 4, 4]⟩ : Shape).ReduceWindows ![2048, 1, 1] ![1, 1, 1] ![lo, 0, 0] ![hi, 0, 0] ⟨3, ![2048, 4, 4]⟩)
    (hu : 0 < (⟨0, ![]⟩ : Shape).numel) (hv : ∀ i, v i = (0 : EReal)) (g q : Fin 4) (f : ℕ → ℝ)
    (hx : ∀ s : Fin 2048, x (ix3 s g q) = (f s.val : EReal)) (l : Fin 2048) :
    Host.reduceWindowAdd (F := Ideal) ![2048, 1, 1] ![1, 1, 1] ![lo, 0, 0] ![hi, 0, 0] x v h hu (ix3 l g q)
      = ((∑ n ∈ range 2048, if lo ≤ l.val + n ∧ l.val + n - lo < 2048 then f (l.val + n - lo) else 0 : ℝ) : EReal) := by
  unfold Host.reduceWindowAdd
  rw [Ideal.hostReduceWindowAdd_def]
  unfold Ideal.hostReduceWindowAdd Host.reduceWindow
  refine (foldl_sum _ _ _).trans ?_
  rw [hv, zero_add, ← Fin.sum_univ_def]
  refine (Fintype.sum_equiv (Shape.rowMajor ⟨3, ![2048, 1, 1]⟩).symm _ (fun w : (⟨3, ![2048, 1, 1]⟩ : Shape).Idx =>
    ((if lo ≤ l.val + (w 0).val ∧ l.val + (w 0).val - lo < 2048 then f (l.val + (w 0).val - lo) else 0 : ℝ) : EReal)) fun n => ?_).trans ?_
  · have h1 : (W n 1).val = 0 := by have : (W n 1).val < 1 := (W n 1).isLt; omega
    have h2 : (W n 2).val = 0 := by have : (W n 2).val < 1 := (W n 2).isLt; omega
    by_cases hc : lo ≤ l.val + (W n 0).val ∧ l.val + (W n 0).val - lo < 2048
    · rw [if_pos hc]
      refine (dif_pos (fun a => ?_)).trans ?_
      · have := g.isLt
        have := q.isLt
        match a with
        | ⟨0, _⟩ => show lo ≤ l.val * 1 + (W n 0).val ∧ l.val * 1 + (W n 0).val - lo < 2048; omega
        | ⟨1, _⟩ => show 0 ≤ g.val * 1 + (W n 1).val ∧ g.val * 1 + (W n 1).val - 0 < 4; omega
        | ⟨2, _⟩ => show 0 ≤ q.val * 1 + (W n 2).val ∧ q.val * 1 + (W n 2).val - 0 < 4; omega
      · refine (congrArg x (funext fun a => Fin.ext ?_)).trans (hx ⟨l.val + (W n 0).val - lo, hc.2⟩)
        match a with
        | ⟨0, _⟩ => show l.val * 1 + (W n 0).val - lo = _ ; rw [Nat.mul_one]; rfl
        | ⟨1, _⟩ => show g.val * 1 + (W n 1).val - 0 = g.val; omega
        | ⟨2, _⟩ => show q.val * 1 + (W n 2).val - 0 = q.val; omega
    · rw [if_neg hc]
      refine (dif_neg fun ha => ?_).trans EReal.coe_zero.symm
      have h0 : lo ≤ l.val * 1 + (W n 0).val
        ∧ l.val * 1 + (W n 0).val - lo < 2048 := ha 0
      exact hc (by omega)
  · rw [sum_idx3, coe_sum_range, Finset.sum_range]
    refine Finset.sum_congr rfl fun n _ => ?_
    simp only [Fin.sum_univ_one]
    rfl

/-- The sum of the entries up to one. -/
theorem window_low (f : ℕ → ℝ) (l : ℕ) (hl : l < 2048) :
    (∑ n ∈ range 2048, if 2047 ≤ l + n ∧ l + n - 2047 < 2048 then f (l + n - 2047) else 0) = ∑ s ∈ range (l + 1), f s := by
  rw [← Finset.sum_filter]
  refine Finset.sum_nbij' (fun n => l + n - 2047) (fun s => s + 2047 - l) ?_ ?_ ?_ ?_ (fun _ _ => rfl)
  all_goals intro a ha; simp only [mem_filter, mem_range] at ha ⊢; omega

/-- The sum of the entries from one on. -/
theorem window_high (f : ℕ → ℝ) (l : ℕ) (hl : l < 2048) :
    (∑ n ∈ range 2048, if 0 ≤ l + n ∧ l + n - 0 < 2048 then f (l + n - 0) else 0) = ∑ s ∈ Ico l 2048, f s := by
  rw [← Finset.sum_filter]
  refine Finset.sum_nbij' (fun n => l + n - 0) (fun s => s - l) ?_ ?_ ?_ ?_ (fun _ _ => rfl)
  all_goals intro a ha; simp only [mem_filter, mem_range, mem_Ico] at ha ⊢; omega

end Cert.KernelIdeal.Head
-- ==== Proof.RefValue.lean ====
/-
  What each array of the reference holds at an index, for arguments that hold real numbers: the gradients of one head's
  sequence, as sums over all pairs of tokens.
-/
module

public import proofs.«01_k».proof.Proof.Args
public import proofs.«01_k».proof.Proof.Gen.ReferenceIdeal.Read

@[expose] public section

noncomputable section

namespace Cert.ReferenceIdeal.Dense

open Idealize.ShloMosaic Cert.ReferenceIdeal Cert.ReferenceIdeal.Gen Cert.ReferenceIdeal.Read Cert.KernelIdeal.Head Finset

variable {x0 : Vec Ideal S2048x2048 .f32} {x1 : Vec Ideal S2048x16 .f32} {x2 x3 : Vec Ideal S16 .f32}
  {x4 x5 : Vec Ideal S2048x1024 .f32} {r : Args} (H : Fits x0 x1 x2 x3 x4 x5 r)

/-- The two infinities as the programs write them, and the comparison of two positions as 32-bit words. -/
theorem top : Ideal.ofBits .f32 0x7F800000#32 = ⊤ := by simp [Ideal.ofBits, Ideal.ieee]
theorem bot : Ideal.ofBits .f32 0xFF800000#32 = ⊥ := by simp [Ideal.ofBits, Ideal.ieee]
theorem word_le (l s : Fin 2048) : Scalar.select (IntOp.cmpi .sge (IntOp.addi (BitVec.ofNat 32 l.val) 0#32) (BitVec.ofNat 32 s.val)) 1#1 0#1
    = BitVec.ofBool (decide (s.val ≤ l.val)) := by
  have hl : (BitVec.ofNat 32 l.val).toInt = l.val := by
    rw [BitVec.toInt_eq_toNat_of_lt] <;> simp <;> omega
  have hs : (BitVec.ofNat 32 s.val).toInt = s.val := by
    rw [BitVec.toInt_eq_toNat_of_lt] <;> simp <;> omega
  have ha : IntOp.addi (BitVec.ofNat 32 l.val) 0#32 = BitVec.ofNat 32 l.val := BitVec.add_zero _
  rw [ha, show IntOp.cmpi .sge (BitVec.ofNat 32 l.val) (BitVec.ofNat 32 s.val) = BitVec.ofBool (decide (s.val ≤ l.val)) from by
    unfold IntOp.cmpi
    simp only [BitVec.sle, hl, hs, Nat.cast_le], select_bool]
  split_ifs with h <;> simp [h]

include H

theorem z_val (l : Fin 2048) (h : Fin 16) : val_main_v8 x1 x3 (ix2 l h) = ((r.dt l.val h.val + r.db h.val : ℝ) : EReal) := by
  pointwise [val_main_v8, val_main_v7, val_main_v6]
  rw [H.dt, H.db]; rfl

theorem sp_val (l : Fin 2048) (h : Fin 16) :
    val_main_v9_0 x1 x3 (ix2 l h) = (softplus (r.dt l.val h.val + r.db h.val) : EReal) := by
  pointwise [val_main_v9_0, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst]
  rw [z_val H, if_neg (fun h => h rfl), absf_coe, ← EReal.coe_neg, Ideal.exp_coe, log1p_exp, coe_max0, softplus, zero_sub]; rfl

theorem slope_val (l : Fin 2048) (h : Fin 16) :
    val_main_v9_1 x1 x3 (ix2 l h) = (slope (r.dt l.val h.val + r.db h.val) : EReal) := by
  pointwise [val_main_v9_1, val_main_call0_v21, val_main_call0_v20, val_main_call0_v16, val_main_call0_v19, val_main_call0_v18,
    val_main_call0_v17, val_main_call0_v15, val_main_call0_v14, val_main_call0_v13, val_main_call0_cst_0, val_main_call0_cst_1,
    val_main_call0_cst_2, val_main_call0_cst_3]
  rw [z_val H, sp_val H, top, if_neg (EReal.coe_ne_top _), if_neg (EReal.coe_ne_top _), ← EReal.coe_sub, Ideal.exp_coe]; rfl

theorem x_val (l : Fin 2048) (g q : Fin 4) (p : Fin 64) : val_main_v3 x0 (ix4 l g q p) = ((r.line g q).x l p : EReal) := by
  pointwise [val_main_v3, val_main_v0]
  rw [H.xbc]; rfl

theorem b_val (l : Fin 2048) (g : Fin 4) (q : ℕ) (k : Fin 128) : val_main_v4 x0 (ix3 l g k) = ((r.line g q).b l k : EReal) := by
  pointwise [val_main_v4, val_main_v1]
  rw [H.xbc]; rfl

theorem c_val (l : Fin 2048) (g : Fin 4) (q : ℕ) (k : Fin 128) : val_main_v5 x0 (ix3 l g k) = ((r.line g q).c l k : EReal) := by
  pointwise [val_main_v5, val_main_v2]
  rw [H.xbc]; rfl

theorem dy_val (l : Fin 2048) (g q : Fin 4) (p : Fin 64) : val_main_v40 x4 (ix4 g q p l) = ((r.line g q).dy l p : EReal) := by
  pointwise [val_main_v40, val_main_v39]
  rw [H.dy]; rfl

theorem neg_exp_val (l : Fin 2048) (h : Fin 16) : val_main_v13 x2 (ix2 l h) = ((0 - Real.exp (r.al h.val) : ℝ) : EReal) := by
  pointwise [val_main_v13, val_main_v12, val_main_v11, val_main_v10]
  rw [H.al, zero_sub]; rfl

theorem a_val (l : Fin 2048) (g q : Fin 4) : val_main_v16 x1 x2 x3 (ix3 l g q) = ((r.line g q).a l : EReal) := by
  pointwise [val_main_v16, val_main_v14]
  rw [neg_exp_val H, sp_val H]; rfl

theorem spl_val (l : Fin 2048) (g q : Fin 4) : val_main_v15 x1 x3 (ix3 l g q) = ((r.line g q).sp l : EReal) := by
  pointwise [val_main_v15]
  rw [sp_val H]; rfl

theorem P_val (l : Fin 2048) (g q : Fin 4) : val_main_v17 x1 x2 x3 (ix3 l g q) = ((r.line g q).P (l + 1) : EReal) := by
  unfold val_main_v17
  refine (window_sum 2047 0 _ _ _ _ (fun i => ?_) g q (r.line g q).a (fun s => a_val H s g q) l).trans ?_
  · pointwise [val_main_call1_call0_v0, val_main_call1_call0_cst]
  · rw [window_low _ _ l.isLt]; rfl

omit H in
theorem mask_val (l s : Fin 2048) (g q : Fin 4) : val_main_v26_1 (F := Ideal) (ix4 l s g q) = BitVec.ofBool (decide (s.val ≤ l.val)) := by
  pointwise [val_main_v26_1, val_main_v25, val_main_v19, val_main_v18, val_main_c, val_main_call2_c_0, val_main_call2_v5,
    val_main_call2_v4, val_main_call2_v3, val_main_call2_v2, val_main_call2_v1, val_main_call2_v0, val_main_call2_c]
  exact word_le l s

theorem E_val (l s : Fin 2048) (g q : Fin 4) : val_main_v27 x1 x2 x3 (ix4 l s g q) = ((r.line g q).E l s : EReal) := by
  pointwise [val_main_v27, val_main_v26_0, val_main_v24, val_main_v23, val_main_v22, val_main_v21, val_main_v20, val_main_call3_v2,
    val_main_call3_v0, val_main_cst]
  rw [mask_val, select_bool, P_val H, P_val H]
  rw [show id (constant (F := Ideal) S_ .f32 0xFF800000#32) ix0 = (⊥ : EReal) from bot, Line.E]
  split_ifs
  · rw [← EReal.coe_sub, Ideal.exp_coe]
  · rfl

theorem G_val (l s : Fin 2048) (g : Fin 4) (q : ℕ) : val_main_v29 x0 (ix3 l s g) = ((r.line g q).G l s : EReal) := by
  pointwise [val_main_v29, val_main_v28]
  simp only [b_val H _ g q, c_val H _ g q, mul_comm ((Line.b _ _ _ : ℝ) : EReal), ← EReal.coe_mul, ← coe_sum]; rfl

theorem xd_val (s : Fin 2048) (g q : Fin 4) (p : Fin 64) : val_main_v35 x0 x1 x3 (ix4 s g q p) = ((r.line g q).xd s p : EReal) := by
  pointwise [val_main_v35, val_main_v34, val_main_v33]
  rw [x_val H, spl_val H]; rfl

theorem Q_val (l s : Fin 2048) (g q : Fin 4) : val_main_v42 x0 x1 x3 x4 (ix4 l s g q) = ((r.line g q).Q l s : EReal) := by
  pointwise [val_main_v42, val_main_v41]
  simp only [dy_val H, xd_val H, ← EReal.coe_mul, ← coe_sum]; rfl

theorem dxd_val (s : Fin 2048) (g q : Fin 4) (p : Fin 64) :
    val_main_v44 x0 x1 x2 x3 x4 (ix4 s g q p) = ((r.line g q).dxd s p : EReal) := by
  pointwise [val_main_v44, val_main_v43, val_main_v32, val_main_v31, val_main_v30]
  simp only [dy_val H, E_val H, G_val H _ _ g q, mul_comm ((Line.dy _ _ _ : ℝ) : EReal), ← EReal.coe_mul, ← coe_sum]
  rw [Line.dxd, Finset.sum_range]

theorem dx_val (l : Fin 2048) (g q : Fin 4) (p : Fin 64) (n : Fin 1024) (hn : n.val = g.val * 256 + q.val * 64 + p.val) :
    val_main_v94 x0 x1 x2 x3 x4 x5 (ix2 l n) = ((r.line g q).dx l p : EReal) := by
  have hb : g.val * 256 + q.val * 64 + p.val < 1024 := by omega
  obtain rfl : n = ⟨g.val * 256 + q.val * 64 + p.val, hb⟩ := Fin.ext hn
  pointwise [val_main_v94, val_main_v90, val_main_v49, val_main_v48, val_main_v33]
  rw [dxd_val H, spl_val H, H.dxe]
  rfl

theorem QE_val (l s : Fin 2048) (g : Fin 4) : val_main_v57 x0 x1 x2 x3 x4 (ix3 g s l)
    = ((∑ q : Fin 4, (r.line g q).Q l s * (r.line g q).E l s : ℝ) : EReal) := by
  pointwise [val_main_v57, val_main_v56, val_main_v55, val_main_v54, val_main_v53, val_main_cst_3, val_main_cst_2]
  simp only [Fin.sum_univ_one, Q_val H, E_val H, ← EReal.coe_mul, ← coe_sum]

theorem dC_val (l : Fin 2048) (g : Fin 4) (k : Fin 128) : val_main_v59 x0 x1 x2 x3 x4 (ix3 l g k)
    = ((∑ q : Fin 4, (r.line g q).dC l k : ℝ) : EReal) := by
  pointwise [val_main_v59, val_main_v58]
  simp only [QE_val H, b_val H _ g 0, ← EReal.coe_mul, ← coe_sum]
  refine congrArg Real.toEReal ?_
  simp only [Line.dC, Finset.sum_mul, Finset.sum_range]
  exact Finset.sum_comm

theorem dB_val (s : Fin 2048) (g : Fin 4) (k : Fin 128) : val_main_v61 x0 x1 x2 x3 x4 (ix3 s g k)
    = ((∑ q : Fin 4, (r.line g q).dB s k : ℝ) : EReal) := by
  pointwise [val_main_v61, val_main_v60]
  simp only [QE_val H, c_val H _ g 0, ← EReal.coe_mul, ← coe_sum]
  refine congrArg Real.toEReal ?_
  simp only [Line.dB, Finset.sum_mul, Finset.sum_range]
  exact Finset.sum_comm

theorem W_val (l s : Fin 2048) (g q : Fin 4) : val_main_v63 x0 x1 x2 x3 x4 (ix4 l s g q) = ((r.line g q).W l s : EReal) := by
  pointwise [val_main_v63, val_main_v62, val_main_v52, val_main_v51, val_main_v30, val_main_call4_v0, val_main_call4_cst]
  rw [mask_val, select_bool, G_val H _ _ g q, Q_val H, E_val H]
  unfold Line.W Line.E
  split_ifs
  · rfl
  · rw [mul_zero, EReal.coe_zero]

theorem dP_val (l : Fin 2048) (g q : Fin 4) : val_main_v71 x0 x1 x2 x3 x4 (ix3 l g q)
    = (((∑ s ∈ range Line.T, (r.line g q).W l s) - ∑ l' ∈ range Line.T, (r.line g q).W l' l : ℝ) : EReal) := by
  pointwise [val_main_v71, val_main_v70, val_main_v69, val_main_v68, val_main_v67, val_main_v66, val_main_v65, val_main_v64,
    val_main_cst_4, val_main_cst_5, val_main_cst_6, val_main_cst_7]
  simp only [Fin.sum_univ_one, W_val H, ← EReal.coe_neg, ← coe_sum, ← EReal.coe_add]
  rw [Finset.sum_range, Finset.sum_range, Finset.sum_neg_distrib]
  refine congrArg Real.toEReal ?_
  ring

theorem da_val (l : Fin 2048) (g q : Fin 4) : val_main_v72 x0 x1 x2 x3 x4 (ix3 l g q) = ((r.line g q).da l : EReal) := by
  unfold val_main_v72
  refine (window_sum 0 2047 _ _ _ _ (fun i => ?_) g q (fun l => (∑ s ∈ range Line.T, (r.line g q).W l s) - ∑ l' ∈ range Line.T, (r.line g q).W l' l)
    (fun s => dP_val H s g q) l).trans ?_
  · pointwise [val_main_call5_call0_v0, val_main_call5_call0_cst]
  · exact congrArg Real.toEReal (window_high (fun l => (∑ s ∈ range Line.T, (r.line g q).W l s) - ∑ l' ∈ range Line.T, (r.line g q).W l' l) _ l.isLt)

theorem dsp_val (l : Fin 2048) (g q : Fin 4) (h : Fin 16) (hh : h.val = g.val * 4 + q.val) :
    val_main_v77 x0 x1 x2 x3 x4 (ix2 l h) = ((r.line g q).dsp l : EReal) := by
  have hb : g.val * 4 + q.val < 16 := by omega
  obtain rfl : h = ⟨g.val * 4 + q.val, hb⟩ := Fin.ext hh
  pointwise [val_main_v77, val_main_v76, val_main_v75, val_main_v74, val_main_v73, val_main_v50, val_main_v47, val_main_v46, val_main_v45,
    val_main_v12, val_main_v11, val_main_v10, val_main_cst_0, val_main_cst_1]
  simp only [Fin.sum_univ_one, x_val H, dxd_val H, da_val H, H.al, ← EReal.coe_mul, ← coe_sum]
  rw [Ideal.exp_coe, Line.dsp, zero_sub]; rfl

theorem dal_val (g q : Fin 4) : val_main_v95 x0 x1 x2 x3 x4 (ix3 g q 0) = ((r.line g q).dal : EReal) := by
  pointwise [val_main_v95, val_main_v83, val_main_v82, val_main_v81, val_main_v80, val_main_v79, val_main_v78, val_main_v73, val_main_v10,
    val_main_cst_8, val_main_cst_9]
  simp only [Fin.sum_univ_one, da_val H, sp_val H, H.al, ← EReal.coe_mul, ← coe_sum]
  rw [Ideal.exp_coe, Line.dal, Finset.sum_range, zero_sub]; rfl

theorem dz_val (l : Fin 2048) (g q : Fin 4) (h : Fin 16) (hh : h.val = g.val * 4 + q.val) :
    val_main_v84 x0 x1 x2 x3 x4 (ix2 l h) = ((r.line g q).dz l : EReal) := by
  pointwise [val_main_v84]
  rw [dsp_val H l g q h hh, slope_val H, hh]; rfl

theorem ddb_val (g q : Fin 4) : val_main_v96 x0 x1 x2 x3 x4 (ix3 g q 0) = ((r.line g q).ddb : EReal) := by
  pointwise [val_main_v96, val_main_v87, val_main_v86, val_main_v85, val_main_cst_10, val_main_cst_11]
  simp only [Fin.sum_univ_one, fun l => dz_val H l g q ⟨g.val * 4 + q.val, by omega⟩ rfl, ← coe_sum]
  rw [Line.ddb, Finset.sum_range]

theorem ddt_val (g q : Fin 4) (n : Fin 32) (j : Fin 64) :
    val_main_v93 x0 x1 x2 x3 x4 (ix4 g n q j) = ((r.line g q).dz (64 * n.val + j.val) : EReal) := by
  pointwise [val_main_v93, val_main_v92, val_main_v91]
  rw [dz_val H _ g q _ rfl]
  exact congrArg (fun l => (((r.line g q).dz l : ℝ) : EReal)) (by show n.val * 64 + j.val = _; omega)

end Cert.ReferenceIdeal.Dense
-- ==== Proof.Host.lean ====
/-
  What the host lines before the kernel hand it: the step sizes and the parameters by group and chunk, and the state that
  enters each chunk.
-/
module

public import proofs.«01_k».proof.Proof.RefValue
public import proofs.«01_k».proof.Proof.Gen.KernelIdeal.Frame
public import Idealize.ShloMosaic.Lib.StableHlo.ReadAt
public import Idealize.ShloMosaic.Lib.StableHlo.RunRead

@[expose] public section

set_option maxRecDepth 16384

noncomputable section

namespace Cert.KernelIdeal.Host

open Idealize.ShloMosaic Idealize.ShloMosaic.TcCoe Idealize.SL.Sem Idealize.ShloMosaic.StableHlo Cert.KernelIdeal.Gen Cert.KernelIdeal.Head Finset

variable (m : (ℓ : Loc nD τ sig) → Buf (Elt Ideal) ℓ) (c : Dev nD)

/-! ## The lines that compute the entering states, as functions of the arguments -/

section
variable (x0 : FVec Ideal S2048x2048 .f32) (x1 : FVec Ideal S2048x16 .f32) (x2 x3 : FVec Ideal S16 .f32)

/-- The running sum of the logs of the decay before each chunk. -/
def atEntry : FVec Ideal S32x4x4 .f32 :=
  shapeCast S32x4x4 (extractStridedSlice S32x1x4x4 ![0, 0, 0, 0]
    (shapeCast S32x64x4x4 (extractStridedSlice S2048x4x4 ![0, 0, 0]
      (pad S2049x4x4 ![1, 0, 0] ![0, 0, 0] ![0, 0, 0] (Cert.ReferenceIdeal.Read.val_main_v17 (F := Ideal) x1 x2 x3)
        (sitofp (F := Ideal) .f32 (constantI S_ 32 0#32)) pads_S2048x4x4_S2049x4x4_100_000_000 h_S_)
      slices_S2049x4x4_S2048x4x4_0_0_0) shapeCasts_S2048x4x4_S32x64x4x4)
    slices_S32x64x4x4_S32x1x4x4_0_0_0_0) shapeCasts_S32x1x4x4_S32x4x4

/-- Which tokens come before each chunk. -/
def earlier : IVec S32x2048 1 :=
  cmpi .slt (broadcastInDim S32x2048 ![0, 1] bcast_S1x2048_S32x2048_0_1 (broadcastInDim S1x2048 ![1] bcast_S2048_S1x2048_1 (iotaInDim S2048 32 0)))
    (broadcastInDim S32x2048 ![0, 1] bcast_S32x1_S32x2048_0_1 (muli (broadcastInDim S32x1 ![] bcast_S_S32x1 (constantI S_ 32 64#32))
      (broadcastInDim S32x1 ![0] bcast_S32_S32x1_0 (iotaInDim S32 32 0))))

/-- The decay from each token to each later chunk's start, zero from the others. -/
def decayIn : FVec Ideal S32x2048x4x4 .f32 :=
  Host.exp (select (broadcastInDim S32x2048x4x4 ![0, 1, 2, 3] bcast_S32x2048x1x1_S32x2048x4x4_0_1_2_3
      (broadcastInDim S32x2048x1x1 ![0, 1] bcast_S32x2048_S32x2048x1x1_0_1 earlier))
    (subf (broadcastInDim S32x2048x4x4 ![0, 1, 2, 3] bcast_S32x1x4x4_S32x2048x4x4_0_1_2_3
        (broadcastInDim S32x1x4x4 ![0, 2, 3] bcast_S32x4x4_S32x1x4x4_0_2_3 (atEntry x1 x2 x3)))
      (broadcastInDim S32x2048x4x4 ![0, 1, 2, 3] bcast_S1x2048x4x4_S32x2048x4x4_0_1_2_3
        (broadcastInDim S1x2048x4x4 ![1, 2, 3] bcast_S2048x4x4_S1x2048x4x4_1_2_3 (Cert.ReferenceIdeal.Read.val_main_v17 (F := Ideal) x1 x2 x3))))
    (broadcastInDim S32x2048x4x4 ![] bcast_S_S32x2048x4x4 (constant S_ .f32 0xFF800000#32)))

/-- The state that enters each chunk. -/
def states : FVec Ideal S4x32x4x64x128 .f32 :=
  Host.dotGeneral (φ₁ := .f32) (φ₂ := .f32) dot_S32x2048x4x4x64_S2048x4x128_S4x32x4x64x128_1_0_034_2_2_1 none
    (mulf (broadcastInDim S32x2048x4x4x64 ![0, 1, 2, 3, 4] bcast_S32x2048x4x4x1_S32x2048x4x4x64_0_1_2_3_4
        (broadcastInDim S32x2048x4x4x1 ![0, 1, 2, 3] bcast_S32x2048x4x4_S32x2048x4x4x1_0_1_2_3 (decayIn x1 x2 x3)))
      (broadcastInDim S32x2048x4x4x64 ![0, 1, 2, 3, 4] bcast_S1x2048x4x4x64_S32x2048x4x4x64_0_1_2_3_4
        (broadcastInDim S1x2048x4x4x64 ![1, 2, 3, 4] bcast_S2048x4x4x64_S1x2048x4x4x64_1_2_3_4 (Cert.ReferenceIdeal.Read.val_main_v35 (F := Ideal) x0 x1 x3))))
    (Cert.ReferenceIdeal.Read.val_main_v4 (F := Ideal) x0)
end

theorem dt_read (g : Fin 4) (n : Fin 32) (h : Fin 4) (j : Fin 64) : (V m c main_v51 : S4x32x4x64.Idx → EReal) (ix4 g n h j)
    = m ((c : Thread nD τ).loc main_arg1) (ix2 (⟨n.val * 64 + j.val, by omega⟩ : Fin 2048) (⟨g.val * 4 + h.val, by omega⟩ : Fin 16)) := by
  after_reads_at

theorem al_read (g h : Fin 4) : (V m c main_v52 : S4x4x1.Idx → EReal) (ix3 g h 0)
    = m ((c : Thread nD τ).loc main_arg2) (ix1 (⟨g.val * 4 + h.val, by omega⟩ : Fin 16)) := by
  after_reads_at

theorem db_read (g h : Fin 4) : (V m c main_v53 : S4x4x1.Idx → EReal) (ix3 g h 0)
    = m ((c : Thread nD τ).loc main_arg3) (ix1 (⟨g.val * 4 + h.val, by omega⟩ : Fin 16)) := by
  after_reads_at

theorem states_read : (V m c main_v48 : S4x32x4x64x128.Idx → EReal) = states (m ((c : Thread nD τ).loc main_arg0))
    (m ((c : Thread nD τ).loc main_arg1)) (m ((c : Thread nD τ).loc main_arg2)) (m ((c : Thread nD τ).loc main_arg3)) := by
  after_reads_simp
  simp -implicitDefEqProofs only [StableHlo.TRef.toBuf, StableHlo.TRef.ofBuf, cast_cast, cast_eq]
  rfl

/-! ## At an index, for arguments that hold real numbers -/

variable {x0 : FVec Ideal S2048x2048 .f32} {x1 : FVec Ideal S2048x16 .f32} {x2 x3 : FVec Ideal S16 .f32}
  {x4 x5 : FVec Ideal S2048x1024 .f32} {r : Args} (H : Fits x0 x1 x2 x3 x4 x5 r)
include H

omit H in
theorem sitofp_zero : (FloatOps.sitofp (F := Ideal) .f32 0#32 : EReal) = ((0 : ℝ) : EReal) := by
  show ((((0#32 : BitVec 32).toInt : ℝ)) : EReal) = _
  simp

theorem atEntry_val (n : Fin 32) (g q : Fin 4) : atEntry x1 x2 x3 (ix3 n g q) = ((r.line g q).P (64 * n.val) : EReal) := by
  pointwise [atEntry]
  have hn := n.isLt
  obtain hz | hz : n.val = 0 ∨ 1 ≤ n.val := by omega
  · rw [dif_neg (by omega), hz]
    exact (sitofp_zero).trans (by simp [Line.P])
  · rw [dif_pos (by omega)]
    refine (Cert.ReferenceIdeal.Dense.P_val H _ g q).trans ?_
    exact congrArg (fun l => (((r.line g q).P l : ℝ) : EReal)) (by show n.val * 64 - 1 + 1 = _; omega)

omit H in
theorem earlier_val (n : Fin 32) (s : Fin 2048) : earlier (ix2 n s) = BitVec.ofBool (decide (s.val < 64 * n.val)) := by
  pointwise [earlier]
  have hn := n.isLt
  have hs : (BitVec.ofNat 32 s.val).toInt = s.val := by
    rw [BitVec.toInt_eq_toNat_of_lt] <;> simp <;> omega
  have hm : IntOp.muli 64#32 (BitVec.ofNat 32 n.val) = BitVec.ofNat 32 (64 * n.val) := by
    show 64#32 * BitVec.ofNat 32 n.val = _
    exact (BitVec.ofNat_mul 64 n.val).symm
  have hb : (BitVec.ofNat 32 (64 * n.val)).toInt = ((64 * n.val : ℕ) : ℤ) := by
    rw [BitVec.toInt_eq_toNat_of_lt] <;> simp <;> omega
  rw [hm]
  unfold IntOp.cmpi
  simp only [BitVec.slt, hs, hb, Nat.cast_lt]

theorem decayIn_val (n : Fin 32) (s : Fin 2048) (g q : Fin 4) : decayIn x1 x2 x3 (ix4 n s g q)
    = ((if s.val < 64 * n.val then Real.exp ((r.line g q).P (64 * n.val) - (r.line g q).P (s.val + 1)) else 0 : ℝ) : EReal) := by
  pointwise [decayIn]
  rw [earlier_val, select_bool, atEntry_val H, Cert.ReferenceIdeal.Dense.P_val H]
  split_ifs
  · rw [← EReal.coe_sub, Ideal.exp_coe]
  · rw [Cert.ReferenceIdeal.Dense.bot]
    rfl

theorem states_val (g q : Fin 4) (n : Fin 32) (p : Fin 64) (k : Fin 128) :
    states x0 x1 x2 x3 (ix5 g n q p k) = ((r.line g q).H n p k : EReal) := by
  pointwise [states]
  simp only [decayIn_val H, Cert.ReferenceIdeal.Dense.xd_val H, Cert.ReferenceIdeal.Dense.b_val H _ g q, ← EReal.coe_mul, ← coe_sum]
  refine congrArg Real.toEReal ?_
  have hn := n.isLt
  rw [Fin.sum_univ_eq_sum_range (fun s => (if s < 64 * n.val then Real.exp ((r.line g q).P (64 * n.val) - (r.line g q).P (s + 1)) else 0)
    * (r.line g q).xd s p * (r.line g q).b s k) 2048]
  simp only [ite_mul, zero_mul]
  rw [← Finset.sum_filter]
  refine Finset.sum_congr (Finset.ext fun s => ?_) fun _ _ => rfl
  simp only [Finset.mem_filter, Finset.mem_range]
  omega

end Cert.KernelIdeal.Host
-- ==== Proof.Block.lean ====
/-
  The vectors that each head of a grid point's block reads: the point's input blocks and the carried state cotangent,
  cut by head; and the two products that a group's heads share.
-/
module

public import proofs.«01_k».proof.Proof.HeadValue
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Block

open Idealize.ShloMosaic Idealize.SL.Sem Cert.KernelIdeal.Gen Cert.KernelIdeal.Head

variable [KernelIdeal.Facts]

/-- Column `p` of head `h` in a block of four heads. -/
def lanePos (h : Fin 4) (p : Fin 64) : Fin 256 := ⟨64 * h.val + p.val, by omega⟩

section
variable (x0 : Vec Ideal S64x256 .f32) (x1 x2 : Vec Ideal S64x128 .f32) (x3 : Vec Ideal S1x1x4x64 .f32) (x4 x5 : Vec Ideal S1x4x1 .f32)
  (x6 : Vec Ideal S1x1x4x64x128 .f32) (x7 x8 : Vec Ideal S64x256 .f32) (s : Vec Ideal S1x4x64x128 .f32)

/-- The vectors head `h` reads, cut out of the point's blocks and the carried state cotangent. -/
def heads (h : Fin 4) : Vecs where
  x := View.ld x0 (Rect.unit ![0, 64 * h.val] ![64, 64] (by intro a; fin_cases a <;> fin_cases h <;> decide))
  b := x1
  c := x2
  dt := shapeCast S1x64 (View.ld x3 (Rect.unit ![0, 0, h.val, 0] ![1, 1, 1, 64] (by intro a; fin_cases a <;> fin_cases h <;> decide)) : FVec Ideal S1x1x1x64 .f32) shapeCasts_S1x1x1x64_S1x64
  al := shapeCast S1x1 (View.ld x4 (Rect.unit ![0, h.val, 0] ![1, 1, 1] (by intro a; fin_cases a <;> fin_cases h <;> decide)) : FVec Ideal S1x1x1 .f32) shapeCasts_S1x1x1_S1x1
  db := shapeCast S1x1 (View.ld x5 (Rect.unit ![0, h.val, 0] ![1, 1, 1] (by intro a; fin_cases a <;> fin_cases h <;> decide)) : FVec Ideal S1x1x1 .f32) shapeCasts_S1x1x1_S1x1
  h := shapeCast S64x128 (View.ld x6 (Rect.unit ![0, 0, h.val, 0, 0] ![1, 1, 1, 64, 128] (by intro a; fin_cases a <;> fin_cases h <;> decide)) : FVec Ideal S1x1x1x64x128 .f32) shapeCasts_S1x1x1x64x128_S64x128
  dh := shapeCast S64x128 (View.ld s (Rect.unit ![0, h.val, 0, 0] ![1, 1, 64, 128] (by intro a; fin_cases a <;> fin_cases h <;> decide)) : FVec Ideal S1x1x64x128 .f32) shapeCasts_S1x1x64x128_S64x128
  dy := View.ld x7 (Rect.unit ![0, 64 * h.val] ![64, 64] (by intro a; fin_cases a <;> fin_cases h <;> decide))
  dxe := View.ld x8 (Rect.unit ![0, 64 * h.val] ![64, 64] (by intro a; fin_cases a <;> fin_cases h <;> decide))
end

/-- The zero state cotangent a group's run starts from. -/
abbrev zero4 : Vec Ideal S1x4x64x128 .f32 := shapeCast S1x4x64x128 (zz S1x4x64x128) shapeCasts_S1x4x64x128_S1x4x64x128

/-- The sum over the group's heads of the score cotangents, and the two gradients the group shares. -/
def dscAll (e : Fin 4 → Vecs) : V S64x64 := addf (addf (addf (e 3).dsc (e 2).dsc) (e 1).dsc) (e 0).dsc
def dbm (e : Fin 4 → Vecs) : V S64x128 := addf (addf (addf (addf (e 3).dbh (e 2).dbh) (e 1).dbh) (e 0).dbh)
  (matmul dot_S64x64_S64x128_S64x128_0_0_1_1_n_n none (lo (dscAll e)) (lo (e 0).c) (constant S64x128 .f32 0x00000000#32))
def dcm (e : Fin 4 → Vecs) : V S64x128 := addf (addf (addf (addf (e 3).dch (e 2).dch) (e 1).dch) (e 0).dch)
  (matmul dot_S64x64_S64x128_S64x128_1_0_0_1_n_n none (lo (dscAll e)) (lo (e 0).b) (constant S64x128 .f32 0x00000000#32))

/-- Four stores that cover the index hide an earlier store. -/
theorem canon_over {s : Shape} {e : EltTy} {Val : EltTy → Type} [∀ e, Nonempty (Val e)] (p3 p2 p1 p0 q : View.Piece Val s e) (y : s.Idx)
    (hc : ∃ p ∈ [p3, p2, p1, p0], y ∈ p.1.set) : View.canon [p3, p2, p1, p0, q] y = View.canon [p3, p2, p1, p0] y := by
  have go : ∀ L : List (View.Piece Val s e), (∃ p ∈ L, y ∈ p.1.set) → View.canon (L ++ [q]) y = View.canon L y := by
    intro L
    induction L with
    | nil => rintro ⟨_, h, _⟩; exact absurd h List.not_mem_nil
    | cons p L ih =>
      rintro ⟨p', hp', hy'⟩
      by_cases hy : y ∈ p.1.set
      · obtain ⟨x, rfl⟩ := (p.1.exists_idx_of_mem hy : ∃ x, p.1.emb x = y)
        exact (View.canon_cons_emb _ _ _ x).trans (View.canon_cons_emb _ _ _ x).symm
      · rw [List.cons_append, View.canon_cons_of_not_mem _ _ hy, View.canon_cons_of_not_mem _ _ hy]
        refine ih ⟨p', ?_, hy'⟩
        rcases List.mem_cons.mp hp' with rfl | h
        · exact absurd hy' hy
        · exact h
  exact go [p3, p2, p1, p0] hc

/-- A store of a head's new state cotangent under two unit axes, read at an index. -/
theorem state_piece (e : Vecs) (v : V S1x1x64x128) (h : v = shapeCast S1x1x64x128 e.dstate shapeCasts_S64x128_S1x1x64x128) (a b : Fin 1) (p : Fin 64)
    (k : Fin 128) : v (ix4 a b p k) = e.dstate (ix2 p k) := by subst h; pointwise

/-- A store of a per-head sum added to what its cell holds, read at its index. -/
theorem sum_piece (d : V S1x1) (old : V S1x1x1) (v : V S1x1x1)
    (h : v = shapeCast S1x1x1 (addf (shapeCast S1x1 old shapeCasts_S1x1x1_S1x1) d) shapeCasts_S1x1_S1x1x1) (o : EReal)
    (ho : old (ix3 0 0 0) = o) (a b c' : Fin 1) : v (ix3 a b c') = o + d (ix2 0 0) := by subst h ho; pointwise

/-- The first such store, over a cell that holds zero. -/
theorem first_piece (d : V S1x1) (old : V S1x1x1) (v : V S1x1x1)
    (h : v = shapeCast S1x1x1 (addf (shapeCast S1x1 old shapeCasts_S1x1x1_S1x1) d) shapeCasts_S1x1_S1x1x1)
    (ho : old (ix3 0 0 0) = 0) (a b c' : Fin 1) : v (ix3 a b c') = d (ix2 0 0) := by
  rw [sum_piece d old v h 0 ho, zero_add]

/-- A load of one cell of the per-head sums. -/
theorem cell_read (X : V S1x4x1) (h : Fin 4) (inb : ∀ a, (![0, h.val, 0] : Fin 3 → ℕ) a + (![1, 1, 1] : Fin 3 → ℕ) a ≤ S1x4x1.size a) :
    (View.ld (Val := Elt Ideal) (e' := .f32) X (Rect.unit (s := S1x4x1) ![0, h.val, 0] ![1, 1, 1] inb) : V S1x1x1) (ix3 0 0 0) = X (ix3 0 h 0) := by
  refine congrArg X (funext fun a => Fin.ext ?_)
  fin_cases a <;> rfl

/-- A store of a head's row under two unit axes, read at an index. -/
theorem row_piece (d : V S1x64) (v : V S1x1x1x64) (h : v = shapeCast S1x1x1x64 d shapeCasts_S1x64_S1x1x1x64) (a b c' : Fin 1) (j : Fin 64) :
    v (ix4 a b c' j) = d (ix2 0 j) := by subst h; pointwise

variable (m : (ℓ : Loc nD τ sig) → Buf (Elt Ideal) ℓ) (c : Dev nD) (t : Fin cfg0.N)

/-- Head `h`'s vectors at the point, for the state cotangent `s`. -/
def headAt (s : Vec Ideal S1x4x64x128 .f32) (h : Fin 4) : Vecs :=
  heads (iblk m c 0 t) (iblk m c 1 t) (iblk m c 2 t) (iblk m c 3 t) (iblk m c 4 t) (iblk m c 5 t) (iblk m c 6 t) (iblk m c 7 t) (iblk m c 8 t) s h

/-- What the point before left: its six blocks and the state cotangent. -/
abbrev before := outsAt0 m c (t.val - 1) (Nat.lt_of_le_of_lt (Nat.sub_le _ _) t.isLt)

theorem head_cases (h : Fin 4) : h = 0 ∨ h = 1 ∨ h = 2 ∨ h = 3 := by omega

end Cert.KernelIdeal.Block
-- ==== Proof.Blocks.lean ====
/-
  What the point's input blocks hold: the places of the arrays that they are cut from, and so the numbers that the heads
  of that point's chunk read. Point `t` works on group `t / 32` and on chunk `31 - t % 32`.
-/
module

public import proofs.«01_k».proof.Proof.Host
public import proofs.«01_k».proof.Proof.Block
public import Idealize.ShloMosaic.Lib.Pipeline.ValueKit.Point

@[expose] public section

set_option maxRecDepth 16384

noncomputable section

namespace Cert.KernelIdeal.Block

open Idealize.ShloMosaic Idealize.SL.Sem Idealize.ShloMosaic.TcCoe Cert.KernelIdeal.Gen Cert.KernelIdeal.Head Cert.KernelIdeal.Host

theorem index0 : ∀ t : Fin cfg0.N, win0_0.index t = ![31 - t.val % 32, t.val / 32] := (by decide +kernel : ∀ t : Fin grid0.N, win0_0.index t = ![31 - t.val % 32, t.val / 32])
theorem index1 : ∀ t : Fin cfg0.N, win0_1.index t = ![31 - t.val % 32, 8 + t.val / 32] := (by decide +kernel : ∀ t : Fin grid0.N, win0_1.index t = ![31 - t.val % 32, 8 + t.val / 32])
theorem index2 : ∀ t : Fin cfg0.N, win0_2.index t = ![31 - t.val % 32, 12 + t.val / 32] := (by decide +kernel : ∀ t : Fin grid0.N, win0_2.index t = ![31 - t.val % 32, 12 + t.val / 32])
theorem index3 : ∀ t : Fin cfg0.N, win0_3.index t = ![t.val / 32, 31 - t.val % 32, 0, 0] := (by decide +kernel : ∀ t : Fin grid0.N, win0_3.index t = ![t.val / 32, 31 - t.val % 32, 0, 0])
theorem index4 : ∀ t : Fin cfg0.N, win0_4.index t = ![t.val / 32, 0, 0] := (by decide +kernel : ∀ t : Fin grid0.N, win0_4.index t = ![t.val / 32, 0, 0])
theorem index5 : ∀ t : Fin cfg0.N, win0_5.index t = ![t.val / 32, 0, 0] := (by decide +kernel : ∀ t : Fin grid0.N, win0_5.index t = ![t.val / 32, 0, 0])
theorem index6 : ∀ t : Fin cfg0.N, win0_6.index t = ![t.val / 32, 31 - t.val % 32, 0, 0, 0] := (by decide +kernel : ∀ t : Fin grid0.N, win0_6.index t = ![t.val / 32, 31 - t.val % 32, 0, 0, 0])
theorem index7 : ∀ t : Fin cfg0.N, win0_7.index t = ![31 - t.val % 32, t.val / 32] := (by decide +kernel : ∀ t : Fin grid0.N, win0_7.index t = ![31 - t.val % 32, t.val / 32])
theorem index8 : ∀ t : Fin cfg0.N, win0_8.index t = ![31 - t.val % 32, t.val / 32] := (by decide +kernel : ∀ t : Fin grid0.N, win0_8.index t = ![31 - t.val % 32, t.val / 32])

theorem point_lt (t : Fin cfg0.N) : t.val < 128 := t.isLt

variable (m : (ℓ : Loc nD τ sig) → Buf (Elt Ideal) ℓ) (c : Dev nD) (t : Fin cfg0.N)

theorem block0 (i : Fin 64) (w : Fin 256) : (iblk m c 0 t : S64x256.Idx → EReal) (ix2 i w)
    = m ((c : Thread nD τ).loc main_arg0) (ix2 (⟨(31 - t.val % 32) * 64 + i.val, by omega⟩ : Fin 2048) (⟨t.val / 32 * 256 + w.val, by have := point_lt t; omega⟩ : Fin 2048)) := by
  have := point_lt t
  blk_ext [iblk, V_main_arg0, index0 t]

theorem block1 (i : Fin 64) (w : Fin 128) : (iblk m c 1 t : S64x128.Idx → EReal) (ix2 i w)
    = m ((c : Thread nD τ).loc main_arg0) (ix2 (⟨(31 - t.val % 32) * 64 + i.val, by omega⟩ : Fin 2048) (⟨(8 + t.val / 32) * 128 + w.val, by have := point_lt t; omega⟩ : Fin 2048)) := by
  have := point_lt t
  blk_ext [iblk, V_main_arg0, index1 t]

theorem block2 (i : Fin 64) (w : Fin 128) : (iblk m c 2 t : S64x128.Idx → EReal) (ix2 i w)
    = m ((c : Thread nD τ).loc main_arg0) (ix2 (⟨(31 - t.val % 32) * 64 + i.val, by omega⟩ : Fin 2048) (⟨(12 + t.val / 32) * 128 + w.val, by have := point_lt t; omega⟩ : Fin 2048)) := by
  have := point_lt t
  blk_ext [iblk, V_main_arg0, index2 t]

theorem block3 (h : Fin 4) (j : Fin 64) : (iblk m c 3 t : S1x1x4x64.Idx → EReal) (ix4 0 0 h j)
    = (V m c main_v51 : S4x32x4x64.Idx → EReal) (ix4 (⟨t.val / 32, by have := point_lt t; omega⟩ : Fin 4) (⟨31 - t.val % 32, by omega⟩ : Fin 32) h j) := by
  have := point_lt t
  blk_ext [iblk, index3 t]

theorem block4 (h : Fin 4) : (iblk m c 4 t : S1x4x1.Idx → EReal) (ix3 0 h 0)
    = (V m c main_v52 : S4x4x1.Idx → EReal) (ix3 (⟨t.val / 32, by have := point_lt t; omega⟩ : Fin 4) h 0) := by
  have := point_lt t
  blk_ext [iblk, index4 t]

theorem block5 (h : Fin 4) : (iblk m c 5 t : S1x4x1.Idx → EReal) (ix3 0 h 0)
    = (V m c main_v53 : S4x4x1.Idx → EReal) (ix3 (⟨t.val / 32, by have := point_lt t; omega⟩ : Fin 4) h 0) := by
  have := point_lt t
  blk_ext [iblk, index5 t]

theorem block6 (h : Fin 4) (p : Fin 64) (k : Fin 128) : (iblk m c 6 t : S1x1x4x64x128.Idx → EReal) (ix5 0 0 h p k)
    = (V m c main_v48 : S4x32x4x64x128.Idx → EReal) (ix5 (⟨t.val / 32, by have := point_lt t; omega⟩ : Fin 4) (⟨31 - t.val % 32, by omega⟩ : Fin 32) h p k) := by
  have := point_lt t
  blk_ext [iblk, index6 t]

theorem block7 (i : Fin 64) (w : Fin 256) : (iblk m c 7 t : S64x256.Idx → EReal) (ix2 i w)
    = m ((c : Thread nD τ).loc main_arg4) (ix2 (⟨(31 - t.val % 32) * 64 + i.val, by omega⟩ : Fin 2048) (⟨t.val / 32 * 256 + w.val, by have := point_lt t; omega⟩ : Fin 1024)) := by
  have := point_lt t
  blk_ext [iblk, V_main_arg4, index7 t]

theorem block8 (i : Fin 64) (w : Fin 256) : (iblk m c 8 t : S64x256.Idx → EReal) (ix2 i w)
    = m ((c : Thread nD τ).loc main_arg5) (ix2 (⟨(31 - t.val % 32) * 64 + i.val, by omega⟩ : Fin 2048) (⟨t.val / 32 * 256 + w.val, by have := point_lt t; omega⟩ : Fin 1024)) := by
  have := point_lt t
  blk_ext [iblk, V_main_arg5, index8 t]

end Cert.KernelIdeal.Block
-- ==== Proof.Cuts.lean ====
/-
  Each head's vectors at an index: the entry of the point's block that they are cut from.
-/
module

public import proofs.«01_k».proof.Proof.Block
public import Idealize.ShloMosaic.Lib.Pipeline.ValueKit.Point

@[expose] public section

noncomputable section

namespace Cert.KernelIdeal.Block

open Idealize.ShloMosaic Idealize.SL.Sem Cert.KernelIdeal.Gen Cert.KernelIdeal.Head

variable [KernelIdeal.Facts]
variable (x0 : Vec Ideal S64x256 .f32) (x1 x2 : Vec Ideal S64x128 .f32) (x3 : Vec Ideal S1x1x4x64 .f32) (x4 x5 : Vec Ideal S1x4x1 .f32)
  (x6 : Vec Ideal S1x1x4x64x128 .f32) (x7 x8 : Vec Ideal S64x256 .f32) (s : Vec Ideal S1x4x64x128 .f32) (h : Fin 4)

theorem heads_x (i p : Fin 64) : (heads x0 x1 x2 x3 x4 x5 x6 x7 x8 s h).x (ix2 i p) = x0 (ix2 i (lanePos h p)) := by
  refine congrArg x0 ?_
  ext a; fin_cases a <;> simp [lanePos]

theorem heads_dy (i p : Fin 64) : (heads x0 x1 x2 x3 x4 x5 x6 x7 x8 s h).dy (ix2 i p) = x7 (ix2 i (lanePos h p)) := by
  refine congrArg x7 ?_
  ext a; fin_cases a <;> simp [lanePos]

theorem heads_dxe (i p : Fin 64) : (heads x0 x1 x2 x3 x4 x5 x6 x7 x8 s h).dxe (ix2 i p) = x8 (ix2 i (lanePos h p)) := by
  refine congrArg x8 ?_
  ext a; fin_cases a <;> simp [lanePos]

theorem heads_b (i : Fin 64) (k : Fin 128) : (heads x0 x1 x2 x3 x4 x5 x6 x7 x8 s h).b (ix2 i k) = x1 (ix2 i k) := rfl
theorem heads_c (i : Fin 64) (k : Fin 128) : (heads x0 x1 x2 x3 x4 x5 x6 x7 x8 s h).c (ix2 i k) = x2 (ix2 i k) := rfl

theorem heads_dt (j : Fin 64) : (heads x0 x1 x2 x3 x4 x5 x6 x7 x8 s h).dt (ix2 0 j) = x3 (ix4 0 0 h j) := by
  pointwise [heads]

theorem heads_al : (heads x0 x1 x2 x3 x4 x5 x6 x7 x8 s h).al (ix2 0 0) = x4 (ix3 0 h 0) := by
  pointwise [heads]

theorem heads_db : (heads x0 x1 x2 x3 x4 x5 x6 x7 x8 s h).db (ix2 0 0) = x5 (ix3 0 h 0) := by
  pointwise [heads]

/-- Dropping axes of one entry. -/
theorem drop3 (v : FVec Ideal S1x1x1x64x128 .f32) (p : Fin 64) (k : Fin 128) :
    shapeCast S64x128 v shapeCasts_S1x1x1x64x128_S64x128 (ix2 p k) = v (ix5 0 0 0 p k) := by pointwise
theorem drop2 (v : FVec Ideal S1x1x64x128 .f32) (p : Fin 64) (k : Fin 128) :
    shapeCast S64x128 v shapeCasts_S1x1x64x128_S64x128 (ix2 p k) = v (ix4 0 0 p k) := by pointwise

theorem heads_h (p : Fin 64) (k : Fin 128) : (heads x0 x1 x2 x3 x4 x5 x6 x7 x8 s h).h (ix2 p k) = x6 (ix5 0 0 h p k) := by
  unfold heads; dsimp only
  rw [drop3]
  refine congrArg x6 ?_
  ext a; fin_cases a <;> simp

theorem heads_dh (p : Fin 64) (k : Fin 128) : (heads x0 x1 x2 x3 x4 x5 x6 x7 x8 s h).dh (ix2 p k) = s (ix4 0 h p k) := by
  unfold heads; dsimp only
  rw [drop2]
  refine congrArg s ?_
  ext a; fin_cases a <;> simp

end Cert.KernelIdeal.Block
-- ==== Proof.BlockFirst.lean ====
/-
  What the body leaves in each output's block and in the carried state cotangent at the first point of a group's run, where
  the cotangent and the two per-head sums start at zero.
-/
module

public import proofs.«01_k».proof.Proof.Block

@[expose] public section

set_option maxRecDepth 16384
set_option maxHeartbeats 1000000

noncomputable section

namespace Cert.KernelIdeal.Block

open Idealize.ShloMosaic Idealize.SL.Sem Cert.KernelIdeal.Gen Cert.KernelIdeal.Head

variable [KernelIdeal.Facts]
variable (m : (ℓ : Loc nD τ sig) → Buf (Elt Ideal) ℓ) (c : Dev nD) (t : Fin cfg0.N)

theorem first_dx (h0 : t.val % 32 = 0) (h : Fin 4) (i p : Fin 64) :
    (outsAt0 m c t.val t.isLt).1 (ix2 i (lanePos h p)) = (headAt m c t zero4 h).dx (ix2 i p) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  canon_tiles x q
  all_goals
    idx_vars x
    rcases head_cases h with rfl | rfl | rfl | rfl <;> first | (exfalso; have := q1; simp [ix2, lanePos] at this; omega) | skip
    have e0 : x0 = i := by have := q0; simp [ix2] at this; omega
    have e1 : x1 = p := by have := q1; simp [ix2, lanePos] at this; omega
    subst e0 e1
  all_goals rfl

theorem first_dbm (h0 : t.val % 32 = 0) : (outsAt0 m c t.val t.isLt).2.1 = dbm (headAt m c t zero4) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  rfl

theorem first_dcm (h0 : t.val % 32 = 0) : (outsAt0 m c t.val t.isLt).2.2.1 = dcm (headAt m c t zero4) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  rfl

theorem first_ddt (h0 : t.val % 32 = 0) (h : Fin 4) (j : Fin 64) :
    (outsAt0 m c t.val t.isLt).2.2.2.1 (ix4 0 0 h j) = (headAt m c t zero4 h).dz (ix2 0 j) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  canon_tiles x q
  all_goals
    idx_vars x
    rcases head_cases h with rfl | rfl | rfl | rfl <;> first | (exfalso; have := q2; simp [ix4] at this; done) | skip
    have e3 : x3 = j := by have := q3; simp [ix4] at this; omega
    subst e3
    apply row_piece
    rfl

theorem first_dal (h0 : t.val % 32 = 0) (h : Fin 4) :
    (outsAt0 m c t.val t.isLt).2.2.2.2.1 (ix3 0 h 0) = (headAt m c t zero4 h).dal (ix2 0 0) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  refine (canon_over _ _ _ _ _ _ (View.cover_of_tiled_head _ _ _ (by rfl) _)).trans ?_
  canon_tiles x q
  all_goals
    idx_vars x
    rcases head_cases h with rfl | rfl | rfl | rfl <;> first | (exfalso; have := q1; simp [ix3] at this; done) | skip
    apply first_piece
    · rfl
    · show zz S1x4x1 _ = 0; pointwise

theorem first_ddb (h0 : t.val % 32 = 0) (h : Fin 4) :
    (outsAt0 m c t.val t.isLt).2.2.2.2.2.1 (ix3 0 h 0) = (headAt m c t zero4 h).ddb (ix2 0 0) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  refine (canon_over _ _ _ _ _ _ (View.cover_of_tiled_head _ _ _ (by rfl) _)).trans ?_
  canon_tiles x q
  all_goals
    idx_vars x
    rcases head_cases h with rfl | rfl | rfl | rfl <;> first | (exfalso; have := q1; simp [ix3] at this; done) | skip
    apply first_piece
    · rfl
    · show zz S1x4x1 _ = 0; pointwise

theorem first_state (h0 : t.val % 32 = 0) (h : Fin 4) (p : Fin 64) (k : Fin 128) :
    (outsAt0 m c t.val t.isLt).2.2.2.2.2.2 (ix4 0 h p k) = (headAt m c t zero4 h).dstate (ix2 p k) := by
  rw [outsAt0_A m c t h0]
  unfold headAt
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  frame_open
  frame_out
  try simp (disch := decide) only [↓ View.readCov_skip, ↓ View.readCov_cons_toLoadRect, ↓ View.readCov_fill]
  refine (canon_over _ _ _ _ _ _ (View.cover_of_tiled_head _ _ _ (by rfl) _)).trans ?_
  canon_tiles x q
  all_goals
    idx_vars x
    rcases head_cases h with rfl | rfl | rfl | rfl <;> first | (exfalso; have := q1; simp [ix4] at this; done) | skip
    have e2 : x2 = p := by have := q2; simp [ix4] at this; omega
    have e3 : x3 = k := by have := q3; simp [ix4] at this; omega
    subst e2 e3
    apply state_piece
    rfl

end Cert.KernelIdeal.Block
-- ==== Proof.BlockLater.lean ====
/-
  What the body leaves in each output's block and in the carried state cotangent at a later point of a group's run, which
  adds to what the point before left.
-/
module

public import proofs.«01_k».proof.Proof.Block

@[expose] public section

set_option maxRecDepth 16384
set_option maxHeartbeats 1000000

noncomputable section

namespace Cert.KernelIdeal.Block

open Idealize.ShloMosaic Idealize.SL.Sem Cert.KernelIdeal.Gen Cert.KernelIdeal.Head

variable [KernelIdeal.Facts]
variable (m : (ℓ : Loc nD τ sig) → Buf (Elt Ideal) ℓ) (c : Dev nD) (t : Fin cfg0.N)

theorem later_dx (h0 : ¬t.val % 32 = 0) (h : Fin 4) (i p : Fin 64) :
    (outsAt0 m c t.val t.isLt).1 (ix2 i (lanePos h p)) = (headAt m c t (before m c t).2.2.2.2.2.2 h).dx (ix2 i p) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  canon_tiles x q
  all_goals
    idx_vars x
    rcases head_cases h with rfl | rfl | rfl | rfl <;> first | (exfalso; have := q1; simp [ix2, lanePos] at this; omega) | skip
    have e0 : x0 = i := by have := q0; simp [ix2] at this; omega
    have e1 : x1 = p := by have := q1; simp [ix2, lanePos] at this; omega
    subst e0 e1
  all_goals rfl

theorem later_dbm (h0 : ¬t.val % 32 = 0) : (outsAt0 m c t.val t.isLt).2.1 = dbm (headAt m c t (before m c t).2.2.2.2.2.2) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  rfl

theorem later_dcm (h0 : ¬t.val % 32 = 0) : (outsAt0 m c t.val t.isLt).2.2.1 = dcm (headAt m c t (before m c t).2.2.2.2.2.2) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  rfl

theorem later_ddt (h0 : ¬t.val % 32 = 0) (h : Fin 4) (j : Fin 64) :
    (outsAt0 m c t.val t.isLt).2.2.2.1 (ix4 0 0 h j) = (headAt m c t (before m c t).2.2.2.2.2.2 h).dz (ix2 0 j) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  canon_tiles x q
  all_goals
    idx_vars x
    rcases head_cases h with rfl | rfl | rfl | rfl <;> first | (exfalso; have := q2; simp [ix4] at this; done) | skip
    have e3 : x3 = j := by have := q3; simp [ix4] at this; omega
    subst e3
    apply row_piece
    rfl

theorem later_dal (h0 : ¬t.val % 32 = 0) (h : Fin 4) :
    (outsAt0 m c t.val t.isLt).2.2.2.2.1 (ix3 0 h 0) = (before m c t).2.2.2.2.1 (ix3 0 h 0) + (headAt m c t (before m c t).2.2.2.2.2.2 h).dal (ix2 0 0) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  canon_tiles x q
  all_goals
    idx_vars x
    rcases head_cases h with rfl | rfl | rfl | rfl <;> first | (exfalso; have := q1; simp [ix3] at this; done) | skip
    apply sum_piece
    · rfl
    · first | exact cell_read _ 0 _ | exact cell_read _ 1 _ | exact cell_read _ 2 _ | exact cell_read _ 3 _

theorem later_ddb (h0 : ¬t.val % 32 = 0) (h : Fin 4) :
    (outsAt0 m c t.val t.isLt).2.2.2.2.2.1 (ix3 0 h 0) = (before m c t).2.2.2.2.2.1 (ix3 0 h 0) + (headAt m c t (before m c t).2.2.2.2.2.2 h).ddb (ix2 0 0) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  canon_tiles x q
  all_goals
    idx_vars x
    rcases head_cases h with rfl | rfl | rfl | rfl <;> first | (exfalso; have := q1; simp [ix3] at this; done) | skip
    apply sum_piece
    · rfl
    · first | exact cell_read _ 0 _ | exact cell_read _ 1 _ | exact cell_read _ 2 _ | exact cell_read _ 3 _

theorem later_state (h0 : ¬t.val % 32 = 0) (h : Fin 4) (p : Fin 64) (k : Fin 128) :
    (outsAt0 m c t.val t.isLt).2.2.2.2.2.2 (ix4 0 h p k) = (headAt m c t (before m c t).2.2.2.2.2.2 h).dstate (ix2 p k) := by
  rw [outsAt0_B m c t h0]
  unfold headAt before
  dsimp only
  generalize iblk m c 0 t = b0, iblk m c 1 t = b1, iblk m c 2 t = b2, iblk m c 3 t = b3, iblk m c 4 t = b4, iblk m c 5 t = b5,
    iblk m c 6 t = b6, iblk m c 7 t = b7, iblk m c 8 t = b8
  generalize before m c t = prev
  frame_open
  frame_out
  try simp only [read_unread_whole]
  canon_tiles x q
  all_goals
    idx_vars x
    rcases head_cases h with rfl | rfl | rfl | rfl <;> first | (exfalso; have := q1; simp [ix4] at this; done) | skip
    have e2 : x2 = p := by have := q2; simp [ix4] at this; omega
    have e3 : x3 = k := by have := q3; simp [ix4] at this; omega
    subst e2 e3
    apply state_piece
    rfl

end Cert.KernelIdeal.Block
-- ==== Proof.Fold.lean ====
/-
  From one chunk to the next: the state cotangent that enters a point is the one the later chunks' outputs make, so every
  head of every point reads the numbers of its chunk, and what the point leaves are the gradients of the whole sequence.
-/
module

public import proofs.«01_k».proof.Proof.Blocks
public import proofs.«01_k».proof.Proof.Cuts
public import proofs.«01_k».proof.Proof.BlockFirst
public import proofs.«01_k».proof.Proof.BlockLater

@[expose] public section

set_option maxRecDepth 16384

noncomputable section

namespace Cert.KernelIdeal.Block

open Idealize.ShloMosaic Idealize.SL.Sem Idealize.ShloMosaic.TcCoe Cert.KernelIdeal.Gen Cert.KernelIdeal.Head Cert.KernelIdeal.Host Finset

/-- The state cotangent that enters a point: zero at a group's first one, else what the point before left. -/
def carry (m : (ℓ : Loc nD τ sig) → Buf (Elt Ideal) ℓ) (c : Dev nD) (t : Fin cfg0.N) : Vec Ideal S1x4x64x128 .f32 :=
  if t.val % 32 = 0 then zero4 else (before m c t).2.2.2.2.2.2

variable {m : (ℓ : Loc nD τ sig) → Buf (Elt Ideal) ℓ} {c : Dev nD} {r : Args}
  (H : Fits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r)
include H

theorem holds_of (t : Fin cfg0.N) (q : Fin 4) (s : Vec Ideal S1x4x64x128 .f32)
    (hs : ∀ p k, s (ix4 0 q p k) = ((r.line (t.val / 32) q).D (31 - t.val % 32 + 1) p k : EReal)) :
    Holds (headAt m c t s q) ((r.line (t.val / 32) q).chunk (31 - t.val % 32)) := by
  have ht := point_lt t
  unfold headAt
  constructor
  · intro i p
    rw [heads_x, block0]
    refine (H.xbc _).trans (congrArg Real.toEReal (congrArg₂ r.xbc ?_ ?_))
    · show (31 - t.val % 32) * 64 + i.val = 64 * (31 - t.val % 32) + i.val; omega
    · show t.val / 32 * 256 + (64 * q.val + p.val) = t.val / 32 * 256 + q.val * 64 + p.val; omega
  · intro i k
    rw [heads_b, block1]
    refine (H.xbc _).trans (congrArg Real.toEReal (congrArg₂ r.xbc ?_ ?_))
    · show (31 - t.val % 32) * 64 + i.val = 64 * (31 - t.val % 32) + i.val; omega
    · show (8 + t.val / 32) * 128 + k.val = 1024 + (t.val / 32 * 128 + k.val); omega
  · intro i k
    rw [heads_c, block2]
    refine (H.xbc _).trans (congrArg Real.toEReal (congrArg₂ r.xbc ?_ ?_))
    · show (31 - t.val % 32) * 64 + i.val = 64 * (31 - t.val % 32) + i.val; omega
    · show (12 + t.val / 32) * 128 + k.val = 1536 + (t.val / 32 * 128 + k.val); omega
  · intro j
    rw [heads_dt, block3, dt_read]
    refine (H.dt _).trans (congrArg Real.toEReal (congrArg₂ r.dt ?_ rfl))
    show (31 - t.val % 32) * 64 + j.val = 64 * (31 - t.val % 32) + j.val; omega
  · rw [heads_al, block4, al_read]
    exact H.al _
  · rw [heads_db, block5, db_read]
    exact H.db _
  · intro p k
    rw [heads_h, block6, states_read, states_val H]
    rfl
  · intro p k
    rw [heads_dh, hs]
    rfl
  · intro i p
    rw [heads_dy, block7]
    refine (H.dy _).trans (congrArg Real.toEReal (congrArg₂ r.dy ?_ ?_))
    · show (31 - t.val % 32) * 64 + i.val = 64 * (31 - t.val % 32) + i.val; omega
    · show t.val / 32 * 256 + (64 * q.val + p.val) = t.val / 32 * 256 + q.val * 64 + p.val; omega
  · intro i p
    rw [heads_dxe, block8]
    refine (H.dxe _).trans (congrArg Real.toEReal (congrArg₂ r.dxe ?_ ?_))
    · show (31 - t.val % 32) * 64 + i.val = 64 * (31 - t.val % 32) + i.val; omega
    · show t.val / 32 * 256 + (64 * q.val + p.val) = t.val / 32 * 256 + q.val * 64 + p.val; omega
  · intro j
    exact H.ne _ _ (by omega) (by omega)

omit H in
theorem state_eq (t : Fin cfg0.N) (q : Fin 4) (p : Fin 64) (k : Fin 128) :
    (outsAt0 m c t.val t.isLt).2.2.2.2.2.2 (ix4 0 q p k) = (headAt m c t (carry m c t) q).dstate (ix2 p k) := by
  unfold carry
  split_ifs with h0
  · exact first_state m c t h0 q p k
  · exact later_state m c t h0 q p k

omit H in
theorem zero4_at (q : Fin 4) (p : Fin 64) (k : Fin 128) : zero4 (ix4 0 q p k) = ((0 : ℝ) : EReal) := by
  refine Eq.trans ?_ EReal.coe_zero.symm
  pointwise [zero4, zz]

theorem enters (n : ℕ) (hn : n < cfg0.N) (q : Fin 4) (p : Fin 64) (k : Fin 128) :
    carry m c ⟨n, hn⟩ (ix4 0 q p k) = ((r.line (n / 32) q).D (31 - n % 32 + 1) p k : EReal) := by
  have first : ∀ n (hn : n < cfg0.N), n % 32 = 0 → ∀ q p k, carry m c ⟨n, hn⟩ (ix4 0 q p k)
      = ((r.line (n / 32) q).D (31 - n % 32 + 1) p k : EReal) := by
    intro n hn h0 q p k
    rw [carry, if_pos h0, zero4_at, h0]
    refine congrArg Real.toEReal ?_
    simp [Line.D, Line.T]
  induction n generalizing q p k with
  | zero => exact first 0 hn rfl q p k
  | succ n ih =>
    by_cases h0 : (n + 1) % 32 = 0
    · exact first _ hn h0 q p k
    have hn' : n < cfg0.N := Nat.lt_of_succ_lt hn
    have hh := holds_of H ⟨n, hn'⟩ q _ fun p k => ih hn' q p k
    rw [carry, if_neg h0]
    refine (state_eq (m := m) (c := c) ⟨n, hn'⟩ q p k).trans ((dstate_val hh p k).trans ?_)
    rw [Line.chunk_dstate _ _ (by omega)]
    refine congrArg Real.toEReal ?_
    show (r.line (n / 32) q).D (31 - n % 32) p k = _
    rw [show (n + 1) / 32 = n / 32 by omega, show 31 - (n + 1) % 32 + 1 = 31 - n % 32 by omega]

theorem holds_at (t : Fin cfg0.N) (q : Fin 4) :
    Holds (headAt m c t (carry m c t) q) ((r.line (t.val / 32) q).chunk (31 - t.val % 32)) :=
  holds_of H t q _ fun p k => enters H t.val t.isLt q p k

theorem dx_at (t : Fin cfg0.N) (i : Fin 64) (q : Fin 4) (p : Fin 64) : (outsAt0 m c t.val t.isLt).1 (ix2 i (lanePos q p))
    = ((r.line (t.val / 32) q).dx (64 * (31 - t.val % 32) + i.val) p : EReal) := by
  have e : (outsAt0 m c t.val t.isLt).1 (ix2 i (lanePos q p)) = (headAt m c t (carry m c t) q).dx (ix2 i p) := by
    unfold carry
    split_ifs with h0
    · exact first_dx m c t h0 q i p
    · exact later_dx m c t h0 q i p
  rw [e, dx_val (holds_at H t q), Line.chunk_dx _ _ (by omega)]

theorem ddt_at (t : Fin cfg0.N) (q : Fin 4) (j : Fin 64) : (outsAt0 m c t.val t.isLt).2.2.2.1 (ix4 0 0 q j)
    = ((r.line (t.val / 32) q).dz (64 * (31 - t.val % 32) + j.val) : EReal) := by
  have e : (outsAt0 m c t.val t.isLt).2.2.2.1 (ix4 0 0 q j) = (headAt m c t (carry m c t) q).dz (ix2 0 j) := by
    unfold carry
    split_ifs with h0
    · exact first_ddt m c t h0 q j
    · exact later_ddt m c t h0 q j
  rw [e, dz_val (holds_at H t q), Line.chunk_dz _ _ (by omega)]

theorem dbm_at (t : Fin cfg0.N) (j : Fin 64) (k : Fin 128) : (outsAt0 m c t.val t.isLt).2.1 (ix2 j k)
    = ((∑ q : Fin 4, (r.line (t.val / 32) q).dB (64 * (31 - t.val % 32) + j.val) k : ℝ) : EReal) := by
  have e : (outsAt0 m c t.val t.isLt).2.1 = dbm (headAt m c t (carry m c t)) := by
    unfold carry
    split_ifs with h0
    · exact first_dbm m c t h0
    · exact later_dbm m c t h0
  rw [e]
  have hq := fun q => holds_at H t q
  generalize headAt m c t (carry m c t) = v at hq
  pointwise [dbm, dscAll, lo]
  simp only [fun q => dsc_val (hq q), fun q => dbh_val (hq q), (hq 0).c, ← EReal.coe_zero, ← EReal.coe_mul, ← EReal.coe_add, ← coe_sum]
  refine congrArg Real.toEReal ?_
  simp only [← Line.chunk_dB _ _ (show 31 - t.val % 32 < 32 by omega)]
  have same : ∀ q : Fin 4, ((r.line (t.val / 32) q).chunk (31 - t.val % 32)).c = ((r.line (t.val / 32) (0 : Fin 4)).chunk (31 - t.val % 32)).c := fun _ => rfl
  simp only [same, Fin.sum_univ_four, add_mul, sum_add_distrib]
  ring

theorem dcm_at (t : Fin cfg0.N) (i : Fin 64) (k : Fin 128) : (outsAt0 m c t.val t.isLt).2.2.1 (ix2 i k)
    = ((∑ q : Fin 4, (r.line (t.val / 32) q).dC (64 * (31 - t.val % 32) + i.val) k : ℝ) : EReal) := by
  have e : (outsAt0 m c t.val t.isLt).2.2.1 = dcm (headAt m c t (carry m c t)) := by
    unfold carry
    split_ifs with h0
    · exact first_dcm m c t h0
    · exact later_dcm m c t h0
  rw [e]
  have hq := fun q => holds_at H t q
  generalize headAt m c t (carry m c t) = v at hq
  pointwise [dcm, dscAll, lo]
  simp only [fun q => dsc_val (hq q), fun q => dch_val (hq q), (hq 0).b, ← EReal.coe_zero, ← EReal.coe_mul, ← EReal.coe_add, ← coe_sum]
  refine congrArg Real.toEReal ?_
  simp only [← Line.chunk_dC _ _ (show 31 - t.val % 32 < 32 by omega)]
  have same : ∀ q : Fin 4, ((r.line (t.val / 32) q).chunk (31 - t.val % 32)).b = ((r.line (t.val / 32) (0 : Fin 4)).chunk (31 - t.val % 32)).b := fun _ => rfl
  simp only [same, Fin.sum_univ_four, add_mul, sum_add_distrib]
  ring

theorem dal_at (n : ℕ) (hn : n < cfg0.N) (q : Fin 4) : (outsAt0 m c n hn).2.2.2.2.1 (ix3 0 q 0)
    = ((∑ d ∈ range (n % 32 + 1), ((r.line (n / 32) q).chunk (31 - d)).dal : ℝ) : EReal) := by
  have hh := holds_at H ⟨n, hn⟩ q
  unfold carry at hh
  by_cases h0 : n % 32 = 0
  · rw [if_pos h0] at hh
    rw [first_dal m c ⟨n, hn⟩ h0 q, dal_val hh, h0]
    simp
  · rw [if_neg h0] at hh
    obtain ⟨n, rfl⟩ : ∃ k, n = k + 1 := ⟨n - 1, by omega⟩
    rw [later_dal m c ⟨n + 1, hn⟩ h0 q, dal_val hh]
    show (outsAt0 m c n _).2.2.2.2.1 (ix3 0 q 0) + _ = _
    rw [dal_at n (Nat.lt_of_succ_lt hn) q, ← EReal.coe_add]
    refine congrArg Real.toEReal ?_
    show _ + ((r.line ((n + 1) / 32) q).chunk (31 - (n + 1) % 32)).dal = _
    rw [show (n + 1) / 32 = n / 32 by omega, show (n + 1) % 32 = n % 32 + 1 by omega, sum_range_succ _ (n % 32 + 1)]

theorem ddb_at (n : ℕ) (hn : n < cfg0.N) (q : Fin 4) : (outsAt0 m c n hn).2.2.2.2.2.1 (ix3 0 q 0)
    = ((∑ d ∈ range (n % 32 + 1), ((r.line (n / 32) q).chunk (31 - d)).ddb : ℝ) : EReal) := by
  have hh := holds_at H ⟨n, hn⟩ q
  unfold carry at hh
  by_cases h0 : n % 32 = 0
  · rw [if_pos h0] at hh
    rw [first_ddb m c ⟨n, hn⟩ h0 q, ddb_val hh, h0]
    simp
  · rw [if_neg h0] at hh
    obtain ⟨n, rfl⟩ : ∃ k, n = k + 1 := ⟨n - 1, by omega⟩
    rw [later_ddb m c ⟨n + 1, hn⟩ h0 q, ddb_val hh]
    show (outsAt0 m c n _).2.2.2.2.2.1 (ix3 0 q 0) + _ = _
    rw [ddb_at n (Nat.lt_of_succ_lt hn) q, ← EReal.coe_add]
    refine congrArg Real.toEReal ?_
    show _ + ((r.line ((n + 1) / 32) q).chunk (31 - (n + 1) % 32)).ddb = _
    rw [show (n + 1) / 32 = n / 32 by omega, show (n + 1) % 32 = n % 32 + 1 by omega, sum_range_succ _ (n % 32 + 1)]

end Cert.KernelIdeal.Block
-- ==== Proof.Arrays.lean ====
/-
  The six output arrays after the run: the reference's six results.
-/
module

public import proofs.«01_k».proof.Proof.Fold
public import proofs.«01_k».proof.Proof.Gen.KernelIdeal.Value

@[expose] public section

set_option maxRecDepth 16384

noncomputable section

namespace Cert.KernelIdeal.Arrays

open Idealize.ShloMosaic Idealize.SL.Sem Idealize.ShloMosaic.TcCoe Cert.KernelIdeal.Gen Cert.KernelIdeal.Head Cert.KernelIdeal.Block Cert.ReferenceIdeal.Read Finset

theorem index9 : ∀ t : Fin cfg0.N, win0_9.index t = ![31 - t.val % 32, t.val / 32] := (by decide +kernel : ∀ t : Fin grid0.N, win0_9.index t = ![31 - t.val % 32, t.val / 32])
theorem index10 : ∀ t : Fin cfg0.N, win0_10.index t = ![31 - t.val % 32, t.val / 32] := (by decide +kernel : ∀ t : Fin grid0.N, win0_10.index t = ![31 - t.val % 32, t.val / 32])
theorem index11 : ∀ t : Fin cfg0.N, win0_11.index t = ![31 - t.val % 32, t.val / 32] := (by decide +kernel : ∀ t : Fin grid0.N, win0_11.index t = ![31 - t.val % 32, t.val / 32])
theorem index12 : ∀ t : Fin cfg0.N, win0_12.index t = ![t.val / 32, 31 - t.val % 32, 0, 0] := (by decide +kernel : ∀ t : Fin grid0.N, win0_12.index t = ![t.val / 32, 31 - t.val % 32, 0, 0])
theorem index13 : ∀ t : Fin cfg0.N, win0_13.index t = ![t.val / 32, 0, 0] := (by decide +kernel : ∀ t : Fin grid0.N, win0_13.index t = ![t.val / 32, 0, 0])
theorem index14 : ∀ t : Fin cfg0.N, win0_14.index t = ![t.val / 32, 0, 0] := (by decide +kernel : ∀ t : Fin grid0.N, win0_14.index t = ![t.val / 32, 0, 0])

variable {m : (ℓ : Loc nD τ sig) → Buf (Elt Ideal) ℓ} {c : Dev nD} {r : Args}
  (H : Fits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r)
include H

theorem dbm_row (l : Fin 2048) (g : Fin 4) (k : Fin 128) : val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (ix2 l (⟨g.val * 128 + k.val, by omega⟩ : Fin 512)) = ((∑ q : Fin 4, (r.line g q).dB l k : ℝ) : EReal) := by
  pointwise [val_main_v89]
  exact Cert.ReferenceIdeal.Dense.dB_val H l g k

theorem dcm_row (l : Fin 2048) (g : Fin 4) (k : Fin 128) : val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (ix2 l (⟨g.val * 128 + k.val, by omega⟩ : Fin 512)) = ((∑ q : Fin 4, (r.line g q).dC l k : ℝ) : EReal) := by
  pointwise [val_main_v88]
  exact Cert.ReferenceIdeal.Dense.dC_val H l g k

theorem array9 : (dats m 0 c).arrAt 9 cfg0.N = (val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : S2048x1024.Idx → EReal) := by
  refine (dats m 0 c).arrAt_eq_of_covers 9 _ (by decide +kernel) fun t hf y => ?_
  blk_simp
  rw [after0_9]
  have ht := point_lt t
  obtain ⟨i, w, rfl⟩ : ∃ (i : Fin 64) (w : Fin 256), y = ix2 i w := ⟨y 0, y 1, by ext a; fin_cases a <;> rfl⟩
  obtain ⟨q, p, rfl⟩ : ∃ (q : Fin 4) (p : Fin 64), w = lanePos q p :=
    ⟨⟨w.val / 64, by omega⟩, ⟨w.val % 64, by omega⟩, Fin.ext (by show w.val = 64 * (w.val / 64) + w.val % 64; omega)⟩
  have he : (win0_9.blk t).view.emb (ix2 i (lanePos q p)) = ix2 (⟨64 * (31 - t.val % 32) + i.val, by omega⟩ : Fin 2048)
      (⟨t.val / 32 * 256 + q.val * 64 + p.val, by omega⟩ : Fin 1024) := by
    simp only [lanePos]
    blk_ext [index9 t]
  rw [he]
  refine (dx_at H t i q p).trans (Eq.symm ?_)
  exact Cert.ReferenceIdeal.Dense.dx_val H _ (⟨t.val / 32, by omega⟩ : Fin 4) q p _ rfl

theorem array10 : (dats m 0 c).arrAt 10 cfg0.N = (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S2048x512.Idx → EReal) := by
  refine (dats m 0 c).arrAt_eq_of_covers 10 _ (by decide +kernel) fun t hf y => ?_
  blk_simp
  rw [after0_10]
  have ht := point_lt t
  obtain ⟨i, k, rfl⟩ : ∃ (i : Fin 64) (k : Fin 128), y = ix2 i k := ⟨y 0, y 1, by ext a; fin_cases a <;> rfl⟩
  have he : (win0_10.blk t).view.emb (ix2 i k) = ix2 (⟨64 * (31 - t.val % 32) + i.val, by omega⟩ : Fin 2048)
      (⟨t.val / 32 * 128 + k.val, by omega⟩ : Fin 512) := by
    blk_ext [index10 t]
  rw [he]
  refine (dbm_at H t i k).trans (Eq.symm ?_)
  exact dbm_row H _ (⟨t.val / 32, by omega⟩ : Fin 4) k

theorem array11 : (dats m 0 c).arrAt 11 cfg0.N = (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S2048x512.Idx → EReal) := by
  refine (dats m 0 c).arrAt_eq_of_covers 11 _ (by decide +kernel) fun t hf y => ?_
  blk_simp
  rw [after0_11]
  have ht := point_lt t
  obtain ⟨i, k, rfl⟩ : ∃ (i : Fin 64) (k : Fin 128), y = ix2 i k := ⟨y 0, y 1, by ext a; fin_cases a <;> rfl⟩
  have he : (win0_11.blk t).view.emb (ix2 i k) = ix2 (⟨64 * (31 - t.val % 32) + i.val, by omega⟩ : Fin 2048)
      (⟨t.val / 32 * 128 + k.val, by omega⟩ : Fin 512) := by
    blk_ext [index11 t]
  rw [he]
  refine (dcm_at H t i k).trans (Eq.symm ?_)
  exact dcm_row H _ (⟨t.val / 32, by omega⟩ : Fin 4) k

theorem array12 : (dats m 0 c).arrAt 12 cfg0.N = (val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4x32x4x64.Idx → EReal) := by
  refine (dats m 0 c).arrAt_eq_of_covers 12 _ (by decide +kernel) fun t hf y => ?_
  blk_simp
  rw [after0_12]
  have ht := point_lt t
  obtain ⟨a, b, q, j, rfl⟩ : ∃ (a : Fin 1) (b : Fin 1) (q : Fin 4) (j : Fin 64), y = ix4 a b q j := ⟨y 0, y 1, y 2, y 3, by ext a; fin_cases a <;> rfl⟩
  obtain rfl := Subsingleton.elim a 0
  obtain rfl := Subsingleton.elim b 0
  have he : (win0_12.blk t).view.emb (ix4 0 0 q j) = ix4 (⟨t.val / 32, by omega⟩ : Fin 4) (⟨31 - t.val % 32, by omega⟩ : Fin 32) q j := by
    blk_ext [index12 t]
  rw [he]
  refine (ddt_at H t q j).trans (Eq.symm ?_)
  exact Cert.ReferenceIdeal.Dense.ddt_val H (⟨t.val / 32, by omega⟩ : Fin 4) q (⟨31 - t.val % 32, by omega⟩ : Fin 32) j

theorem array13 : (dats m 0 c).arrAt 13 cfg0.N = (val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4x4x1.Idx → EReal) := by
  refine (dats m 0 c).arrAt_eq_of_covers 13 _ (by decide +kernel) fun t hf y => ?_
  blk_simp
  rw [after0_13]
  have ht := point_lt t
  obtain ⟨a, q, b, rfl⟩ : ∃ (a : Fin 1) (q : Fin 4) (b : Fin 1), y = ix3 a q b := ⟨y 0, y 1, y 2, by ext a; fin_cases a <;> rfl⟩
  obtain rfl := Subsingleton.elim a 0
  obtain rfl := Subsingleton.elim b 0
  have he : (win0_13.blk t).view.emb (ix3 0 q 0) = ix3 (⟨t.val / 32, by omega⟩ : Fin 4) q 0 := by
    blk_ext [index13 t]
  rw [he]
  have hl : t.val % 32 = 31 := (flush0_13 t).mp hf
  refine (dal_at H t.val t.isLt q).trans (Eq.symm ?_)
  refine (Cert.ReferenceIdeal.Dense.dal_val H (⟨t.val / 32, by omega⟩ : Fin 4) q).trans (congrArg Real.toEReal ?_)
  rw [hl, ← Line.sum_chunk_dal]
  exact (sum_range_reflect (fun n => ((r.line (t.val / 32) q).chunk n).dal) 32).symm

theorem array14 : (dats m 0 c).arrAt 14 cfg0.N = (val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4x4x1.Idx → EReal) := by
  refine (dats m 0 c).arrAt_eq_of_covers 14 _ (by decide +kernel) fun t hf y => ?_
  blk_simp
  rw [after0_14]
  have ht := point_lt t
  obtain ⟨a, q, b, rfl⟩ : ∃ (a : Fin 1) (q : Fin 4) (b : Fin 1), y = ix3 a q b := ⟨y 0, y 1, y 2, by ext a; fin_cases a <;> rfl⟩
  obtain rfl := Subsingleton.elim a 0
  obtain rfl := Subsingleton.elim b 0
  have he : (win0_14.blk t).view.emb (ix3 0 q 0) = ix3 (⟨t.val / 32, by omega⟩ : Fin 4) q 0 := by
    blk_ext [index14 t]
  rw [he]
  have hl : t.val % 32 = 31 := (flush0_14 t).mp hf
  refine (ddb_at H t.val t.isLt q).trans (Eq.symm ?_)
  refine (Cert.ReferenceIdeal.Dense.ddb_val H (⟨t.val / 32, by omega⟩ : Fin 4) q).trans (congrArg Real.toEReal ?_)
  rw [hl, ← Line.sum_chunk_ddb]
  exact (sum_range_reflect (fun n => ((r.line (t.val / 32) q).chunk n).ddb) 32).symm

end Cert.KernelIdeal.Arrays
-- ==== Proof.Regular.lean ====
/-
  What the precondition says: every argument holds real numbers, and no step size sits where the softplus has its kink.
-/
module

public import proofs.«01_k».proof.Proof.Args
public import proofs.«01_k».proof.Proof.Gen.Pre_regular
public import Idealize.ShloMosaic.Lib.ReduceAll
public import Idealize.ShloMosaic.Lib.Pointwise
public import Idealize.ShloMosaic.PureOps.Ideal

@[expose] public section

noncomputable section

namespace Cert.Pre_regular.Meaning

open Idealize.ShloMosaic Cert.Pre_regular Cert.KernelIdeal.Head

instance : Subsingleton S_.Idx := ⟨fun a b => funext fun i => i.elim0⟩

/-- A bit is the conjunction of two bits. -/
theorem both {a b : IVec S_ 1} (h : andi a b ix0 = 1#1) : a ix0 = 1#1 ∧ b ix0 = 1#1 := by
  have h' : IntOp.andi (a ix0) (b ix0) = 1#1 := h
  revert h'
  generalize a ix0 = u
  generalize b ix0 = v
  revert u v
  decide

/-- The bound that the magnitudes stay below is the top element. -/
theorem top : Ideal.ofBits .f32 0x7F800000#32 = ⊤ := by simp [Ideal.ofBits, Ideal.ieee]

/-- A magnitude below the top element is a real number's. -/
theorem real_of_lt {x : EReal} (h : (FloatOps.cmpf (F := Ideal) (φ := .f32) .olt (FloatOps.hostAbsf (F := Ideal) (φ := .f32) x) ⊤) = 1#1) :
    x = (x.toReal : EReal) := by
  have hx : max x (-x) < ⊤ := by
    by_contra hn
    have : BitVec.ofBool (decide (max x (-x) < ⊤)) = 1#1 := h
    simp [hn] at this
  refine (EReal.coe_toReal ?_ ?_).symm
  · rintro rfl; simp at hx
  · rintro rfl; simp at hx

variable (x0 : FVec Ideal S2048x2048 .f32) (x1 : FVec Ideal S2048x16 .f32) (x2 x3 : FVec Ideal S16 .f32) (x4 x5 : FVec Ideal S2048x1024 .f32)

/-- The numbers in an array of two axes, of one axis. -/
def grid {a b : ℕ} (x : (⟨2, ![a, b]⟩ : Shape).Idx → EReal) (i j : ℕ) : ℝ := if h : i < a ∧ j < b then (x (ix2 ⟨i, h.1⟩ ⟨j, h.2⟩)).toReal else 0
def line {a : ℕ} (x : (⟨1, ![a]⟩ : Shape).Idx → EReal) (i : ℕ) : ℝ := if h : i < a then (x (ix1 ⟨i, h⟩)).toReal else 0

theorem grid_at {a b : ℕ} (x : (⟨2, ![a, b]⟩ : Shape).Idx → EReal) (hx : ∀ i, x i = ((x i).toReal : EReal)) (i : (⟨2, ![a, b]⟩ : Shape).Idx) :
    x i = (grid x (i 0).val (i 1).val : EReal) := by
  have e : i = ix2 (i 0) (i 1) := by ext k; fin_cases k <;> rfl
  rw [grid, dif_pos ⟨(i 0).isLt, (i 1).isLt⟩]
  exact (hx i).trans (congrArg (fun k => ((x k).toReal : EReal)) e)

theorem line_at {a : ℕ} (x : (⟨1, ![a]⟩ : Shape).Idx → EReal) (hx : ∀ i, x i = ((x i).toReal : EReal)) (i : (⟨1, ![a]⟩ : Shape).Idx) :
    x i = (line x (i 0).val : EReal) := by
  have e : i = ix1 (i 0) := by ext k; fin_cases k; rfl
  have hi : (i 0).val < a := (i 0).isLt
  rw [line, dif_pos hi]
  exact (hx i).trans (congrArg (fun k => ((x k).toReal : EReal)) e)

/-- The numbers of the six arguments. -/
def args : Args where
  xbc := grid x0
  dt := grid x1
  al := line x2
  db := line x3
  dy := grid x4
  dxe := grid x5

/-- The precondition gives what the claim needs of the arguments. -/
theorem fits [Facts] (h : fn (F := Ideal) x0 x1 x2 x3 x4 x5 = fun _ => 1#1) : Fits x0 x1 x2 x3 x4 x5 (args x0 x1 x2 x3 x4 x5) := by
  have h := congrFun h ix0
  unfold fn fn_part1 fn_part2 at h
  dsimp only at h
  obtain ⟨h, hz⟩ := both h
  obtain ⟨h, h5⟩ := both h
  obtain ⟨h, h4⟩ := both h
  obtain ⟨h, h3⟩ := both h
  obtain ⟨h, h2⟩ := both h
  obtain ⟨h0, h1⟩ := both h
  have g0 : ∀ i, x0 i = ((x0 i).toReal : EReal) := fun i => real_of_lt (top ▸ Host.reduce_andi_all _ _ _ _ _ h0 i)
  have g1 : ∀ i, x1 i = ((x1 i).toReal : EReal) := fun i => real_of_lt (top ▸ Host.reduce_andi_all _ _ _ _ _ h1 i)
  have g2 : ∀ i, x2 i = ((x2 i).toReal : EReal) := fun i => real_of_lt (top ▸ Host.reduce_andi_all _ _ _ _ _ h2 i)
  have g3 : ∀ i, x3 i = ((x3 i).toReal : EReal) := fun i => real_of_lt (top ▸ Host.reduce_andi_all _ _ _ _ _ h3 i)
  have g4 : ∀ i, x4 i = ((x4 i).toReal : EReal) := fun i => real_of_lt (top ▸ Host.reduce_andi_all _ _ _ _ _ h4 i)
  have g5 : ∀ i, x5 i = ((x5 i).toReal : EReal) := fun i => real_of_lt (top ▸ Host.reduce_andi_all _ _ _ _ _ h5 i)
  refine ⟨grid_at x0 g0, grid_at x1 g1, line_at x2 g2, line_at x3 g3, grid_at x4 g4, grid_at x5 g5, fun s k hs hk hne => ?_⟩
  have e := Host.reduce_andi_all _ _ _ _ _ hz (ix2 ⟨s, hs⟩ ⟨k, hk⟩)
  have ne : x1 (ix2 ⟨s, hs⟩ ⟨k, hk⟩) + x3 (ix1 ⟨k, hk⟩) ≠ 0 := by
    intro h0
    revert e
    pointwise
    simp [h0]
  apply ne
  rw [grid_at x1 g1 (ix2 ⟨s, hs⟩ ⟨k, hk⟩), line_at x3 g3 (ix1 ⟨k, hk⟩), ← EReal.coe_add, ← EReal.coe_zero]
  exact congrArg Real.toEReal hne

end Cert.Pre_regular.Meaning
-- ==== Proof.Runs.lean ====
/-
  A product that is added up block by block: a cell that is restarted every `K` steps and gains one block's sum at each step
  ends a run holding the whole sum. Stated once, for every kernel that multiplies with a weight.
-/
module

public import Idealize.ShloMosaic.PureOps.Ideal

@[expose] public section

namespace Cert.Runs

/-- A product of two lines of numbers, one with the other. -/
noncomputable abbrev dot {n : ℕ} (f g : Fin n → EReal) : EReal := ∑ q, f q * g q

/-- Where entry `l` of block `k` lies in the whole. -/
theorem place {K L n : ℕ} (hn : K * L = n) {k : ℕ} (hk : k < K) (l : Fin L) : k * L + l.val < n := by
  calc k * L + l.val < k * L + L := Nat.add_lt_add_left l.isLt _
    _ = (k + 1) * L := by ring
    _ ≤ K * L := Nat.mul_le_mul_right L hk
    _ = n := hn

/-- The sum of the blocks' sums is the whole sum. -/
theorem sum_blocks {K L n : ℕ} (hn : K * L = n) (f : Fin n → EReal) :
    ∑ k : Fin K, ∑ l : Fin L, f ⟨k.val * L + l.val, place hn k.isLt l⟩ = ∑ q, f q := by
  subst hn
  rw [← Finset.sum_product' Finset.univ Finset.univ (fun (k : Fin K) (l : Fin L) => f ⟨k.val * L + l.val, place rfl k.isLt l⟩)]
  refine Fintype.sum_equiv finProdFinEquiv _ _ fun x => congrArg f (Fin.ext ?_)
  simp only [finProdFinEquiv, Equiv.coe_fn_mk]
  ring

/-- A cell that holds `D t` after the first step of a run of `K` steps, and gains `D t` at every other one, holds the run's sum
    after the last. -/
theorem run_sum {K N : ℕ} (S : (t : ℕ) → t < N → EReal) (D : ℕ → EReal) (h0 : ∀ t (h : t < N), t % K = 0 → S t h = D t)
    (h1 : ∀ t (h : t < N), ¬t % K = 0 → S t h = S (t - 1) (Nat.lt_of_le_of_lt (Nat.sub_le _ _) h) + D t) :
    ∀ (j t : ℕ) (h : t < N), t % K = j → S t h = ∑ k ∈ Finset.range (j + 1), D (t - j + k) := by
  intro j
  induction j with
  | zero => intro t h hj; rw [h0 t h hj]; simp
  | succ j ih =>
    intro t h hj
    have hp : (t - 1) % K = j := by
      rcases Nat.eq_zero_or_pos K with rfl | hK
      · simp only [Nat.mod_zero] at hj ⊢; omega
      · have hlt := Nat.mod_lt t hK
        have e := Nat.div_add_mod t K
        rw [show t - 1 = j + K * (t / K) by omega, Nat.add_mul_mod_self_left]
        exact Nat.mod_eq_of_lt (by omega)
    have hle : j + 1 ≤ t := hj ▸ Nat.mod_le t K
    rw [h1 t h (by omega), ih (t - 1) _ hp, Finset.sum_range_succ _ (j + 1)]
    congr 1
    · exact Finset.sum_congr rfl fun k _ => congrArg D (by omega)
    · exact congrArg D (by omega)

/-- A product of two lines does not depend on their order. -/
theorem dot_comm {n : ℕ} (f g : Fin n → EReal) : dot f g = dot g f := Finset.sum_congr rfl fun _ _ => mul_comm _ _

/-- A scratch `S` with the cells `ι`, over the steps of a grid: each step puts `pay` of the scratch and its blocks into it, the
    first step of every run of `K` steps `pay` of the scratch `clear`. -/
structure Scratch {ι : Type} (K N : ℕ) (S : (t : ℕ) → t < N → ι → EReal) (clear : ι → EReal) (pay : (ι → EReal) → Fin N → ι → EReal) : Prop where
  first : ∀ t : Fin N, t.val % K = 0 → S t.val t.isLt = pay clear t
  later : ∀ t : Fin N, ¬t.val % K = 0 → S t.val t.isLt = pay (S (t.val - 1) (Nat.lt_of_le_of_lt (Nat.sub_le _ _) t.isLt)) t

/-- If `pay` adds to a cell the product of two blocks of `L` places, and the blocks of a run lie one behind the other in two lines of
    `n = K * L` places, then the cell ends the run with the product of the lines. -/
theorem Scratch.whole {ι : Type} {K L n N : ℕ} {S : (t : ℕ) → t < N → ι → EReal} {clear : ι → EReal} {pay : (ι → EReal) → Fin N → ι → EReal}
    (H : Scratch K N S clear pay) (hn : K * L = n) {x : ι} {A B : Fin N → Fin L → EReal} {f g : Fin n → EReal} {t : Fin N}
    (hc : clear x = 0) (hp : ∀ p s, pay p s x = p x + dot (A s) (B s)) (hl : t.val % K + 1 = K)
    (hA : ∀ (k : ℕ) (hk : k < K) (l : Fin L) (s : Fin N), s.val / K = t.val / K → s.val % K = k → A s l = f ⟨k * L + l.val, place hn hk l⟩)
    (hB : ∀ (k : ℕ) (hk : k < K) (l : Fin L) (s : Fin N), s.val / K = t.val / K → s.val % K = k → B s l = g ⟨k * L + l.val, place hn hk l⟩) :
    S t.val t.isLt x = dot f g := by
  have hK : 0 < K := by omega
  have e := Nat.div_add_mod t.val K
  rw [run_sum (fun s h => S s h x) (fun s => if h : s < N then dot (A ⟨s, h⟩) (B ⟨s, h⟩) else 0)
    (fun s h z => by rw [dif_pos h, H.first ⟨s, h⟩ z, hp, hc, zero_add])
    (fun s h z => by rw [dif_pos h, H.later ⟨s, h⟩ z, hp]) (t.val % K) t.val t.isLt rfl, hl]
  unfold dot
  rw [← sum_blocks hn fun q => f q * g q, Finset.sum_range]
  refine Finset.sum_congr rfl fun k _ => ?_
  have hs : t.val - t.val % K + k.val = k.val + K * (t.val / K) := by omega
  have hlt : t.val - t.val % K + k.val < N := by have := t.isLt; have := k.isLt; omega
  have hd : (t.val - t.val % K + k.val) / K = t.val / K := by
    rw [hs, Nat.add_mul_div_left _ _ hK, Nat.div_eq_of_lt k.isLt, Nat.zero_add]
  have hm : (t.val - t.val % K + k.val) % K = k.val := by rw [hs, Nat.add_mul_mod_self_left, Nat.mod_eq_of_lt k.isLt]
  rw [dif_pos hlt]
  exact Finset.sum_congr rfl fun l _ => by rw [hA k.val k.isLt l ⟨_, hlt⟩ hd hm, hB k.val k.isLt l ⟨_, hlt⟩ hd hm]

end Cert.Runs
-- ==== Proof.InDw.lean ====
/-
  The gradient of w_in: a grid step multiplies 1024 rows of the input with the same rows of 1920 columns of the cotangent; two steps
  add up to the sum over the 2048 rows.
-/
module

public import proofs.«01_k».proof.Defs
public import proofs.«01_k».proof.Proof.Runs
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.InDw

open Idealize.ShloMosaic Idealize.SL.Sem Idealize.ShloMosaic.TcCoe Cert.Kernel2Ideal Cert.Kernel2Ideal.Gen

variable (m : (ℓ : Loc nD τ sig) → Buf (Elt Ideal) ℓ) (c : Dev nD) (t : Fin cfg0.N)

/-- A step adds the product of its two blocks. -/
theorem gain (p : Vec Ideal S1024x1920 .f32) (b0 : Vec Ideal S1024x1024 .bf16) (b1 : Vec Ideal S1024x1920 .bf16) (i : Fin 1024) (j : Fin 1920) :
    k0_pay2 (F := Ideal) p b0 b1 (ix2 i j) = (p (ix2 i j) : EReal) + Runs.dot (fun l : Fin 1024 => b0 (ix2 l i)) fun l => b1 (ix2 l j) := by
  pointwise [k0_pay2]

/-- The scratch over the steps. -/
theorem scratch : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

/-- The block written is the running sum, rounded. -/
theorem last (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index0 : ∀ t : Fin cfg0.N, win0_0.index t = ![t.val % 2, 0] := (by decide +kernel : ∀ t : Fin grid0.N, win0_0.index t = ![t.val % 2, 0])
theorem index1 : ∀ t : Fin cfg0.N, win0_1.index t = ![t.val % 2, t.val / 2] := (by decide +kernel : ∀ t : Fin grid0.N, win0_1.index t = ![t.val % 2, t.val / 2])
theorem index2 : ∀ t : Fin cfg0.N, win0_2.index t = ![0, t.val / 2] := (by decide +kernel : ∀ t : Fin grid0.N, win0_2.index t = ![0, t.val / 2])

theorem point_lt (t : Fin cfg0.N) : t.val < 14 := t.isLt

theorem block0 (i l : Fin 1024) : (iblk m c 0 t : S1024x1024.Idx → EReal) (ix2 l i)
    = m ((c : Thread nD τ).loc main_arg0) (ix2 (⟨t.val % 2 * 1024 + l.val, by have := point_lt t; omega⟩ : Fin 2048) i) := by
  have := point_lt t
  blk_ext [iblk, V_main_arg0, index0 t]

theorem block1 (j : Fin 1920) (l : Fin 1024) : (iblk m c 1 t : S1024x1920.Idx → EReal) (ix2 l j)
    = m ((c : Thread nD τ).loc main_arg1) (ix2 (⟨t.val % 2 * 1024 + l.val, by have := point_lt t; omega⟩ : Fin 2048) (⟨t.val / 2 * 1920 + j.val, by have := point_lt t; omega⟩ : Fin 13440)) := by
  have := point_lt t
  blk_ext [iblk, V_main_arg1, index1 t]

/-- The last step of a run leaves the whole sum over all 2048. -/
theorem whole (h1 : t.val % 2 = 1) (i : Fin 1024) (j : Fin 1920) : (outsAt0 m c t.val t.isLt).2 (ix2 i j)
    = Runs.dot (fun q : Fin 2048 => m ((c : Thread nD τ).loc main_arg0) (ix2 q i)) fun q => m ((c : Thread nD τ).loc main_arg1) (ix2 q (⟨t.val / 2 * 1920 + j.val, by have := point_lt t; omega⟩ : Fin 13440)) :=
  (scratch m c).whole (L := 1024) (by norm_num) (by pointwise [k0_pay1]) (fun p s => gain p _ _ i j) (by omega)
    (fun k hk l s hd hm => by rw [block0]; simp only [hm])
    (fun k hk l s hd hm => by rw [block1]; simp only [hd, hm])

theorem array : (dats m 0 c).arrAt 2 cfg0.N = (Cert.Reference2Ideal.Read.val_main_v6 (F := Ideal) (m ((c : Thread nD τ).loc main_arg0)) (m ((c : Thread nD τ).loc main_arg1)) : S1024x13440.Idx → EReal) := by
  refine (dats m 0 c).arrAt_eq_of_covers 2 _ (by decide +kernel) fun t hf y => ?_
  blk_simp
  rw [after0_2]
  have ht := point_lt t
  obtain ⟨i, j, rfl⟩ : ∃ (i : Fin 1024) (j : Fin 1920), y = ix2 i j := ⟨y 0, y 1, by ext a; fin_cases a <;> rfl⟩
  have he : (win0_2.blk t).view.emb (ix2 i j) = ix2 i (⟨t.val / 2 * 1920 + j.val, by omega⟩ : Fin 13440) := by
    blk_ext [index2 t]
  have hl := (flush0_2 t).mp hf
  rw [he, last m c t hl]
  refine (whole m c t hl i j).trans ?_
  pointwise [Cert.Reference2Ideal.Read.val_main_v6, Cert.Reference2Ideal.Read.val_main_v5, Cert.Reference2Ideal.Read.val_main_v4, Cert.Reference2Ideal.Read.val_main_v3, Cert.Reference2Ideal.Read.val_main_v1]
  exact Runs.dot_comm _ _

/-- The kernel's frame, as printed and idealized. -/
theorem frame_k : Cert.quiescent_Kernel2 := fun m ρ _ => Cert.Kernel2.Gen.frame m ρ
theorem frame_i : Cert.quiescent_Kernel2Ideal := fun m ρ _ => Cert.Kernel2Ideal.Gen.frame m ρ

/-- The reference's frame. -/
theorem frame_r : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem same : Cert.preserves_Kernel2_Kernel2Ideal := trivial

/-- The kernel's array is the reference's gradient. -/
theorem equal : Cert.algebraic_Kernel2Ideal_Reference2Ideal := by
  intro m g m' g' hp ha
  refine ⟨_, Cert.Kernel2Ideal.Value.run_blocks m g, (θ_run Cert.Reference2Ideal.defs _ _).mono (fun r h c => ?_) (Cert.Reference2Ideal.Value.run m' g')⟩
  obtain ⟨a0, a1⟩ := ha c
  obtain ⟨h0, k⟩ := h c
  refine ⟨h0.trans ?_, k⟩
  rw [Cert.Reference2Ideal.Read.val_main_v6_eq, a0, a1]
  exact (array m c).symm

end Cert.InDw

end
-- ==== Proof.InDx.lean ====
/-
  The gradient of the input of the product with w_in: a grid step multiplies a block of 1024 rows of the cotangent with a block of
  1920 columns of the weight; seven steps add up to the sum over the 13440 columns.
-/
module

public import proofs.«01_k».proof.Defs
public import proofs.«01_k».proof.Proof.Runs
public import proofs.«01_k».proof.Proof.Gen.Kernel3.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.InDx

open Idealize.ShloMosaic Idealize.SL.Sem Idealize.ShloMosaic.TcCoe Cert.Kernel3Ideal Cert.Kernel3Ideal.Gen

variable (m : (ℓ : Loc nD τ sig) → Buf (Elt Ideal) ℓ) (c : Dev nD) (t : Fin cfg0.N)

/-- A step adds the product of its two blocks, the second turned. -/
theorem gain (p : Vec Ideal S1024x1024 .f32) (b0 b1 : Vec Ideal S1024x1920 .bf16) (i j : Fin 1024) :
    k0_pay2 (F := Ideal) p b0 b1 (ix2 i j) = (p (ix2 i j) : EReal) + Runs.dot (fun l : Fin 1920 => b0 (ix2 i l)) fun l => b1 (ix2 j l) := by
  pointwise [k0_pay2]

/-- The scratch over the steps. A run's last step, which also writes the block out, treats it as the ones before do. -/
theorem scratch : Runs.Scratch 7 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rcases Decidable.em (t.val % 7 = 6) with h1 | h1
    on_goal 1 => rw [outsAt0_C m c t h0 h1]
    on_goal 2 => rw [outsAt0_B m c t h0 h1]
    all_goals
      generalize iblk m c 0 t = b0, iblk m c 1 t = b1
      generalize outsAt0 m c (t.val - 1) _ = prev
      frame_open
      frame_out
      simp only [read_unread_whole]

/-- The block written is the running sum. -/
theorem last (h1 : t.val % 7 = 6) : (outsAt0 m c t.val t.isLt).1 = (outsAt0 m c t.val t.isLt).2 := by
  rw [outsAt0_C m c t (by omega) h1]
  generalize iblk m c 0 t = b0, iblk m c 1 t = b1
  generalize outsAt0 m c (t.val - 1) _ = prev
  frame_open
  frame_out

theorem index0 : ∀ t : Fin cfg0.N, win0_0.index t = ![t.val / 7, t.val % 7] := (by decide +kernel : ∀ t : Fin grid0.N, win0_0.index t = ![t.val / 7, t.val % 7])
theorem index1 : ∀ t : Fin cfg0.N, win0_1.index t = ![0, t.val % 7] := (by decide +kernel : ∀ t : Fin grid0.N, win0_1.index t = ![0, t.val % 7])
theorem index2 : ∀ t : Fin cfg0.N, win0_2.index t = ![t.val / 7, 0] := (by decide +kernel : ∀ t : Fin grid0.N, win0_2.index t = ![t.val / 7, 0])

theorem point_lt (t : Fin cfg0.N) : t.val < 14 := t.isLt

theorem block0 (i : Fin 1024) (l : Fin 1920) : (iblk m c 0 t : S1024x1920.Idx → EReal) (ix2 i l)
    = m ((c : Thread nD τ).loc main_arg0) (ix2 (⟨t.val / 7 * 1024 + i.val, by have := point_lt t; omega⟩ : Fin 2048) (⟨t.val % 7 * 1920 + l.val, by have := point_lt t; omega⟩ : Fin 13440)) := by
  have := point_lt t
  blk_ext [iblk, V_main_arg0, index0 t]

theorem block1 (j : Fin 1024) (l : Fin 1920) : (iblk m c 1 t : S1024x1920.Idx → EReal) (ix2 j l)
    = m ((c : Thread nD τ).loc main_arg1) (ix2 j (⟨t.val % 7 * 1920 + l.val, by have := point_lt t; omega⟩ : Fin 13440)) := by
  have := point_lt t
  blk_ext [iblk, V_main_arg1, index1 t]

/-- The last step of a run leaves the whole sum over all 13440. -/
theorem whole (h1 : t.val % 7 = 6) (i j : Fin 1024) : (outsAt0 m c t.val t.isLt).2 (ix2 i j)
    = Runs.dot (fun q : Fin 13440 => m ((c : Thread nD τ).loc main_arg0) (ix2 (⟨t.val / 7 * 1024 + i.val, by have := point_lt t; omega⟩ : Fin 2048) q)) fun q => m ((c : Thread nD τ).loc main_arg1) (ix2 j q) :=
  (scratch m c).whole (L := 1920) (by norm_num) (by pointwise [k0_pay1]) (fun p s => gain p _ _ i j) (by omega)
    (fun k hk l s hd hm => by rw [block0]; simp only [hd, hm])
    (fun k hk l s hd hm => by rw [block1]; simp only [hm])

theorem array : (dats m 0 c).arrAt 2 cfg0.N = (Cert.Reference3Ideal.Read.val_main_v4 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht := point_lt t
  obtain ⟨i, j, rfl⟩ : ∃ (i j : Fin 1024), y = ix2 i j := ⟨y 0, y 1, by ext a; fin_cases a <;> rfl⟩
  have he : (win0_2.blk t).view.emb (ix2 i j) = ix2 (⟨t.val / 7 * 1024 + i.val, by omega⟩ : Fin 2048) j := by
    blk_ext [index2 t]
  have hl := (flush0_2 t).mp hf
  rw [he, last m c t hl]
  refine (whole m c t hl i j).trans ?_
  pointwise [Cert.Reference3Ideal.Read.val_main_v4, Cert.Reference3Ideal.Read.val_main_v3, Cert.Reference3Ideal.Read.val_main_v1]

/-- The kernel's frame, as printed and idealized. -/
theorem frame_k : Cert.quiescent_Kernel3 := fun m ρ _ => Cert.Kernel3.Gen.frame m ρ
theorem frame_i : Cert.quiescent_Kernel3Ideal := fun m ρ _ => Cert.Kernel3Ideal.Gen.frame m ρ

/-- The reference's frame. -/
theorem frame_r : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem same : Cert.preserves_Kernel3_Kernel3Ideal := trivial

/-- The kernel's array is the reference's gradient. -/
theorem equal : Cert.algebraic_Kernel3Ideal_Reference3Ideal := by
  intro m g m' g' hp ha
  refine ⟨_, Cert.Kernel3Ideal.Value.run_blocks m g, (θ_run Cert.Reference3Ideal.defs _ _).mono (fun r h c => ?_) (Cert.Reference3Ideal.Value.run m' g')⟩
  obtain ⟨a0, a1⟩ := ha c
  obtain ⟨h0, k⟩ := h c
  refine ⟨h0.trans ?_, k⟩
  rw [Cert.Reference3Ideal.Read.val_main_v4_eq, a0, a1]
  exact (array m c).symm

end Cert.InDx

end
-- ==== Proof.DownDx.lean ====
/-
  The gradient of the MLP's hidden layer: a grid step multiplies a block of 1024 rows of the cotangent with a block of 1024 rows of
  w_down, turned, and with the derivative of the squared relu.
-/
module

public import proofs.«01_k».proof.Defs
public import proofs.«01_k».proof.Proof.Runs
public import proofs.«01_k».proof.Proof.Gen.Kernel4.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.DownDx

open Idealize.ShloMosaic Idealize.SL.Sem Idealize.ShloMosaic.TcCoe Cert.Kernel4Ideal Cert.Kernel4Ideal.Gen

variable (m : (ℓ : Loc nD τ sig) → Buf (Elt Ideal) ℓ) (c : Dev nD) (t : Fin cfg0.N)

/-- What a grid step leaves in the scratch: the product of its two blocks. -/
def part (b0 b1 : S1024x1024.Idx → EReal) (i j : Fin 1024) : EReal := Runs.dot (fun l : Fin 1024 => b0 (ix2 i l)) fun l => b1 (ix2 j l)

theorem restart (b0 b1 : Vec Ideal S1024x1024 .bf16) (i j : Fin 1024) : k0_pay2 (F := Ideal) (k0_pay1 (F := Ideal)) b0 b1 (ix2 i j) = part b0 b1 i j := by
  pointwise [k0_pay2, k0_pay1, part]

/-- The product times the derivative of the squared relu. -/
def grad (p u : EReal) : EReal := p * (Ideal.ofBits .f32 0x40000000#32 * max u 0)

/-- Where the hidden layer is not positive the factor is 0, as in the derivative of the relu. -/
theorem grad_eq (p u : EReal) : grad p u = if 0 < u then p * (Ideal.ofBits .f32 0x40000000#32 * max u 0) else 0 := by
  unfold grad
  split
  · rfl
  · rename_i h
    rw [max_eq_right (not_lt.mp h), mul_zero, mul_zero]

theorem step (i j : Fin 1024) : outsAt0 m c t (ix2 i j)
    = grad (part (iblk m c 0 t) (iblk m c 1 t) i j) ((iblk m c 2 t : S1024x1024.Idx → EReal) (ix2 i j)) := by
  rw [← restart]
  unfold outsAt0
  generalize iblk m c 0 t = b0, iblk m c 1 t = b1, iblk m c 2 t = b2
  frame_open
  frame_out
  generalize k0_pay2 (k0_pay1 (F := Ideal)) b0 b1 = p
  pointwise [k0_pay3, grad]

theorem index0 : ∀ t : Fin cfg0.N, win0_0.index t = ![t.val / 4, 0] := (by decide +kernel : ∀ t : Fin grid0.N, win0_0.index t = ![t.val / 4, 0])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, t.val % 4] := (by decide +kernel : ∀ t : Fin grid0.N, win0_2.index t = ![t.val / 4, t.val % 4])
theorem index3 : ∀ t : Fin cfg0.N, win0_3.index t = ![t.val / 4, t.val % 4] := (by decide +kernel : ∀ t : Fin grid0.N, win0_3.index t = ![t.val / 4, t.val % 4])

theorem point_lt (t : Fin cfg0.N) : t.val < 8 := t.isLt

theorem block0 (i l : Fin 1024) : (iblk m c 0 t : S1024x1024.Idx → EReal) (ix2 i l)
    = m ((c : Thread nD τ).loc main_arg0) (ix2 (⟨t.val / 4 * 1024 + i.val, by have := point_lt t; omega⟩ : Fin 2048) l) := by
  have := point_lt t
  blk_ext [iblk, V_main_arg0, index0 t]

theorem block1 (j l : Fin 1024) : (iblk m c 1 t : S1024x1024.Idx → EReal) (ix2 j l)
    = m ((c : Thread nD τ).loc main_arg1) (ix2 (⟨t.val % 4 * 1024 + j.val, by omega⟩ : Fin 4096) l) := by
  have := point_lt t
  blk_ext [iblk, V_main_arg1, index1 t]

theorem block2 (i j : Fin 1024) : (iblk m c 2 t : S1024x1024.Idx → EReal) (ix2 i j)
    = m ((c : Thread nD τ).loc main_arg2) (ix2 (⟨t.val / 4 * 1024 + i.val, by have := point_lt t; omega⟩ : Fin 2048) (⟨t.val % 4 * 1024 + j.val, by omega⟩ : Fin 4096)) := by
  have := point_lt t
  blk_ext [iblk, V_main_arg2, index2 t]

theorem array : (dats m 0 c).arrAt 3 cfg0.N = (Cert.Reference4Ideal.Read.val_main_v14 (F := Ideal) (m ((c : Thread nD τ).loc main_arg0)) (m ((c : Thread nD τ).loc main_arg1)) (m ((c : Thread nD τ).loc main_arg2)) : S2048x4096.Idx → EReal) := by
  refine (dats m 0 c).arrAt_eq_of_covers 3 _ (by decide +kernel) fun t hf y => ?_
  blk_simp
  rw [after0_3]
  have ht := point_lt t
  obtain ⟨i, j, rfl⟩ : ∃ (i j : Fin 1024), y = ix2 i j := ⟨y 0, y 1, by ext a; fin_cases a <;> rfl⟩
  have he : (win0_3.blk t).view.emb (ix2 i j) = ix2 (⟨t.val / 4 * 1024 + i.val, by omega⟩ : Fin 2048) (⟨t.val % 4 * 1024 + j.val, by omega⟩ : Fin 4096) := by
    blk_ext [index3 t]
  rw [he, step m c t, grad_eq]
  simp only [part, block0, block1, block2]
  pointwise [Cert.Reference4Ideal.Read.val_main_v14, Cert.Reference4Ideal.Read.val_main_v13, Cert.Reference4Ideal.Read.val_main_v12, Cert.Reference4Ideal.Read.val_main_cst_2, Cert.Reference4Ideal.Read.val_main_v11, Cert.Reference4Ideal.Read.val_main_v10, Cert.Reference4Ideal.Read.val_main_v9, Cert.Reference4Ideal.Read.val_main_v7, Cert.Reference4Ideal.Read.val_main_v6, Cert.Reference4Ideal.Read.val_main_v5, Cert.Reference4Ideal.Read.val_main_cst_1, Cert.Reference4Ideal.Read.val_main_v2, Cert.Reference4Ideal.Read.val_main_v1, Cert.Reference4Ideal.Read.val_main_cst, Cert.Reference4Ideal.Read.val_main_v0, Cert.Reference4Ideal.Read.val_main_call0_v0, Cert.Reference4Ideal.Read.val_main_call0_cst]

/-- The kernel's frame, as printed and idealized. -/
theorem frame_k : Cert.quiescent_Kernel4 := fun m ρ _ => Cert.Kernel4.Gen.frame m ρ
theorem frame_i : Cert.quiescent_Kernel4Ideal := fun m ρ _ => Cert.Kernel4Ideal.Gen.frame m ρ

/-- The reference's frame. -/
theorem frame_r : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem same : Cert.preserves_Kernel4_Kernel4Ideal := trivial

/-- The kernel's array is the reference's gradient. -/
theorem equal : Cert.algebraic_Kernel4Ideal_Reference4Ideal := by
  intro m g m' g' hp ha
  refine ⟨_, Cert.Kernel4Ideal.Value.run_blocks m g, (θ_run Cert.Reference4Ideal.defs _ _).mono (fun r h c => ?_) (Cert.Reference4Ideal.Value.run m' g')⟩
  obtain ⟨a0, a1, a2⟩ := ha c
  obtain ⟨h0, k⟩ := h c
  refine ⟨h0.trans ?_, k⟩
  rw [Cert.Reference4Ideal.Read.val_main_v14_eq, a0, a1, a2]
  exact (array m c).symm

end Cert.DownDx

end
-- ==== Proof.DownDw.lean ====
/-
  The gradient of w_down: a grid step multiplies 1024 rows of 1024 columns of the hidden layer with the same rows of the cotangent; two
  steps add up to the sum over the 2048 rows.
-/
module

public import proofs.«01_k».proof.Defs
public import proofs.«01_k».proof.Proof.Runs
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.DownDw

open Idealize.ShloMosaic Idealize.SL.Sem Idealize.ShloMosaic.TcCoe Cert.Kernel5Ideal Cert.Kernel5Ideal.Gen

variable (m : (ℓ : Loc nD τ sig) → Buf (Elt Ideal) ℓ) (c : Dev nD) (t : Fin cfg0.N)

/-- A step adds the product of its two blocks. -/
theorem gain (p : Vec Ideal S1024x1024 .f32) (b0 b1 : Vec Ideal S1024x1024 .bf16) (i j : Fin 1024) :
    k0_pay2 (F := Ideal) p b0 b1 (ix2 i j) = (p (ix2 i j) : EReal) + Runs.dot (fun l : Fin 1024 => b0 (ix2 l i)) fun l => b1 (ix2 l j) := by
  pointwise [k0_pay2]

/-- The scratch over the steps. -/
theorem scratch : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

/-- The block written is the running sum, rounded. -/
theorem last (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index0 : ∀ t : Fin cfg0.N, win0_0.index t = ![t.val % 2, t.val / 2] := (by decide +kernel : ∀ t : Fin grid0.N, win0_0.index t = ![t.val % 2, t.val / 2])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0] := (by decide +kernel : ∀ t : Fin grid0.N, win0_2.index t = ![t.val / 2, 0])

theorem point_lt (t : Fin cfg0.N) : t.val < 8 := t.isLt

theorem block0 (i l : Fin 1024) : (iblk m c 0 t : S1024x1024.Idx → EReal) (ix2 l i)
    = m ((c : Thread nD τ).loc main_arg0) (ix2 (⟨t.val % 2 * 1024 + l.val, by have := point_lt t; omega⟩ : Fin 2048) (⟨t.val / 2 * 1024 + i.val, by have := point_lt t; omega⟩ : Fin 4096)) := by
  have := point_lt t
  blk_ext [iblk, V_main_arg0, index0 t]

theorem block1 (j l : Fin 1024) : (iblk m c 1 t : S1024x1024.Idx → EReal) (ix2 l j)
    = m ((c : Thread nD τ).loc main_arg1) (ix2 (⟨t.val % 2 * 1024 + l.val, by have := point_lt t; omega⟩ : Fin 2048) j) := by
  have := point_lt t
  blk_ext [iblk, V_main_arg1, index1 t]

/-- The last step of a run leaves the whole sum over all 2048. -/
theorem whole (h1 : t.val % 2 = 1) (i j : Fin 1024) : (outsAt0 m c t.val t.isLt).2 (ix2 i j)
    = Runs.dot (fun q : Fin 2048 => m ((c : Thread nD τ).loc main_arg0) (ix2 q (⟨t.val / 2 * 1024 + i.val, by have := point_lt t; omega⟩ : Fin 4096))) fun q => m ((c : Thread nD τ).loc main_arg1) (ix2 q j) :=
  (scratch m c).whole (L := 1024) (by norm_num) (by pointwise [k0_pay1]) (fun p s => gain p _ _ i j) (by omega)
    (fun k hk l s hd hm => by rw [block0]; simp only [hd, hm])
    (fun k hk l s hd hm => by rw [block1]; simp only [hm])

theorem array : (dats m 0 c).arrAt 2 cfg0.N = (Cert.Reference5Ideal.Read.val_main_v6 (F := Ideal) (m ((c : Thread nD τ).loc main_arg0)) (m ((c : Thread nD τ).loc main_arg1)) : S4096x1024.Idx → EReal) := by
  refine (dats m 0 c).arrAt_eq_of_covers 2 _ (by decide +kernel) fun t hf y => ?_
  blk_simp
  rw [after0_2]
  have ht := point_lt t
  obtain ⟨i, j, rfl⟩ : ∃ (i j : Fin 1024), y = ix2 i j := ⟨y 0, y 1, by ext a; fin_cases a <;> rfl⟩
  have he : (win0_2.blk t).view.emb (ix2 i j) = ix2 (⟨t.val / 2 * 1024 + i.val, by omega⟩ : Fin 4096) j := by
    blk_ext [index2 t]
  have hl := (flush0_2 t).mp hf
  rw [he, last m c t hl]
  refine (whole m c t hl i j).trans ?_
  pointwise [Cert.Reference5Ideal.Read.val_main_v6, Cert.Reference5Ideal.Read.val_main_v5, Cert.Reference5Ideal.Read.val_main_v4, Cert.Reference5Ideal.Read.val_main_v3, Cert.Reference5Ideal.Read.val_main_v1]
  exact Runs.dot_comm _ _

/-- The kernel's frame, as printed and idealized. -/
theorem frame_k : Cert.quiescent_Kernel5 := fun m ρ _ => Cert.Kernel5.Gen.frame m ρ
theorem frame_i : Cert.quiescent_Kernel5Ideal := fun m ρ _ => Cert.Kernel5Ideal.Gen.frame m ρ

/-- The reference's frame. -/
theorem frame_r : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem same : Cert.preserves_Kernel5_Kernel5Ideal := trivial

/-- The kernel's array is the reference's gradient. -/
theorem equal : Cert.algebraic_Kernel5Ideal_Reference5Ideal := by
  intro m g m' g' hp ha
  refine ⟨_, Cert.Kernel5Ideal.Value.run_blocks m g, (θ_run Cert.Reference5Ideal.defs _ _).mono (fun r h c => ?_) (Cert.Reference5Ideal.Value.run m' g')⟩
  obtain ⟨a0, a1⟩ := ha c
  obtain ⟨h0, k⟩ := h c
  refine ⟨h0.trans ?_, k⟩
  rw [Cert.Reference5Ideal.Read.val_main_v6_eq, a0, a1]
  exact (array m c).symm

end Cert.DownDw

end
-- ==== Proof.UpDw.lean ====
/-
  The gradient of w_up in one shard of 512 columns for each device: a grid step multiplies 1024 rows of the input with the same rows of a
  shard's columns of the cotangent; two steps add up to the sum over the 2048 rows.
-/
module

public import proofs.«01_k».proof.Defs
public import proofs.«01_k».proof.Proof.Runs
public import proofs.«01_k».proof.Proof.Gen.Kernel6.Frame
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.UpDw

open Idealize.ShloMosaic Idealize.SL.Sem Idealize.ShloMosaic.TcCoe Cert.Kernel6Ideal Cert.Kernel6Ideal.Gen

variable (m : (ℓ : Loc nD τ sig) → Buf (Elt Ideal) ℓ) (c : Dev nD) (t : Fin cfg0.N)

/-- A step adds the product of its two blocks. -/
theorem gain (p : Vec Ideal S1024x512 .f32) (b0 : Vec Ideal S1024x1024 .bf16) (b1 : Vec Ideal S1024x512 .bf16) (i : Fin 1024) (j : Fin 512) :
    k0_pay2 (F := Ideal) p b0 b1 (ix2 i j) = (p (ix2 i j) : EReal) + Runs.dot (fun l : Fin 1024 => b0 (ix2 l i)) fun l => b1 (ix2 l j) := by
  pointwise [k0_pay2]

/-- The scratch over the steps. -/
theorem scratch : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

/-- The block written is the running sum, rounded. -/
theorem last (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index0 : ∀ t : Fin cfg0.N, win0_0.index t = ![t.val % 2, 0] := (by decide +kernel : ∀ t : Fin grid0.N, win0_0.index t = ![t.val % 2, 0])
theorem index1 : ∀ t : Fin cfg0.N, win0_1.index t = ![t.val % 2, t.val / 2] := (by decide +kernel : ∀ t : Fin grid0.N, win0_1.index t = ![t.val % 2, t.val / 2])
theorem index2 : ∀ t : Fin cfg0.N, win0_2.index t = ![t.val / 2, 0, 0] := (by decide +kernel : ∀ t : Fin grid0.N, win0_2.index t = ![t.val / 2, 0, 0])

theorem point_lt (t : Fin cfg0.N) : t.val < 16 := t.isLt

theorem block0 (i l : Fin 1024) : (iblk m c 0 t : S1024x1024.Idx → EReal) (ix2 l i)
    = m ((c : Thread nD τ).loc main_arg0) (ix2 (⟨t.val % 2 * 1024 + l.val, by have := point_lt t; omega⟩ : Fin 2048) i) := by
  have := point_lt t
  blk_ext [iblk, V_main_arg0, index0 t]

theorem block1 (j : Fin 512) (l : Fin 1024) : (iblk m c 1 t : S1024x512.Idx → EReal) (ix2 l j)
    = m ((c : Thread nD τ).loc main_arg1) (ix2 (⟨t.val % 2 * 1024 + l.val, by have := point_lt t; omega⟩ : Fin 2048) (⟨t.val / 2 * 512 + j.val, by have := point_lt t; omega⟩ : Fin 4096)) := by
  have := point_lt t
  blk_ext [iblk, V_main_arg1, index1 t]

/-- The last step of a run leaves the whole sum over all 2048. -/
theorem whole (h1 : t.val % 2 = 1) (i : Fin 1024) (j : Fin 512) : (outsAt0 m c t.val t.isLt).2 (ix2 i j)
    = Runs.dot (fun q : Fin 2048 => m ((c : Thread nD τ).loc main_arg0) (ix2 q i)) fun q => m ((c : Thread nD τ).loc main_arg1) (ix2 q (⟨t.val / 2 * 512 + j.val, by have := point_lt t; omega⟩ : Fin 4096)) :=
  (scratch m c).whole (L := 1024) (by norm_num) (by pointwise [k0_pay1]) (fun p s => gain p _ _ i j) (by omega)
    (fun k hk l s hd hm => by rw [block0]; simp only [hm])
    (fun k hk l s hd hm => by rw [block1]; simp only [hd, hm])

theorem array : (dats m 0 c).arrAt 2 cfg0.N = (Cert.Reference6Ideal.Read.val_main_v8 (F := Ideal) (m ((c : Thread nD τ).loc main_arg0)) (m ((c : Thread nD τ).loc main_arg1)) : S8x1024x512.Idx → EReal) := by
  refine (dats m 0 c).arrAt_eq_of_covers 2 _ (by decide +kernel) fun t hf y => ?_
  blk_simp
  rw [after0_2]
  have ht := point_lt t
  obtain ⟨z, i, j, rfl⟩ : ∃ (z : Fin 1) (i : Fin 1024) (j : Fin 512), y = ix3 z i j := ⟨y 0, y 1, y 2, by ext a; fin_cases a <;> rfl⟩
  obtain rfl := Subsingleton.elim z 0
  have he : (win0_2.blk t).view.emb (ix3 0 i j) = ix3 (⟨t.val / 2, by omega⟩ : Fin 8) i j := by
    blk_ext [index2 t]
  have hl := (flush0_2 t).mp hf
  rw [he, last m c t hl]
  have hw := whole m c t hl i j
  generalize (outsAt0 m c t.val t.isLt).2 = p at hw
  pointwise [k0_pay3, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v1]
  refine hw.trans ?_
  exact Runs.dot_comm _ _

/-- The kernel's frame, as printed and idealized. -/
theorem frame_k : Cert.quiescent_Kernel6 := fun m ρ _ => Cert.Kernel6.Gen.frame m ρ
theorem frame_i : Cert.quiescent_Kernel6Ideal := fun m ρ _ => Cert.Kernel6Ideal.Gen.frame m ρ

/-- The reference's frame. -/
theorem frame_r : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem same : Cert.preserves_Kernel6_Kernel6Ideal := trivial

/-- The kernel's array is the reference's gradient. -/
theorem equal : Cert.algebraic_Kernel6Ideal_Reference6Ideal := by
  intro m g m' g' hp ha
  refine ⟨_, Cert.Kernel6Ideal.Value.run_blocks m g, (θ_run Cert.Reference6Ideal.defs _ _).mono (fun r h c => ?_) (Cert.Reference6Ideal.Value.run m' g')⟩
  obtain ⟨a0, a1⟩ := ha c
  obtain ⟨h0, k⟩ := h c
  refine ⟨h0.trans ?_, k⟩
  rw [Cert.Reference6Ideal.Read.val_main_v8_eq, a0, a1]
  exact (array m c).symm

end Cert.UpDw

end
-- ==== Proof.UpDx.lean ====
/-
  The gradient of the MLP's input: a grid step multiplies a block of 1024 rows of the cotangent with a block of 1024 columns of w_up;
  four steps add up to the sum over the 4096 columns.
-/
module

public import proofs.«01_k».proof.Defs
public import proofs.«01_k».proof.Proof.Runs
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.UpDx

open Idealize.ShloMosaic Idealize.SL.Sem Idealize.ShloMosaic.TcCoe Cert.Kernel7Ideal Cert.Kernel7Ideal.Gen

variable (m : (ℓ : Loc nD τ sig) → Buf (Elt Ideal) ℓ) (c : Dev nD) (t : Fin cfg0.N)

/-- A step adds the product of its two blocks, the second turned. -/
theorem gain (p : Vec Ideal S1024x1024 .f32) (b0 b1 : Vec Ideal S1024x1024 .bf16) (i j : Fin 1024) :
    k0_pay2 (F := Ideal) p b0 b1 (ix2 i j) = (p (ix2 i j) : EReal) + Runs.dot (fun l : Fin 1024 => b0 (ix2 i l)) fun l => b1 (ix2 j l) := by
  pointwise [k0_pay2]

/-- The scratch over the steps. A run's last step, which also writes the block out, treats it as the ones before do. -/
theorem scratch : Runs.Scratch 4 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rcases Decidable.em (t.val % 4 = 3) with h1 | h1
    on_goal 1 => rw [outsAt0_C m c t h0 h1]
    on_goal 2 => rw [outsAt0_B m c t h0 h1]
    all_goals
      generalize iblk m c 0 t = b0, iblk m c 1 t = b1
      generalize outsAt0 m c (t.val - 1) _ = prev
      frame_open
      frame_out
      simp only [read_unread_whole]

/-- The block written is the running sum. -/
theorem last (h1 : t.val % 4 = 3) : (outsAt0 m c t.val t.isLt).1 = (outsAt0 m c t.val t.isLt).2 := by
  rw [outsAt0_C m c t (by omega) h1]
  generalize iblk m c 0 t = b0, iblk m c 1 t = b1
  generalize outsAt0 m c (t.val - 1) _ = prev
  frame_open
  frame_out

theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![0, t.val % 4] := (by decide +kernel : ∀ t : Fin grid0.N, win0_1.index t = ![0, t.val % 4])
theorem index2 : ∀ t : Fin cfg0.N, win0_2.index t = ![t.val / 4, 0] := (by decide +kernel : ∀ t : Fin grid0.N, win0_2.index t = ![t.val / 4, 0])

theorem point_lt (t : Fin cfg0.N) : t.val < 8 := t.isLt

theorem block0 (i l : Fin 1024) : (iblk m c 0 t : S1024x1024.Idx → EReal) (ix2 i l)
    = m ((c : Thread nD τ).loc main_arg0) (ix2 (⟨t.val / 4 * 1024 + i.val, by have := point_lt t; omega⟩ : Fin 2048) (⟨t.val % 4 * 1024 + l.val, by have := point_lt t; omega⟩ : Fin 4096)) := by
  have := point_lt t
  blk_ext [iblk, V_main_arg0, index0 t]

theorem block1 (j l : Fin 1024) : (iblk m c 1 t : S1024x1024.Idx → EReal) (ix2 j l)
    = m ((c : Thread nD τ).loc main_arg1) (ix2 j (⟨t.val % 4 * 1024 + l.val, by have := point_lt t; omega⟩ : Fin 4096)) := by
  have := point_lt t
  blk_ext [iblk, V_main_arg1, index1 t]

/-- The last step of a run leaves the whole sum over all 4096. -/
theorem whole (h1 : t.val % 4 = 3) (i j : Fin 1024) : (outsAt0 m c t.val t.isLt).2 (ix2 i j)
    = Runs.dot (fun q : Fin 4096 => m ((c : Thread nD τ).loc main_arg0) (ix2 (⟨t.val / 4 * 1024 + i.val, by have := point_lt t; omega⟩ : Fin 2048) q)) fun q => m ((c : Thread nD τ).loc main_arg1) (ix2 j q) :=
  (scratch m c).whole (L := 1024) (by norm_num) (by pointwise [k0_pay1]) (fun p s => gain p _ _ i j) (by omega)
    (fun k hk l s hd hm => by rw [block0]; simp only [hd, hm])
    (fun k hk l s hd hm => by rw [block1]; simp only [hm])

theorem array : (dats m 0 c).arrAt 2 cfg0.N = (Cert.Reference7Ideal.Read.val_main_v4 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht := point_lt t
  obtain ⟨i, j, rfl⟩ : ∃ (i j : Fin 1024), y = ix2 i j := ⟨y 0, y 1, by ext a; fin_cases a <;> rfl⟩
  have he : (win0_2.blk t).view.emb (ix2 i j) = ix2 (⟨t.val / 4 * 1024 + i.val, by omega⟩ : Fin 2048) j := by
    blk_ext [index2 t]
  have hl := (flush0_2 t).mp hf
  rw [he, last m c t hl]
  refine (whole m c t hl i j).trans ?_
  pointwise [Cert.Reference7Ideal.Read.val_main_v4, Cert.Reference7Ideal.Read.val_main_v3, Cert.Reference7Ideal.Read.val_main_v1]

/-- The kernel's frame, as printed and idealized. -/
theorem frame_k : Cert.quiescent_Kernel7 := fun m ρ _ => Cert.Kernel7.Gen.frame m ρ
theorem frame_i : Cert.quiescent_Kernel7Ideal := fun m ρ _ => Cert.Kernel7Ideal.Gen.frame m ρ

/-- The reference's frame. -/
theorem frame_r : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem same : Cert.preserves_Kernel7_Kernel7Ideal := trivial

/-- The kernel's array is the reference's gradient. -/
theorem equal : Cert.algebraic_Kernel7Ideal_Reference7Ideal := by
  intro m g m' g' hp ha
  refine ⟨_, Cert.Kernel7Ideal.Value.run_blocks m g, (θ_run Cert.Reference7Ideal.defs _ _).mono (fun r h c => ?_) (Cert.Reference7Ideal.Value.run m' g')⟩
  obtain ⟨a0, a1⟩ := ha c
  obtain ⟨h0, k⟩ := h c
  refine ⟨h0.trans ?_, k⟩
  rw [Cert.Reference7Ideal.Read.val_main_v4_eq, a0, a1]
  exact (array m c).symm

end Cert.UpDx

end
-- ==== Proof.In.lean ====
/-
  The product with w_in: a grid step multiplies a block of 1024 rows of the input with a block of 1920 columns of the weight, over
  the whole length of the sum.
-/
module

public import proofs.«01_k».proof.Defs
public import proofs.«01_k».proof.Proof.Runs
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.In

open Idealize.ShloMosaic Idealize.SL.Sem Idealize.ShloMosaic.TcCoe Cert.Kernel8Ideal Cert.Kernel8Ideal.Gen

variable (m : (ℓ : Loc nD τ sig) → Buf (Elt Ideal) ℓ) (c : Dev nD) (t : Fin cfg0.N)

/-- What a grid step leaves: the product of its two blocks. -/
def part (b0 : S1024x1024.Idx → EReal) (b1 : S1024x1920.Idx → EReal) (i : Fin 1024) (j : Fin 1920) : EReal :=
  Runs.dot (fun l : Fin 1024 => b0 (ix2 i l)) fun l => b1 (ix2 l j)

theorem restart (b0 : Vec Ideal S1024x1024 .bf16) (b1 : Vec Ideal S1024x1920 .bf16) (i : Fin 1024) (j : Fin 1920) :
    k0_pay2 (F := Ideal) (k0_pay1 (F := Ideal)) b0 b1 (ix2 i j) = part b0 b1 i j := by
  pointwise [k0_pay2, k0_pay1, part]

theorem step (i : Fin 1024) (j : Fin 1920) : outsAt0 m c t (ix2 i j) = part (iblk m c 0 t) (iblk m c 1 t) i j := by
  rw [← restart]
  unfold outsAt0
  generalize iblk m c 0 t = b0, iblk m c 1 t = b1
  frame_open
  frame_out

theorem index0 : ∀ t : Fin cfg0.N, win0_0.index t = ![t.val / 7, 0] := (by decide +kernel : ∀ t : Fin grid0.N, win0_0.index t = ![t.val / 7, 0])
theorem index1 : ∀ t : Fin cfg0.N, win0_1.index t = ![0, t.val % 7] := (by decide +kernel : ∀ t : Fin grid0.N, win0_1.index t = ![0, t.val % 7])
theorem index2 : ∀ t : Fin cfg0.N, win0_2.index t = ![t.val / 7, t.val % 7] := (by decide +kernel : ∀ t : Fin grid0.N, win0_2.index t = ![t.val / 7, t.val % 7])

theorem point_lt (t : Fin cfg0.N) : t.val < 14 := t.isLt

theorem block0 (i l : Fin 1024) : (iblk m c 0 t : S1024x1024.Idx → EReal) (ix2 i l)
    = m ((c : Thread nD τ).loc main_arg0) (ix2 (⟨t.val / 7 * 1024 + i.val, by have := point_lt t; omega⟩ : Fin 2048) l) := by
  have := point_lt t
  blk_ext [iblk, V_main_arg0, index0 t]

theorem block1 (l : Fin 1024) (j : Fin 1920) : (iblk m c 1 t : S1024x1920.Idx → EReal) (ix2 l j)
    = m ((c : Thread nD τ).loc main_arg1) (ix2 l (⟨t.val % 7 * 1920 + j.val, by omega⟩ : Fin 13440)) := by
  have := point_lt t
  blk_ext [iblk, V_main_arg1, index1 t]

theorem array : (dats m 0 c).arrAt 2 cfg0.N = (Cert.Reference8Ideal.Read.val_main_v2 (F := Ideal) (m ((c : Thread nD τ).loc main_arg0)) (m ((c : Thread nD τ).loc main_arg1)) : S2048x13440.Idx → EReal) := by
  refine (dats m 0 c).arrAt_eq_of_covers 2 _ (by decide +kernel) fun t hf y => ?_
  blk_simp
  rw [after0_2]
  have ht := point_lt t
  obtain ⟨i, j, rfl⟩ : ∃ (i : Fin 1024) (j : Fin 1920), y = ix2 i j := ⟨y 0, y 1, by ext a; fin_cases a <;> rfl⟩
  have he : (win0_2.blk t).view.emb (ix2 i j) = ix2 (⟨t.val / 7 * 1024 + i.val, by omega⟩ : Fin 2048) (⟨t.val % 7 * 1920 + j.val, by omega⟩ : Fin 13440) := by
    blk_ext [index2 t]
  rw [he, step m c t]
  simp only [part, block0, block1]
  pointwise [Cert.Reference8Ideal.Read.val_main_v2, Cert.Reference8Ideal.Read.val_main_v1, Cert.Reference8Ideal.Read.val_main_v0]

/-- The kernel's frame, as printed and idealized. -/
theorem frame_k : Cert.quiescent_Kernel8 := fun m ρ _ => Cert.Kernel8.Gen.frame m ρ
theorem frame_i : Cert.quiescent_Kernel8Ideal := fun m ρ _ => Cert.Kernel8Ideal.Gen.frame m ρ

/-- The reference's frame. -/
theorem frame_r : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem same : Cert.preserves_Kernel8_Kernel8Ideal := trivial

/-- The kernel's array is the reference's product. -/
theorem equal : Cert.algebraic_Kernel8Ideal_Reference8Ideal := by
  intro m g m' g' hp ha
  refine ⟨_, Cert.Kernel8Ideal.Value.run_blocks m g, (θ_run Cert.Reference8Ideal.defs _ _).mono (fun r h c => ?_) (Cert.Reference8Ideal.Value.run m' g')⟩
  obtain ⟨a0, a1⟩ := ha c
  obtain ⟨h0, k⟩ := h c
  refine ⟨h0.trans ?_, k⟩
  rw [Cert.Reference8Ideal.Read.val_main_v2_eq, a0, a1]
  exact (array m c).symm

end Cert.In

end
-- ==== Proof.Up.lean ====
/-
  The MLP's hidden layer: a grid step multiplies a block of 1024 rows of the input with a block of 1024 columns of w_up, and leaves the
  product and its squared positive part.
-/
module

public import proofs.«01_k».proof.Defs
public import proofs.«01_k».proof.Proof.Runs
public import proofs.«01_k».proof.Proof.Gen.Kernel9.Frame
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.Up

open Idealize.ShloMosaic Idealize.SL.Sem Idealize.ShloMosaic.TcCoe Cert.Kernel9Ideal Cert.Kernel9Ideal.Gen

variable (m : (ℓ : Loc nD τ sig) → Buf (Elt Ideal) ℓ) (c : Dev nD) (t : Fin cfg0.N)

/-- What a grid step leaves in the scratch: the product of its two blocks. -/
def part (b0 b1 : S1024x1024.Idx → EReal) (i j : Fin 1024) : EReal := Runs.dot (fun l : Fin 1024 => b0 (ix2 i l)) fun l => b1 (ix2 l j)

theorem restart (b0 b1 : Vec Ideal S1024x1024 .bf16) (i j : Fin 1024) : k0_pay2 (F := Ideal) (k0_pay1 (F := Ideal)) b0 b1 (ix2 i j) = part b0 b1 i j := by
  pointwise [k0_pay2, k0_pay1, part]

theorem step (i j : Fin 1024) : (outsAt0 m c t).1 (ix2 i j) = part (iblk m c 0 t) (iblk m c 1 t) i j := by
  rw [← restart]
  unfold outsAt0
  generalize iblk m c 0 t = b0, iblk m c 1 t = b1
  frame_open
  frame_out

theorem step_act (i j : Fin 1024) : (outsAt0 m c t).2 (ix2 i j)
    = max (part (iblk m c 0 t) (iblk m c 1 t) i j) 0 * max (part (iblk m c 0 t) (iblk m c 1 t) i j) 0 := by
  rw [← restart]
  unfold outsAt0
  generalize iblk m c 0 t = b0, iblk m c 1 t = b1
  frame_open
  frame_out
  generalize k0_pay2 (k0_pay1 (F := Ideal)) b0 b1 = p
  pointwise [k0_pay3]

theorem index0 : ∀ t : Fin cfg0.N, win0_0.index t = ![t.val / 4, 0] := (by decide +kernel : ∀ t : Fin grid0.N, win0_0.index t = ![t.val / 4, 0])
theorem index1 : ∀ t : Fin cfg0.N, win0_1.index t = ![0, t.val % 4] := (by decide +kernel : ∀ t : Fin grid0.N, win0_1.index t = ![0, t.val % 4])
theorem index2 : ∀ t : Fin cfg0.N, win0_2.index t = ![t.val / 4, t.val % 4] := (by decide +kernel : ∀ t : Fin grid0.N, win0_2.index t = ![t.val / 4, t.val % 4])
theorem index3 : ∀ t : Fin cfg0.N, win0_3.index t = ![t.val / 4, t.val % 4] := (by decide +kernel : ∀ t : Fin grid0.N, win0_3.index t = ![t.val / 4, t.val % 4])

theorem point_lt (t : Fin cfg0.N) : t.val < 8 := t.isLt

theorem block0 (i l : Fin 1024) : (iblk m c 0 t : S1024x1024.Idx → EReal) (ix2 i l)
    = m ((c : Thread nD τ).loc main_arg0) (ix2 (⟨t.val / 4 * 1024 + i.val, by have := point_lt t; omega⟩ : Fin 2048) l) := by
  have := point_lt t
  blk_ext [iblk, V_main_arg0, index0 t]

theorem block1 (l j : Fin 1024) : (iblk m c 1 t : S1024x1024.Idx → EReal) (ix2 l j)
    = m ((c : Thread nD τ).loc main_arg1) (ix2 l (⟨t.val % 4 * 1024 + j.val, by omega⟩ : Fin 4096)) := by
  have := point_lt t
  blk_ext [iblk, V_main_arg1, index1 t]

theorem array : (dats m 0 c).arrAt 2 cfg0.N = (Cert.Reference9Ideal.Read.val_main_v2 (F := Ideal) (m ((c : Thread nD τ).loc main_arg0)) (m ((c : Thread nD τ).loc main_arg1)) : S2048x4096.Idx → EReal) := by
  refine (dats m 0 c).arrAt_eq_of_covers 2 _ (by decide +kernel) fun t hf y => ?_
  blk_simp
  rw [after0_2]
  have ht := point_lt t
  obtain ⟨i, j, rfl⟩ : ∃ (i j : Fin 1024), y = ix2 i j := ⟨y 0, y 1, by ext a; fin_cases a <;> rfl⟩
  have he : (win0_2.blk t).view.emb (ix2 i j) = ix2 (⟨t.val / 4 * 1024 + i.val, by omega⟩ : Fin 2048) (⟨t.val % 4 * 1024 + j.val, by omega⟩ : Fin 4096) := by
    blk_ext [index2 t]
  rw [he, step m c t]
  simp only [part, block0, block1]
  pointwise [Cert.Reference9Ideal.Read.val_main_v2, Cert.Reference9Ideal.Read.val_main_v1, Cert.Reference9Ideal.Read.val_main_v0]

theorem array_act : (dats m 0 c).arrAt 3 cfg0.N = (Cert.Reference9Ideal.Read.val_main_v5 (F := Ideal) (m ((c : Thread nD τ).loc main_arg0)) (m ((c : Thread nD τ).loc main_arg1)) : S2048x4096.Idx → EReal) := by
  refine (dats m 0 c).arrAt_eq_of_covers 3 _ (by decide +kernel) fun t hf y => ?_
  blk_simp
  rw [after0_3]
  have ht := point_lt t
  obtain ⟨i, j, rfl⟩ : ∃ (i j : Fin 1024), y = ix2 i j := ⟨y 0, y 1, by ext a; fin_cases a <;> rfl⟩
  have he : (win0_3.blk t).view.emb (ix2 i j) = ix2 (⟨t.val / 4 * 1024 + i.val, by omega⟩ : Fin 2048) (⟨t.val % 4 * 1024 + j.val, by omega⟩ : Fin 4096) := by
    blk_ext [index3 t]
  rw [he, step_act m c t]
  simp only [part, block0, block1]
  pointwise [Cert.Reference9Ideal.Read.val_main_v5, Cert.Reference9Ideal.Read.val_main_v4, Cert.Reference9Ideal.Read.val_main_v3, Cert.Reference9Ideal.Read.val_main_call0_v0, Cert.Reference9Ideal.Read.val_main_call0_cst, Cert.Reference9Ideal.Read.val_main_v2, Cert.Reference9Ideal.Read.val_main_v1, Cert.Reference9Ideal.Read.val_main_v0]

/-- The kernel's frame, as printed and idealized. -/
theorem frame_k : Cert.quiescent_Kernel9 := fun m ρ _ => Cert.Kernel9.Gen.frame m ρ
theorem frame_i : Cert.quiescent_Kernel9Ideal := fun m ρ _ => Cert.Kernel9Ideal.Gen.frame m ρ

/-- The reference's frame. -/
theorem frame_r : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

theorem same : Cert.preserves_Kernel9_Kernel9Ideal := trivial

/-- The kernel's two arrays are the reference's. -/
theorem equal : Cert.algebraic_Kernel9Ideal_Reference9Ideal := by
  intro m g m' g' hp ha
  refine ⟨_, _, Cert.Kernel9Ideal.Value.run_blocks m g, (θ_run Cert.Reference9Ideal.defs _ _).mono (fun r h c => ?_) (Cert.Reference9Ideal.Value.run m' g')⟩
  obtain ⟨a0, a1⟩ := ha c
  obtain ⟨h0, h1, k⟩ := h c
  refine ⟨h0.trans ?_, h1.trans ?_, k⟩
  · rw [Cert.Reference9Ideal.Read.val_main_v2_eq, a0, a1]; exact (array m c).symm
  · rw [Cert.Reference9Ideal.Read.val_main_v5_eq, a0, a1]; exact (array_act m c).symm

end Cert.Up

end
-- ==== Proof.Down.lean ====
/-
  The MLP's output: a grid step multiplies a block of 1024 rows and 1024 columns of the hidden layer with the same rows of w_down; four
  steps add up to the sum over the 4096 columns, and the last adds the residual.
-/
module

public import proofs.«01_k».proof.Defs
public import proofs.«01_k».proof.Proof.Runs
public import proofs.«01_k».proof.Proof.Gen.Kernel10.Frame
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.Down

open Idealize.ShloMosaic Idealize.SL.Sem Idealize.ShloMosaic.TcCoe Cert.Kernel10Ideal Cert.Kernel10Ideal.Gen

variable (m : (ℓ : Loc nD τ sig) → Buf (Elt Ideal) ℓ) (c : Dev nD) (t : Fin cfg0.N)

/-- A step adds the product of its two blocks. -/
theorem gain (p : Vec Ideal S1024x1024 .f32) (b0 b1 : Vec Ideal S1024x1024 .bf16) (i j : Fin 1024) :
    k0_pay2 (F := Ideal) p b0 b1 (ix2 i j) = (p (ix2 i j) : EReal) + Runs.dot (fun l : Fin 1024 => b0 (ix2 i l)) fun l => b1 (ix2 l j) := by
  pointwise [k0_pay2]

/-- The scratch over the steps. The residual's block is not in it: a run's last step adds it to what it writes out. -/
theorem scratch : Runs.Scratch 4 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1, iblk m c 2 t = b2
    frame_open
    frame_out
  later t h0 := by
    rcases Decidable.em (t.val % 4 = 3) with h1 | h1
    on_goal 1 => rw [outsAt0_C m c t h0 h1]
    on_goal 2 => rw [outsAt0_B m c t h0 h1]
    all_goals
      generalize iblk m c 0 t = b0, iblk m c 1 t = b1, iblk m c 2 t = b2
      generalize outsAt0 m c (t.val - 1) _ = prev
      frame_open
      frame_out
      simp only [read_unread_whole]

/-- The block written is the running sum, with the residual's block added. -/
theorem last (h1 : t.val % 4 = 3) : (outsAt0 m c t.val t.isLt).1 = k0_pay3 (outsAt0 m c t.val t.isLt).2 (iblk m c 2 t) := by
  rw [outsAt0_C m c t (by omega) h1]
  generalize iblk m c 0 t = b0, iblk m c 1 t = b1, iblk m c 2 t = b2
  generalize outsAt0 m c (t.val - 1) _ = prev
  frame_open
  frame_out

theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, 0] := (by decide +kernel : ∀ t : Fin grid0.N, win0_2.index t = ![t.val / 4, 0])
theorem index3 : ∀ t : Fin cfg0.N, win0_3.index t = ![t.val / 4, 0] := (by decide +kernel : ∀ t : Fin grid0.N, win0_3.index t = ![t.val / 4, 0])

theorem point_lt (t : Fin cfg0.N) : t.val < 8 := t.isLt

theorem block0 (i l : Fin 1024) : (iblk m c 0 t : S1024x1024.Idx → EReal) (ix2 i l)
    = m ((c : Thread nD τ).loc main_arg0) (ix2 (⟨t.val / 4 * 1024 + i.val, by have := point_lt t; omega⟩ : Fin 2048) (⟨t.val % 4 * 1024 + l.val, by have := point_lt t; omega⟩ : Fin 4096)) := by
  have := point_lt t
  blk_ext [iblk, V_main_arg0, index0 t]

theorem block1 (j l : Fin 1024) : (iblk m c 1 t : S1024x1024.Idx → EReal) (ix2 l j)
    = m ((c : Thread nD τ).loc main_arg1) (ix2 (⟨t.val % 4 * 1024 + l.val, by have := point_lt t; omega⟩ : Fin 4096) j) := by
  have := point_lt t
  blk_ext [iblk, V_main_arg1, index1 t]

theorem block2 (i j : Fin 1024) : (iblk m c 2 t : S1024x1024.Idx → EReal) (ix2 i j) = m ((c : Thread nD τ).loc main_arg2) (ix2 (⟨t.val / 4 * 1024 + i.val, by have := point_lt t; omega⟩ : Fin 2048) j) := by
  have := point_lt t
  blk_ext [iblk, V_main_arg2, index2 t]

/-- The last step of a run leaves the whole sum over all 4096. -/
theorem whole (h1 : t.val % 4 = 3) (i j : Fin 1024) : (outsAt0 m c t.val t.isLt).2 (ix2 i j)
    = Runs.dot (fun q : Fin 4096 => m ((c : Thread nD τ).loc main_arg0) (ix2 (⟨t.val / 4 * 1024 + i.val, by have := point_lt t; omega⟩ : Fin 2048) q)) fun q => m ((c : Thread nD τ).loc main_arg1) (ix2 q j) :=
  (scratch m c).whole (L := 1024) (by norm_num) (by pointwise [k0_pay1]) (fun p s => gain p _ _ i j) (by omega)
    (fun k hk l s hd hm => by rw [block0]; simp only [hd, hm])
    (fun k hk l s hd hm => by rw [block1]; simp only [hm])

theorem array : (dats m 0 c).arrAt 3 cfg0.N = (Cert.Reference10Ideal.Read.val_main_v3 (F := Ideal) (m ((c : Thread nD τ).loc main_arg0)) (m ((c : Thread nD τ).loc main_arg1)) (m ((c : Thread nD τ).loc main_arg2)) : S2048x1024.Idx → EReal) := by
  refine (dats m 0 c).arrAt_eq_of_covers 3 _ (by decide +kernel) fun t hf y => ?_
  blk_simp
  rw [after0_3]
  have ht := point_lt t
  obtain ⟨i, j, rfl⟩ : ∃ (i j : Fin 1024), y = ix2 i j := ⟨y 0, y 1, by ext a; fin_cases a <;> rfl⟩
  have he : (win0_3.blk t).view.emb (ix2 i j) = ix2 (⟨t.val / 4 * 1024 + i.val, by omega⟩ : Fin 2048) j := by
    blk_ext [index3 t]
  have hl := (flush0_3 t).mp hf
  rw [he, last m c t hl]
  have hw := whole m c t hl i j
  generalize (outsAt0 m c t.val t.isLt).2 = p at hw
  pointwise [k0_pay3, Cert.Reference10Ideal.Read.val_main_v3, Cert.Reference10Ideal.Read.val_main_v2, Cert.Reference10Ideal.Read.val_main_v1, Cert.Reference10Ideal.Read.val_main_v0]
  rw [hw, block2]
  exact add_comm (G := EReal) _ _

/-- The kernel's frame, as printed and idealized. -/
theorem frame_k : Cert.quiescent_Kernel10 := fun m ρ _ => Cert.Kernel10.Gen.frame m ρ
theorem frame_i : Cert.quiescent_Kernel10Ideal := fun m ρ _ => Cert.Kernel10Ideal.Gen.frame m ρ

/-- The reference's frame. -/
theorem frame_r : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem same : Cert.preserves_Kernel10_Kernel10Ideal := trivial

/-- The kernel's array is the reference's sum. -/
theorem equal : Cert.algebraic_Kernel10Ideal_Reference10Ideal := by
  intro m g m' g' hp ha
  refine ⟨_, Cert.Kernel10Ideal.Value.run_blocks m g, (θ_run Cert.Reference10Ideal.defs _ _).mono (fun r h c => ?_) (Cert.Reference10Ideal.Value.run m' g')⟩
  obtain ⟨a0, a1, a2⟩ := ha c
  obtain ⟨h0, k⟩ := h c
  refine ⟨h0.trans ?_, k⟩
  rw [Cert.Reference10Ideal.Read.val_main_v3_eq, a0, a1, a2]
  exact (array m c).symm

end Cert.Down

end
-- ==== Proof.OutDx.lean ====
/-
  The gradient of the merged branches: a grid step multiplies a block of 1024 rows of the cotangent with the whole of w_out, turned.
-/
module

public import proofs.«01_k».proof.Defs
public import proofs.«01_k».proof.Proof.Runs
public import proofs.«01_k».proof.Proof.Gen.Kernel11.Frame
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.OutDx

open Idealize.ShloMosaic Idealize.SL.Sem Idealize.ShloMosaic.TcCoe Cert.Kernel11Ideal Cert.Kernel11Ideal.Gen

variable (m : (ℓ : Loc nD τ sig) → Buf (Elt Ideal) ℓ) (c : Dev nD) (t : Fin cfg0.N)

/-- What a grid step leaves in the scratch: the product of its two blocks. -/
def part (b0 b1 : S1024x1024.Idx → EReal) (i j : Fin 1024) : EReal := Runs.dot (fun l : Fin 1024 => b0 (ix2 i l)) fun l => b1 (ix2 j l)

theorem restart (b0 b1 : Vec Ideal S1024x1024 .bf16) (i j : Fin 1024) : k0_pay2 (F := Ideal) (k0_pay1 (F := Ideal)) b0 b1 (ix2 i j) = part b0 b1 i j := by
  pointwise [k0_pay2, k0_pay1, part]

theorem step (i j : Fin 1024) : outsAt0 m c t (ix2 i j) = part (iblk m c 0 t) (iblk m c 1 t) i j := by
  rw [← restart]
  unfold outsAt0
  generalize iblk m c 0 t = b0, iblk m c 1 t = b1
  frame_open
  frame_out

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

theorem point_lt (t : Fin cfg0.N) : t.val < 2 := t.isLt

theorem block0 (i l : Fin 1024) : (iblk m c 0 t : S1024x1024.Idx → EReal) (ix2 i l)
    = m ((c : Thread nD τ).loc main_arg0) (ix2 (⟨t.val * 1024 + i.val, by have := point_lt t; omega⟩ : Fin 2048) l) := by
  have := point_lt t
  blk_ext [iblk, V_main_arg0, index0 t]

theorem block1 (j l : Fin 1024) : (iblk m c 1 t : S1024x1024.Idx → EReal) (ix2 j l) = m ((c : Thread nD τ).loc main_arg1) (ix2 j l) := by
  have := point_lt t
  blk_ext [iblk, V_main_arg1, index1 t]

theorem array : (dats m 0 c).arrAt 2 cfg0.N = (Cert.Reference11Ideal.Read.val_main_v4 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht := point_lt t
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) j := by
    blk_ext [index2 t]
  rw [he, step m c t]
  simp only [part, block0, block1]
  pointwise [Cert.Reference11Ideal.Read.val_main_v4, Cert.Reference11Ideal.Read.val_main_v3, Cert.Reference11Ideal.Read.val_main_v1]

/-- The kernel's frame, as printed and idealized. -/
theorem frame_k : Cert.quiescent_Kernel11 := fun m ρ _ => Cert.Kernel11.Gen.frame m ρ
theorem frame_i : Cert.quiescent_Kernel11Ideal := fun m ρ _ => Cert.Kernel11Ideal.Gen.frame m ρ

/-- The reference's frame. -/
theorem frame_r : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem same : Cert.preserves_Kernel11_Kernel11Ideal := trivial

/-- The kernel's array is the reference's gradient. -/
theorem equal : Cert.algebraic_Kernel11Ideal_Reference11Ideal := by
  intro m g m' g' hp ha
  refine ⟨_, Cert.Kernel11Ideal.Value.run_blocks m g, (θ_run Cert.Reference11Ideal.defs _ _).mono (fun r h c => ?_) (Cert.Reference11Ideal.Value.run m' g')⟩
  obtain ⟨a0, a1⟩ := ha c
  obtain ⟨h0, k⟩ := h c
  refine ⟨h0.trans ?_, k⟩
  rw [Cert.Reference11Ideal.Read.val_main_v4_eq, a0, a1]
  exact (array m c).symm

end Cert.OutDx

end
-- ==== Proof.OutDw.lean ====
/-
  The gradient of w_out: a grid step multiplies 1024 rows of the merged branches with the same rows of the cotangent; two steps add up
  to the sum over the 2048 rows.
-/
module

public import proofs.«01_k».proof.Defs
public import proofs.«01_k».proof.Proof.Runs
public import proofs.«01_k».proof.Proof.Gen.Kernel12.Frame
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.OutDw

open Idealize.ShloMosaic Idealize.SL.Sem Idealize.ShloMosaic.TcCoe Cert.Kernel12Ideal Cert.Kernel12Ideal.Gen

variable (m : (ℓ : Loc nD τ sig) → Buf (Elt Ideal) ℓ) (c : Dev nD) (t : Fin cfg0.N)

/-- A step adds the product of its two blocks. -/
theorem gain (p : Vec Ideal S1024x1024 .f32) (b0 b1 : Vec Ideal S1024x1024 .bf16) (i j : Fin 1024) :
    k0_pay2 (F := Ideal) p b0 b1 (ix2 i j) = (p (ix2 i j) : EReal) + Runs.dot (fun l : Fin 1024 => b0 (ix2 l i)) fun l => b1 (ix2 l j) := by
  pointwise [k0_pay2]

/-- The scratch over the two steps. -/
theorem scratch : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

/-- The block written is the running sum, rounded. -/
theorem last (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index0 : ∀ t : Fin cfg0.N, win0_0.index t = ![t.val % 2, 0] := (by decide +kernel : ∀ t : Fin grid0.N, win0_0.index t = ![t.val % 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![0, 0] := (by decide +kernel : ∀ t : Fin grid0.N, win0_2.index t = ![0, 0])

theorem point_lt (t : Fin cfg0.N) : t.val < 2 := t.isLt

theorem block0 (i l : Fin 1024) : (iblk m c 0 t : S1024x1024.Idx → EReal) (ix2 l i)
    = m ((c : Thread nD τ).loc main_arg0) (ix2 (⟨t.val % 2 * 1024 + l.val, by have := point_lt t; omega⟩ : Fin 2048) i) := by
  have := point_lt t
  blk_ext [iblk, V_main_arg0, index0 t]

theorem block1 (j l : Fin 1024) : (iblk m c 1 t : S1024x1024.Idx → EReal) (ix2 l j)
    = m ((c : Thread nD τ).loc main_arg1) (ix2 (⟨t.val % 2 * 1024 + l.val, by have := point_lt t; omega⟩ : Fin 2048) j) := by
  have := point_lt t
  blk_ext [iblk, V_main_arg1, index1 t]

/-- The last step of a run leaves the whole sum over all 2048. -/
theorem whole (h1 : t.val % 2 = 1) (i j : Fin 1024) : (outsAt0 m c t.val t.isLt).2 (ix2 i j)
    = Runs.dot (fun q : Fin 2048 => m ((c : Thread nD τ).loc main_arg0) (ix2 q i)) fun q => m ((c : Thread nD τ).loc main_arg1) (ix2 q j) :=
  (scratch m c).whole (L := 1024) (by norm_num) (by pointwise [k0_pay1]) (fun p s => gain p _ _ i j) (by omega)
    (fun k hk l s hd hm => by rw [block0]; simp only [hm])
    (fun k hk l s hd hm => by rw [block1]; simp only [hm])

theorem array : (dats m 0 c).arrAt 2 cfg0.N = (Cert.Reference12Ideal.Read.val_main_v6 (F := Ideal) (m ((c : Thread nD τ).loc main_arg0)) (m ((c : Thread nD τ).loc main_arg1)) : S1024x1024.Idx → EReal) := by
  refine (dats m 0 c).arrAt_eq_of_covers 2 _ (by decide +kernel) fun t hf y => ?_
  blk_simp
  rw [after0_2]
  have ht := point_lt t
  obtain ⟨i, j, rfl⟩ : ∃ (i j : Fin 1024), y = ix2 i j := ⟨y 0, y 1, by ext a; fin_cases a <;> rfl⟩
  have he : (win0_2.blk t).view.emb (ix2 i j) = ix2 i j := by
    blk_ext [index2 t]
  have hl := (flush0_2 t).mp hf
  rw [he, last m c t hl]
  refine (whole m c t hl i j).trans ?_
  pointwise [Cert.Reference12Ideal.Read.val_main_v6, Cert.Reference12Ideal.Read.val_main_v5, Cert.Reference12Ideal.Read.val_main_v4, Cert.Reference12Ideal.Read.val_main_v3, Cert.Reference12Ideal.Read.val_main_v1]
  exact Runs.dot_comm _ _

/-- The kernel's frame, as printed and idealized. -/
theorem frame_k : Cert.quiescent_Kernel12 := fun m ρ _ => Cert.Kernel12.Gen.frame m ρ
theorem frame_i : Cert.quiescent_Kernel12Ideal := fun m ρ _ => Cert.Kernel12Ideal.Gen.frame m ρ

/-- The reference's frame. -/
theorem frame_r : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem same : Cert.preserves_Kernel12_Kernel12Ideal := trivial

/-- The kernel's array is the reference's gradient. -/
theorem equal : Cert.algebraic_Kernel12Ideal_Reference12Ideal := by
  intro m g m' g' hp ha
  refine ⟨_, Cert.Kernel12Ideal.Value.run_blocks m g, (θ_run Cert.Reference12Ideal.defs _ _).mono (fun r h c => ?_) (Cert.Reference12Ideal.Value.run m' g')⟩
  obtain ⟨a0, a1⟩ := ha c
  obtain ⟨h0, k⟩ := h c
  refine ⟨h0.trans ?_, k⟩
  rw [Cert.Reference12Ideal.Read.val_main_v6_eq, a0, a1]
  exact (array m c).symm

end Cert.OutDw

end
-- ==== Proof.Out.lean ====
/-
  The product with w_out and the residual: a grid step multiplies a block of 1024 rows of the merged branches with the whole weight, and
  adds the same rows of the residual.
-/
module

public import proofs.«01_k».proof.Defs
public import proofs.«01_k».proof.Proof.Runs
public import proofs.«01_k».proof.Proof.Gen.Kernel13.Frame
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.Out

open Idealize.ShloMosaic Idealize.SL.Sem Idealize.ShloMosaic.TcCoe Cert.Kernel13Ideal Cert.Kernel13Ideal.Gen

variable (m : (ℓ : Loc nD τ sig) → Buf (Elt Ideal) ℓ) (c : Dev nD) (t : Fin cfg0.N)

/-- What a grid step leaves in the scratch: the product of its two blocks. -/
def part (b0 b1 : S1024x1024.Idx → EReal) (i j : Fin 1024) : EReal := Runs.dot (fun l : Fin 1024 => b0 (ix2 i l)) fun l => b1 (ix2 l j)

theorem restart (b0 b1 : Vec Ideal S1024x1024 .bf16) (i j : Fin 1024) : k0_pay2 (F := Ideal) (k0_pay1 (F := Ideal)) b0 b1 (ix2 i j) = part b0 b1 i j := by
  pointwise [k0_pay2, k0_pay1, part]

theorem step (i j : Fin 1024) : outsAt0 m c t (ix2 i j) = part (iblk m c 0 t) (iblk m c 1 t) i j + (iblk m c 2 t : S1024x1024.Idx → EReal) (ix2 i j) := by
  rw [← restart]
  unfold outsAt0
  generalize iblk m c 0 t = b0, iblk m c 1 t = b1, iblk m c 2 t = b2
  frame_open
  frame_out
  generalize k0_pay2 (k0_pay1 (F := Ideal)) b0 b1 = p
  pointwise [k0_pay3]

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

theorem point_lt (t : Fin cfg0.N) : t.val < 2 := t.isLt

theorem block0 (i l : Fin 1024) : (iblk m c 0 t : S1024x1024.Idx → EReal) (ix2 i l)
    = m ((c : Thread nD τ).loc main_arg0) (ix2 (⟨t.val * 1024 + i.val, by have := point_lt t; omega⟩ : Fin 2048) l) := by
  have := point_lt t
  blk_ext [iblk, V_main_arg0, index0 t]

theorem block1 (l j : Fin 1024) : (iblk m c 1 t : S1024x1024.Idx → EReal) (ix2 l j) = m ((c : Thread nD τ).loc main_arg1) (ix2 l j) := by
  have := point_lt t
  blk_ext [iblk, V_main_arg1, index1 t]

theorem block2 (i j : Fin 1024) : (iblk m c 2 t : S1024x1024.Idx → EReal) (ix2 i j)
    = m ((c : Thread nD τ).loc main_arg2) (ix2 (⟨t.val * 1024 + i.val, by have := point_lt t; omega⟩ : Fin 2048) j) := by
  have := point_lt t
  blk_ext [iblk, V_main_arg2, index2 t]

theorem array : (dats m 0 c).arrAt 3 cfg0.N = (Cert.Reference13Ideal.Read.val_main_v3 (F := Ideal) (m ((c : Thread nD τ).loc main_arg0)) (m ((c : Thread nD τ).loc main_arg1)) (m ((c : Thread nD τ).loc main_arg2)) : S2048x1024.Idx → EReal) := by
  refine (dats m 0 c).arrAt_eq_of_covers 3 _ (by decide +kernel) fun t hf y => ?_
  blk_simp
  rw [after0_3]
  have ht := point_lt t
  obtain ⟨i, j, rfl⟩ : ∃ (i j : Fin 1024), y = ix2 i j := ⟨y 0, y 1, by ext a; fin_cases a <;> rfl⟩
  have he : (win0_3.blk t).view.emb (ix2 i j) = ix2 (⟨t.val * 1024 + i.val, by omega⟩ : Fin 2048) j := by
    blk_ext [index3 t]
  rw [he, step m c t]
  simp only [part, block0, block1, block2]
  pointwise [Cert.Reference13Ideal.Read.val_main_v3, Cert.Reference13Ideal.Read.val_main_v2, Cert.Reference13Ideal.Read.val_main_v1, Cert.Reference13Ideal.Read.val_main_v0]
  exact add_comm (G := EReal) _ _

/-- The kernel's frame, as printed and idealized. -/
theorem frame_k : Cert.quiescent_Kernel13 := fun m ρ _ => Cert.Kernel13.Gen.frame m ρ
theorem frame_i : Cert.quiescent_Kernel13Ideal := fun m ρ _ => Cert.Kernel13Ideal.Gen.frame m ρ

/-- The reference's frame. -/
theorem frame_r : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem same : Cert.preserves_Kernel13_Kernel13Ideal := trivial

/-- The kernel's array is the reference's sum. -/
theorem equal : Cert.algebraic_Kernel13Ideal_Reference13Ideal := by
  intro m g m' g' hp ha
  refine ⟨_, Cert.Kernel13Ideal.Value.run_blocks m g, (θ_run Cert.Reference13Ideal.defs _ _).mono (fun r h c => ?_) (Cert.Reference13Ideal.Value.run m' g')⟩
  obtain ⟨a0, a1, a2⟩ := ha c
  obtain ⟨h0, k⟩ := h c
  refine ⟨h0.trans ?_, k⟩
  rw [Cert.Reference13Ideal.Read.val_main_v3_eq, a0, a1, a2]
  exact (array m c).symm

end Cert.Out

end
-- ==== Proof.BranchDw.lean ====
/-
  The gradients of the weights of the three branches' products, one call each: a grid step multiplies 1024 rows of the branch with the same
  rows of the branch's 1024 columns of the cotangent; two steps add up to the sum over the 2048 rows. The calls differ in the columns that
  they read.
-/
module

public import proofs.«01_k».proof.Defs
public import proofs.«01_k».proof.Proof.Runs
public import proofs.«01_k».proof.Proof.Gen.Kernel14.Frame
public import proofs.«01_k».proof.Proof.Gen.Kernel15.Frame
public import proofs.«01_k».proof.Proof.Gen.Kernel16.Frame
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Reference14Ideal.Read
public import proofs.«01_k».proof.Proof.Gen.Reference15Ideal.Read
public import proofs.«01_k».proof.Proof.Gen.Reference16Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.BranchDw

open Idealize.ShloMosaic Idealize.SL.Sem Idealize.ShloMosaic.TcCoe

/-- A block of 1024 rows and columns, the branch, the cotangent of the three products. -/
abbrev Block := (⟨2, ![1024, 1024]⟩ : Shape).Idx → EReal
abbrev Branch := (⟨2, ![2048, 1024]⟩ : Shape).Idx → EReal
abbrev Cotangent := (⟨2, ![2048, 3072]⟩ : Shape).Idx → EReal

/-- The two blocks of the grid step `s`, as parts of the branch and of the cotangent, for the branch with the number `o`. -/
structure Blocks (o : Fin 3) (x : Branch) (y : Cotangent) (s : Fin 2) (b0 b1 : Block) : Prop where
  left : ∀ l i : Fin 1024, b0 (ix2 l i) = x (ix2 (⟨s.val % 2 * 1024 + l.val, by omega⟩ : Fin 2048) i)
  right : ∀ l j : Fin 1024, b1 (ix2 l j) = y (ix2 (⟨s.val % 2 * 1024 + l.val, by omega⟩ : Fin 2048) (⟨o.val * 1024 + j.val, by omega⟩ : Fin 3072))

/-- The gradient: the sum over all rows. -/
def gradient (o : Fin 3) (x : Branch) (y : Cotangent) (i j : Fin 1024) : EReal :=
  Runs.dot (fun q : Fin 2048 => x (ix2 q i)) fun q => y (ix2 q (⟨o.val * 1024 + j.val, by omega⟩ : Fin 3072))

/-- A step adds the product of its two blocks. -/
theorem gain (p : Vec Ideal Kernel14Ideal.S1024x1024 .f32) (b0 b1 : Vec Ideal Kernel14Ideal.S1024x1024 .bf16) (i j : Fin 1024) :
    Kernel14Ideal.Gen.k0_pay2 (F := Ideal) p b0 b1 (ix2 i j) = (p (ix2 i j) : EReal) + Runs.dot (fun l : Fin 1024 => b0 (ix2 l i)) fun l => b1 (ix2 l j) := by
  pointwise [Kernel14Ideal.Gen.k0_pay2]

/-- The scratch after the second step, for whichever branch. -/
theorem whole {o : Fin 3} {x : Branch} {y : Cotangent} {S : (t : ℕ) → t < 2 → Block} {b0 b1 : Fin 2 → Block}
    (H : Runs.Scratch 2 2 S (Kernel14Ideal.Gen.k0_pay1 (F := Ideal)) fun p s => Kernel14Ideal.Gen.k0_pay2 (F := Ideal) p (b0 s) (b1 s))
    (B : ∀ s, Blocks o x y s (b0 s) (b1 s)) (t : Fin 2) (h : t.val % 2 = 1) (i j : Fin 1024) : S t.val t.isLt (ix2 i j) = gradient o x y i j :=
  H.whole (L := 1024) (by norm_num) (by pointwise [Kernel14Ideal.Gen.k0_pay1]) (fun p s => gain p _ _ i j) (by omega)
    (fun k hk l s hd hm => by rw [(B s).left]; simp only [hm])
    (fun k hk l s hd hm => by rw [(B s).right]; simp only [hm])

section
open Cert.Kernel14Ideal Cert.Kernel14Ideal.Gen

variable (m : (ℓ : Loc nD τ sig) → Buf (Elt Ideal) ℓ) (c : Dev nD)

theorem scratch0 : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

theorem last0 (t : Fin cfg0.N) (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index0 : ∀ t : Fin cfg0.N, win0_0.index t = ![t.val % 2, 0] ∧ win0_1.index t = ![t.val % 2, 0] ∧ win0_2.index t = ![0, 0] :=
  (by decide +kernel : ∀ t : Fin grid0.N, win0_0.index t = ![t.val % 2, 0] ∧ win0_1.index t = ![t.val % 2, 0] ∧ win0_2.index t = ![0, 0])

theorem blocks0 (t : Fin cfg0.N) : Blocks 0 (m ((c : Thread nD τ).loc main_arg0)) (m ((c : Thread nD τ).loc main_arg1)) t (iblk m c 0 t) (iblk m c 1 t) where
  left l i := by blk_ext [iblk, V_main_arg0, (index0 t).1]
  right l j := by blk_ext [iblk, V_main_arg1, (index0 t).2.1]

theorem array0 : (dats m 0 c).arrAt 2 cfg0.N = (Reference14Ideal.Read.val_main_v7 (F := Ideal) (m ((c : Thread nD τ).loc main_arg0)) (m ((c : Thread nD τ).loc main_arg1)) : S1024x1024.Idx → EReal) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, by ext a; fin_cases a <;> rfl⟩
  have he : (win0_2.blk t).view.emb (ix2 i j) = ix2 i j := by
    blk_ext [(index0 t).2.2]
  have hl := (flush0_2 t).mp hf
  rw [he, last0 m c t hl]
  refine (whole (scratch0 m c) (blocks0 m c) t hl i j).trans ?_
  pointwise [gradient, Reference14Ideal.Read.val_main_v7, Reference14Ideal.Read.val_main_v6, Reference14Ideal.Read.val_main_v5, Reference14Ideal.Read.val_main_v3, Reference14Ideal.Read.val_main_v2, Reference14Ideal.Read.val_main_v1]
  exact Runs.dot_comm _ _

/-- The call's array is the reference's gradient. -/
theorem equal0 : algebraic_Kernel14Ideal_Reference14Ideal := by
  intro m g m' g' hp ha
  refine ⟨_, Value.run_blocks m g, (θ_run Reference14Ideal.defs _ _).mono (fun r h c => ?_) (Reference14Ideal.Value.run m' g')⟩
  obtain ⟨a0, a1⟩ := ha c
  obtain ⟨h0, k⟩ := h c
  refine ⟨h0.trans ?_, k⟩
  rw [Reference14Ideal.Read.val_main_v7_eq, a0, a1]
  exact (array0 m c).symm

end

section
open Cert.Kernel15Ideal Cert.Kernel15Ideal.Gen

variable (m : (ℓ : Loc nD τ sig) → Buf (Elt Ideal) ℓ) (c : Dev nD)

theorem scratch1 : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

theorem last1 (t : Fin cfg0.N) (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index1 : ∀ t : Fin cfg0.N, win0_0.index t = ![t.val % 2, 0] ∧ win0_1.index t = ![t.val % 2, 1] ∧ win0_2.index t = ![0, 0] :=
  (by decide +kernel : ∀ t : Fin grid0.N, win0_0.index t = ![t.val % 2, 0] ∧ win0_1.index t = ![t.val % 2, 1] ∧ win0_2.index t = ![0, 0])

theorem blocks1 (t : Fin cfg0.N) : Blocks 1 (m ((c : Thread nD τ).loc main_arg0)) (m ((c : Thread nD τ).loc main_arg1)) t (iblk m c 0 t) (iblk m c 1 t) where
  left l i := by blk_ext [iblk, V_main_arg0, (index1 t).1]
  right l j := by blk_ext [iblk, V_main_arg1, (index1 t).2.1]

theorem array1 : (dats m 0 c).arrAt 2 cfg0.N = (Reference15Ideal.Read.val_main_v7 (F := Ideal) (m ((c : Thread nD τ).loc main_arg0)) (m ((c : Thread nD τ).loc main_arg1)) : S1024x1024.Idx → EReal) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, by ext a; fin_cases a <;> rfl⟩
  have he : (win0_2.blk t).view.emb (ix2 i j) = ix2 i j := by
    blk_ext [(index1 t).2.2]
  have hl := (flush0_2 t).mp hf
  rw [he, last1 m c t hl]
  refine (whole (scratch1 m c) (blocks1 m c) t hl i j).trans ?_
  pointwise [gradient, Reference15Ideal.Read.val_main_v7, Reference15Ideal.Read.val_main_v6, Reference15Ideal.Read.val_main_v5, Reference15Ideal.Read.val_main_v3, Reference15Ideal.Read.val_main_v2, Reference15Ideal.Read.val_main_v1]
  exact Runs.dot_comm _ _

theorem equal1 : algebraic_Kernel15Ideal_Reference15Ideal := by
  intro m g m' g' hp ha
  refine ⟨_, Value.run_blocks m g, (θ_run Reference15Ideal.defs _ _).mono (fun r h c => ?_) (Reference15Ideal.Value.run m' g')⟩
  obtain ⟨a0, a1⟩ := ha c
  obtain ⟨h0, k⟩ := h c
  refine ⟨h0.trans ?_, k⟩
  rw [Reference15Ideal.Read.val_main_v7_eq, a0, a1]
  exact (array1 m c).symm

end

section
open Cert.Kernel16Ideal Cert.Kernel16Ideal.Gen

variable (m : (ℓ : Loc nD τ sig) → Buf (Elt Ideal) ℓ) (c : Dev nD)

theorem scratch2 : Runs.Scratch 2 cfg0.N (fun s h => (outsAt0 m c s h).2) (k0_pay1 (F := Ideal)) fun p s => k0_pay2 p (iblk m c 0 s) (iblk m c 1 s) where
  first t h0 := by
    rw [outsAt0_A m c t h0 (by omega)]
    generalize iblk m c 0 t = b0, iblk m c 1 t = b1
    frame_open
    frame_out
  later t h0 := by
    rw [outsAt0_B m c t h0 (by omega)]
    generalize iblk m c 0 t = b0, iblk m c 1 t = b1
    generalize outsAt0 m c (t.val - 1) _ = prev
    frame_open
    frame_out
    simp only [read_unread_whole]

theorem last2 (t : Fin cfg0.N) (h1 : t.val % 2 = 1) : (outsAt0 m c t.val t.isLt).1 = k0_pay3 (outsAt0 m c t.val t.isLt).2 := by
  rw [outsAt0_B m c t (by omega) h1]
  generalize iblk m c 0 t = b0, iblk m c 1 t = b1
  generalize outsAt0 m c (t.val - 1) _ = prev
  frame_open
  frame_out

theorem index2 : ∀ t : Fin cfg0.N, win0_0.index t = ![t.val % 2, 0] ∧ win0_1.index t = ![t.val % 2, 2] ∧ win0_2.index t = ![0, 0] :=
  (by decide +kernel : ∀ t : Fin grid0.N, win0_0.index t = ![t.val % 2, 0] ∧ win0_1.index t = ![t.val % 2, 2] ∧ win0_2.index t = ![0, 0])

theorem blocks2 (t : Fin cfg0.N) : Blocks 2 (m ((c : Thread nD τ).loc main_arg0)) (m ((c : Thread nD τ).loc main_arg1)) t (iblk m c 0 t) (iblk m c 1 t) where
  left l i := by blk_ext [iblk, V_main_arg0, (index2 t).1]
  right l j := by blk_ext [iblk, V_main_arg1, (index2 t).2.1]

theorem array2 : (dats m 0 c).arrAt 2 cfg0.N = (Reference16Ideal.Read.val_main_v7 (F := Ideal) (m ((c : Thread nD τ).loc main_arg0)) (m ((c : Thread nD τ).loc main_arg1)) : S1024x1024.Idx → EReal) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, by ext a; fin_cases a <;> rfl⟩
  have he : (win0_2.blk t).view.emb (ix2 i j) = ix2 i j := by
    blk_ext [(index2 t).2.2]
  have hl := (flush0_2 t).mp hf
  rw [he, last2 m c t hl]
  refine (whole (scratch2 m c) (blocks2 m c) t hl i j).trans ?_
  pointwise [gradient, Reference16Ideal.Read.val_main_v7, Reference16Ideal.Read.val_main_v6, Reference16Ideal.Read.val_main_v5, Reference16Ideal.Read.val_main_v3, Reference16Ideal.Read.val_main_v2, Reference16Ideal.Read.val_main_v1]
  exact Runs.dot_comm _ _

theorem equal2 : algebraic_Kernel16Ideal_Reference16Ideal := by
  intro m g m' g' hp ha
  refine ⟨_, Value.run_blocks m g, (θ_run Reference16Ideal.defs _ _).mono (fun r h c => ?_) (Reference16Ideal.Value.run m' g')⟩
  obtain ⟨a0, a1⟩ := ha c
  obtain ⟨h0, k⟩ := h c
  refine ⟨h0.trans ?_, k⟩
  rw [Reference16Ideal.Read.val_main_v7_eq, a0, a1]
  exact (array2 m c).symm

end

/-- The frames, as printed and idealized, and the references'. -/
theorem frame_k0 : quiescent_Kernel14 := fun m ρ _ => Kernel14.Gen.frame m ρ
theorem frame_i0 : quiescent_Kernel14Ideal := fun m ρ _ => Kernel14Ideal.Gen.frame m ρ
theorem frame_r0 : quiescent_Reference14Ideal := fun m ρ _ =>
  (θ_run Reference14Ideal.defs _ _).mono (fun r h => ⟨fun c => (h c).2, sem_eq_zero_of_no_sems (by decide) r.2⟩) (Reference14Ideal.Value.run m ρ)
theorem frame_k1 : quiescent_Kernel15 := fun m ρ _ => Kernel15.Gen.frame m ρ
theorem frame_i1 : quiescent_Kernel15Ideal := fun m ρ _ => Kernel15Ideal.Gen.frame m ρ
theorem frame_r1 : quiescent_Reference15Ideal := fun m ρ _ =>
  (θ_run Reference15Ideal.defs _ _).mono (fun r h => ⟨fun c => (h c).2, sem_eq_zero_of_no_sems (by decide) r.2⟩) (Reference15Ideal.Value.run m ρ)
theorem frame_k2 : quiescent_Kernel16 := fun m ρ _ => Kernel16.Gen.frame m ρ
theorem frame_i2 : quiescent_Kernel16Ideal := fun m ρ _ => Kernel16Ideal.Gen.frame m ρ
theorem frame_r2 : quiescent_Reference16Ideal := fun m ρ _ =>
  (θ_run Reference16Ideal.defs _ _).mono (fun r h => ⟨fun c => (h c).2, sem_eq_zero_of_no_sems (by decide) r.2⟩) (Reference16Ideal.Value.run m ρ)

/-- No operation was replaced. -/
theorem same0 : preserves_Kernel14_Kernel14Ideal := trivial
theorem same1 : preserves_Kernel15_Kernel15Ideal := trivial
theorem same2 : preserves_Kernel16_Kernel16Ideal := trivial

end Cert.BranchDw

end
-- ==== Proof.BranchDx.lean ====
/-
  The gradients of the three branches, one call each: a grid step multiplies 1024 rows of the branch's 1024 columns of the cotangent with
  the whole transposed weights. The calls differ in the columns that they read.
-/
module

public import proofs.«01_k».proof.Defs
public import proofs.«01_k».proof.Proof.Runs
public import proofs.«01_k».proof.Proof.Gen.Kernel17.Frame
public import proofs.«01_k».proof.Proof.Gen.Kernel18.Frame
public import proofs.«01_k».proof.Proof.Gen.Kernel19.Frame
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Reference17Ideal.Read
public import proofs.«01_k».proof.Proof.Gen.Reference18Ideal.Read
public import proofs.«01_k».proof.Proof.Gen.Reference19Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.BranchDx

open Idealize.ShloMosaic Idealize.SL.Sem Idealize.ShloMosaic.TcCoe

/-- A block of 1024 rows and columns, the cotangent of the three products. -/
abbrev Block := (⟨2, ![1024, 1024]⟩ : Shape).Idx → EReal
abbrev Cotangent := (⟨2, ![2048, 3072]⟩ : Shape).Idx → EReal

/-- An entry of the gradient of the branch with the number `o`: the sum over the branch's columns. -/
def gradient (o : Fin 3) (y : Cotangent) (w : Block) (i : Fin 2048) (j : Fin 1024) : EReal :=
  Runs.dot (fun l : Fin 1024 => y (ix2 i (⟨o.val * 1024 + l.val, by omega⟩ : Fin 3072))) fun l => w (ix2 j l)

/-- What a grid step leaves, if its blocks are the step's rows of the cotangent and the weights. -/
theorem part {o : Fin 3} {y : Cotangent} {w b0 b1 : Block} {t : Fin 2}
    (h0 : ∀ i l : Fin 1024, b0 (ix2 i l) = y (ix2 (⟨t.val * 1024 + i.val, by omega⟩ : Fin 2048) (⟨o.val * 1024 + l.val, by omega⟩ : Fin 3072)))
    (h1 : ∀ j l : Fin 1024, b1 (ix2 j l) = w (ix2 j l)) (i j : Fin 1024) :
    Kernel17Ideal.Gen.k0_pay2 (F := Ideal) (Kernel17Ideal.Gen.k0_pay1 (F := Ideal)) b0 b1 (ix2 i j) = gradient o y w (⟨t.val * 1024 + i.val, by omega⟩ : Fin 2048) j := by
  have e : Kernel17Ideal.Gen.k0_pay2 (F := Ideal) (Kernel17Ideal.Gen.k0_pay1 (F := Ideal)) b0 b1 (ix2 i j) = Runs.dot (fun l : Fin 1024 => b0 (ix2 i l)) fun l => b1 (ix2 j l) := by
    pointwise [Kernel17Ideal.Gen.k0_pay2, Kernel17Ideal.Gen.k0_pay1]
  rw [e]
  simp only [h0, h1, gradient]

section
open Cert.Kernel17Ideal Cert.Kernel17Ideal.Gen

variable (m : (ℓ : Loc nD τ sig) → Buf (Elt Ideal) ℓ) (c : Dev nD)

theorem step0 (t : Fin cfg0.N) : outsAt0 m c t = k0_pay2 (F := Ideal) (k0_pay1 (F := Ideal)) (iblk m c 0 t) (iblk m c 1 t) := by
  unfold outsAt0
  generalize iblk m c 0 t = b0, iblk m c 1 t = b1
  frame_open
  frame_out

theorem index0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem array0 : (dats m 0 c).arrAt 2 cfg0.N = (Reference17Ideal.Read.val_main_v5 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht : t.val < 2 := t.isLt
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) j := by
    blk_ext [(index0 t).2.2]
  rw [he, step0 m c t]
  refine (part (o := 0) (y := m ((c : Thread nD τ).loc main_arg0)) (w := m ((c : Thread nD τ).loc main_arg1)) (t := t)
    (fun i l => by blk_ext [iblk, V_main_arg0, (index0 t).1]) (fun j l => by blk_ext [iblk, V_main_arg1, (index0 t).2.1]) i j).trans ?_
  pointwise [gradient, Reference17Ideal.Read.val_main_v5, Reference17Ideal.Read.val_main_v3, Reference17Ideal.Read.val_main_v2, Reference17Ideal.Read.val_main_v1]

theorem equal0 : algebraic_Kernel17Ideal_Reference17Ideal := by
  intro m g m' g' hp ha
  refine ⟨_, Value.run_blocks m g, (θ_run Reference17Ideal.defs _ _).mono (fun r h c => ?_) (Reference17Ideal.Value.run m' g')⟩
  obtain ⟨a0, a1⟩ := ha c
  obtain ⟨h0, k⟩ := h c
  refine ⟨h0.trans ?_, k⟩
  rw [Reference17Ideal.Read.val_main_v5_eq, a0, a1]
  exact (array0 m c).symm

end

section
open Cert.Kernel18Ideal Cert.Kernel18Ideal.Gen

variable (m : (ℓ : Loc nD τ sig) → Buf (Elt Ideal) ℓ) (c : Dev nD)

theorem step1 (t : Fin cfg0.N) : outsAt0 m c t = k0_pay2 (F := Ideal) (k0_pay1 (F := Ideal)) (iblk m c 0 t) (iblk m c 1 t) := by
  unfold outsAt0
  generalize iblk m c 0 t = b0, iblk m c 1 t = b1
  frame_open
  frame_out

theorem index1 : ∀ t : Fin cfg0.N, win0_0.index t = ![t.val, 1] ∧ win0_1.index t = ![0, 0] ∧ win0_2.index t = ![t.val, 0] :=
  (by decide +kernel : ∀ t : Fin grid0.N, win0_0.index t = ![t.val, 1] ∧ win0_1.index t = ![0, 0] ∧ win0_2.index t = ![t.val, 0])

theorem array1 : (dats m 0 c).arrAt 2 cfg0.N = (Reference18Ideal.Read.val_main_v5 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht : t.val < 2 := t.isLt
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) j := by
    blk_ext [(index1 t).2.2]
  rw [he, step1 m c t]
  refine (part (o := 1) (y := m ((c : Thread nD τ).loc main_arg0)) (w := m ((c : Thread nD τ).loc main_arg1)) (t := t)
    (fun i l => by blk_ext [iblk, V_main_arg0, (index1 t).1]) (fun j l => by blk_ext [iblk, V_main_arg1, (index1 t).2.1]) i j).trans ?_
  pointwise [gradient, Reference18Ideal.Read.val_main_v5, Reference18Ideal.Read.val_main_v3, Reference18Ideal.Read.val_main_v2, Reference18Ideal.Read.val_main_v1]

theorem equal1 : algebraic_Kernel18Ideal_Reference18Ideal := by
  intro m g m' g' hp ha
  refine ⟨_, Value.run_blocks m g, (θ_run Reference18Ideal.defs _ _).mono (fun r h c => ?_) (Reference18Ideal.Value.run m' g')⟩
  obtain ⟨a0, a1⟩ := ha c
  obtain ⟨h0, k⟩ := h c
  refine ⟨h0.trans ?_, k⟩
  rw [Reference18Ideal.Read.val_main_v5_eq, a0, a1]
  exact (array1 m c).symm

end

section
open Cert.Kernel19Ideal Cert.Kernel19Ideal.Gen

variable (m : (ℓ : Loc nD τ sig) → Buf (Elt Ideal) ℓ) (c : Dev nD)

theorem step2 (t : Fin cfg0.N) : outsAt0 m c t = k0_pay2 (F := Ideal) (k0_pay1 (F := Ideal)) (iblk m c 0 t) (iblk m c 1 t) := by
  unfold outsAt0
  generalize iblk m c 0 t = b0, iblk m c 1 t = b1
  frame_open
  frame_out

theorem index2 : ∀ t : Fin cfg0.N, win0_0.index t = ![t.val, 2] ∧ win0_1.index t = ![0, 0] ∧ win0_2.index t = ![t.val, 0] :=
  (by decide +kernel : ∀ t : Fin grid0.N, win0_0.index t = ![t.val, 2] ∧ win0_1.index t = ![0, 0] ∧ win0_2.index t = ![t.val, 0])

theorem array2 : (dats m 0 c).arrAt 2 cfg0.N = (Reference19Ideal.Read.val_main_v5 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht : t.val < 2 := t.isLt
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) j := by
    blk_ext [(index2 t).2.2]
  rw [he, step2 m c t]
  refine (part (o := 2) (y := m ((c : Thread nD τ).loc main_arg0)) (w := m ((c : Thread nD τ).loc main_arg1)) (t := t)
    (fun i l => by blk_ext [iblk, V_main_arg0, (index2 t).1]) (fun j l => by blk_ext [iblk, V_main_arg1, (index2 t).2.1]) i j).trans ?_
  pointwise [gradient, Reference19Ideal.Read.val_main_v5, Reference19Ideal.Read.val_main_v3, Reference19Ideal.Read.val_main_v2, Reference19Ideal.Read.val_main_v1]

theorem equal2 : algebraic_Kernel19Ideal_Reference19Ideal := by
  intro m g m' g' hp ha
  refine ⟨_, Value.run_blocks m g, (θ_run Reference19Ideal.defs _ _).mono (fun r h c => ?_) (Reference19Ideal.Value.run m' g')⟩
  obtain ⟨a0, a1⟩ := ha c
  obtain ⟨h0, k⟩ := h c
  refine ⟨h0.trans ?_, k⟩
  rw [Reference19Ideal.Read.val_main_v5_eq, a0, a1]
  exact (array2 m c).symm

end

/-- The frames, as printed and idealized, and the references'. -/
theorem frame_k0 : quiescent_Kernel17 := fun m ρ _ => Kernel17.Gen.frame m ρ
theorem frame_i0 : quiescent_Kernel17Ideal := fun m ρ _ => Kernel17Ideal.Gen.frame m ρ
theorem frame_r0 : quiescent_Reference17Ideal := fun m ρ _ =>
  (θ_run Reference17Ideal.defs _ _).mono (fun r h => ⟨fun c => (h c).2, sem_eq_zero_of_no_sems (by decide) r.2⟩) (Reference17Ideal.Value.run m ρ)
theorem frame_k1 : quiescent_Kernel18 := fun m ρ _ => Kernel18.Gen.frame m ρ
theorem frame_i1 : quiescent_Kernel18Ideal := fun m ρ _ => Kernel18Ideal.Gen.frame m ρ
theorem frame_r1 : quiescent_Reference18Ideal := fun m ρ _ =>
  (θ_run Reference18Ideal.defs _ _).mono (fun r h => ⟨fun c => (h c).2, sem_eq_zero_of_no_sems (by decide) r.2⟩) (Reference18Ideal.Value.run m ρ)
theorem frame_k2 : quiescent_Kernel19 := fun m ρ _ => Kernel19.Gen.frame m ρ
theorem frame_i2 : quiescent_Kernel19Ideal := fun m ρ _ => Kernel19Ideal.Gen.frame m ρ
theorem frame_r2 : quiescent_Reference19Ideal := fun m ρ _ =>
  (θ_run Reference19Ideal.defs _ _).mono (fun r h => ⟨fun c => (h c).2, sem_eq_zero_of_no_sems (by decide) r.2⟩) (Reference19Ideal.Value.run m ρ)

/-- No operation was replaced. -/
theorem same0 : preserves_Kernel17_Kernel17Ideal := trivial
theorem same1 : preserves_Kernel18_Kernel18Ideal := trivial
theorem same2 : preserves_Kernel19_Kernel19Ideal := trivial

end Cert.BranchDx

end
-- ==== Proof.Branch.lean ====
/-
  The forward products of the three branches, one call each: a grid step multiplies 1024 rows of the branch with the whole weights and
  writes the result into the branch's 1024 columns of the wide array that the call is given; the other columns stay as they came. The
  calls differ in the columns that they write.
-/
module

public import proofs.«01_k».proof.Defs
public import proofs.«01_k».proof.Proof.Runs
public import proofs.«01_k».proof.Proof.Gen.Kernel20.Frame
public import proofs.«01_k».proof.Proof.Gen.Kernel21.Frame
public import proofs.«01_k».proof.Proof.Gen.Kernel22.Frame
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Reference20Ideal.Read
public import proofs.«01_k».proof.Proof.Gen.Reference21Ideal.Read
public import proofs.«01_k».proof.Proof.Gen.Reference22Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.Branch

open Idealize.ShloMosaic Idealize.SL.Sem Idealize.ShloMosaic.TcCoe

/-- The branch, the weights, the wide array. -/
abbrev Rows := (⟨2, ![2048, 1024]⟩ : Shape).Idx → EReal
abbrev Weights := (⟨2, ![1024, 1024]⟩ : Shape).Idx → EReal
abbrev Wide := (⟨2, ![2048, 3072]⟩ : Shape).Idx → EReal

/-- An entry of the product of the branch and the weights. -/
def product (x : Rows) (w : Weights) (i : Fin 2048) (j : Fin 1024) : EReal := Runs.dot (fun l : Fin 1024 => x (ix2 i l)) fun l => w (ix2 l j)

/-- The same, repeated over the three times 1024 columns of the wide array. -/
def spread (x : Rows) (w : Weights) : Wide := fun y => product x w (y 0) ⟨(y 1).val % 1024, Nat.mod_lt _ (by norm_num)⟩

/-- The wide array with the product in the columns of the branch with the number `o`. -/
def wide (o : ℕ) (x : Rows) (w : Weights) (p : Wide) : Wide := fun y => if (y 1).val / 1024 = o then spread x w y else p y

/-- What a grid step leaves, if its blocks are the step's rows of the branch and the weights. -/
theorem part {x : Rows} {w b0 b1 : Weights} {t : Fin 2}
    (h0 : ∀ i l : Fin 1024, b0 (ix2 i l) = x (ix2 (⟨t.val * 1024 + i.val, by omega⟩ : Fin 2048) l))
    (h1 : ∀ l j : Fin 1024, b1 (ix2 l j) = w (ix2 l j)) (i j : Fin 1024) :
    Kernel20Ideal.Gen.k0_pay2 (F := Ideal) (Kernel20Ideal.Gen.k0_pay1 (F := Ideal)) b0 b1 (ix2 i j) = product x w (⟨t.val * 1024 + i.val, by omega⟩ : Fin 2048) j := by
  have e : Kernel20Ideal.Gen.k0_pay2 (F := Ideal) (Kernel20Ideal.Gen.k0_pay1 (F := Ideal)) b0 b1 (ix2 i j) = Runs.dot (fun l : Fin 1024 => b0 (ix2 i l)) fun l => b1 (ix2 l j) := by
    pointwise [Kernel20Ideal.Gen.k0_pay2, Kernel20Ideal.Gen.k0_pay1]
  rw [e]
  simp only [h0, h1, product]

/-- In the columns of any of the branches, the spread product is the product. -/
theorem spread_at (x : Rows) (w : Weights) (o : Fin 3) (i : Fin 2048) (j : Fin 1024) :
    spread x w (ix2 i (⟨o.val * 1024 + j.val, by omega⟩ : Fin 3072)) = product x w i j :=
  congrArg (product x w i) (Fin.ext (show (o.val * 1024 + j.val) % 1024 = j.val by omega))

section
open Cert.Kernel20Ideal Cert.Kernel20Ideal.Gen

variable (m : (ℓ : Loc nD τ sig) → Buf (Elt Ideal) ℓ) (c : Dev nD)

theorem step0 (t : Fin cfg0.N) : outsAt0 m c t = k0_pay2 (F := Ideal) (k0_pay1 (F := Ideal)) (iblk m c 0 t) (iblk m c 1 t) := by
  unfold outsAt0
  generalize iblk m c 0 t = b0, iblk m c 1 t = b1
  frame_open
  frame_out

theorem index0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The call finds in its result the wide array that it was given. -/
theorem entry0 : V m c main_v0 = m ((c : Thread nD τ).loc main_arg2) := by
  show StableHlo.after hostOps0 _ _ = _
  rw [hostOps0, StableHlo.after_cons, StableHlo.after_nil]
  exact StableHlo.unary_result main_arg2 main_v0 id _ _ _

theorem array0 : (dats m 0 c).arrAt 2 cfg0.N = wide 0 (m ((c : Thread nD τ).loc main_arg0)) (m ((c : Thread nD τ).loc main_arg1)) (m ((c : Thread nD τ).loc main_arg2)) := by
  rw [← entry0 m c]
  refine (dats m 0 c).arrAt_eq_of_coversWhere 2 (spread (m ((c : Thread nD τ).loc main_arg0)) (m ((c : Thread nD τ).loc main_arg1)))
    (fun β => β (1 : Fin 2) = 0) (by decide +kernel) (fun t hf y => ?_) fun j => Iff.rfl
  blk_simp
  rw [after0_2]
  have ht : t.val < 2 := t.isLt
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) (⟨(0 : Fin 3).val * 1024 + j.val, by omega⟩ : Fin 3072) := by
    blk_ext [(index0 t).2.2]
  rw [he, step0 m c t, spread_at]
  exact part (t := t) (fun i l => by blk_ext [iblk, V_main_arg0, (index0 t).1]) (fun j l => by blk_ext [iblk, V_main_arg1, (index0 t).2.1]) i j

theorem value0 (x : Rows) (w : Weights) (p : Wide) : Reference20Ideal.Read.val_main_v4 (F := Ideal) x w p = wide 0 x w p := by
  funext y
  obtain ⟨i, j, rfl⟩ : ∃ (i : Fin 2048) (j : Fin 3072), y = ix2 i j := ⟨y 0, y 1, by ext a; fin_cases a <;> rfl⟩
  pointwise [wide, spread, product, Reference20Ideal.Read.val_main_v4, Reference20Ideal.Read.val_main_v3, Reference20Ideal.Read.val_main_v2, Reference20Ideal.Read.val_main_v1, Reference20Ideal.Read.val_main_v0]
  rcases Nat.lt_or_ge j.val 1024 with h | h
  · refine (dif_pos h).trans (Eq.trans ?_ (if_pos (show j.val / 1024 = 0 by omega)).symm)
    exact congrArg (product x w i) (Fin.ext (show j.val = j.val % 1024 by omega))
  · refine (dif_neg (by omega)).trans (Eq.trans ?_ (if_neg (show ¬j.val / 1024 = 0 by omega)).symm)
    exact congrArg (fun k => p (ix2 i k)) (Fin.ext (show 1024 + (j.val - 1024) = j.val by omega))

theorem equal0 : algebraic_Kernel20Ideal_Reference20Ideal := by
  intro m g m' g' hp ha
  refine ⟨_, Value.run_blocks m g, (θ_run Reference20Ideal.defs _ _).mono (fun r h c => ?_) (Reference20Ideal.Value.run m' g')⟩
  obtain ⟨a0, a1, a2⟩ := ha c
  obtain ⟨h0, k⟩ := h c
  refine ⟨h0.trans ?_, k⟩
  rw [Reference20Ideal.Read.val_main_v4_eq, a0, a1, a2]
  exact (value0 _ _ _).trans (array0 m c).symm

end

section
open Cert.Kernel21Ideal Cert.Kernel21Ideal.Gen

variable (m : (ℓ : Loc nD τ sig) → Buf (Elt Ideal) ℓ) (c : Dev nD)

theorem step1 (t : Fin cfg0.N) : outsAt0 m c t = k0_pay2 (F := Ideal) (k0_pay1 (F := Ideal)) (iblk m c 0 t) (iblk m c 1 t) := by
  unfold outsAt0
  generalize iblk m c 0 t = b0, iblk m c 1 t = b1
  frame_open
  frame_out

theorem index1 : ∀ t : Fin cfg0.N, win0_0.index t = ![t.val, 0] ∧ win0_1.index t = ![0, 0] ∧ win0_2.index t = ![t.val, 1] :=
  (by decide +kernel : ∀ t : Fin grid0.N, win0_0.index t = ![t.val, 0] ∧ win0_1.index t = ![0, 0] ∧ win0_2.index t = ![t.val, 1])

theorem entry1 : V m c main_v0 = m ((c : Thread nD τ).loc main_arg2) := by
  show StableHlo.after hostOps0 _ _ = _
  rw [hostOps0, StableHlo.after_cons, StableHlo.after_nil]
  exact StableHlo.unary_result main_arg2 main_v0 id _ _ _

theorem array1 : (dats m 0 c).arrAt 2 cfg0.N = wide 1 (m ((c : Thread nD τ).loc main_arg0)) (m ((c : Thread nD τ).loc main_arg1)) (m ((c : Thread nD τ).loc main_arg2)) := by
  rw [← entry1 m c]
  refine (dats m 0 c).arrAt_eq_of_coversWhere 2 (spread (m ((c : Thread nD τ).loc main_arg0)) (m ((c : Thread nD τ).loc main_arg1)))
    (fun β => β (1 : Fin 2) = 1) (by decide +kernel) (fun t hf y => ?_) fun j => Iff.rfl
  blk_simp
  rw [after0_2]
  have ht : t.val < 2 := t.isLt
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) (⟨(1 : Fin 3).val * 1024 + j.val, by omega⟩ : Fin 3072) := by
    blk_ext [(index1 t).2.2]
  rw [he, step1 m c t, spread_at]
  exact part (t := t) (fun i l => by blk_ext [iblk, V_main_arg0, (index1 t).1]) (fun j l => by blk_ext [iblk, V_main_arg1, (index1 t).2.1]) i j

theorem value1 (x : Rows) (w : Weights) (p : Wide) : Reference21Ideal.Read.val_main_v5 (F := Ideal) x w p = wide 1 x w p := by
  funext y
  obtain ⟨i, j, rfl⟩ : ∃ (i : Fin 2048) (j : Fin 3072), y = ix2 i j := ⟨y 0, y 1, by ext a; fin_cases a <;> rfl⟩
  pointwise [wide, spread, product, Reference21Ideal.Read.val_main_v5, Reference21Ideal.Read.val_main_v4, Reference21Ideal.Read.val_main_v3, Reference21Ideal.Read.val_main_v2, Reference21Ideal.Read.val_main_v1, Reference21Ideal.Read.val_main_v0]
  rcases Nat.lt_or_ge j.val 1024 with h | h
  · exact (dif_pos h).trans (if_neg (show ¬j.val / 1024 = 1 by omega)).symm
  · refine (dif_neg (by omega)).trans ?_
    rcases Nat.lt_or_ge (j.val - 1024) 1024 with h' | h'
    · refine (dif_pos h').trans (Eq.trans ?_ (if_pos (show j.val / 1024 = 1 by omega)).symm)
      exact congrArg (product x w i) (Fin.ext (show j.val - 1024 = j.val % 1024 by omega))
    · refine (dif_neg (by omega)).trans (Eq.trans ?_ (if_neg (show ¬j.val / 1024 = 1 by omega)).symm)
      exact congrArg (fun k => p (ix2 i k)) (Fin.ext (show 2048 + (j.val - 1024 - 1024) = j.val by omega))

theorem equal1 : algebraic_Kernel21Ideal_Reference21Ideal := by
  intro m g m' g' hp ha
  refine ⟨_, Value.run_blocks m g, (θ_run Reference21Ideal.defs _ _).mono (fun r h c => ?_) (Reference21Ideal.Value.run m' g')⟩
  obtain ⟨a0, a1, a2⟩ := ha c
  obtain ⟨h0, k⟩ := h c
  refine ⟨h0.trans ?_, k⟩
  rw [Reference21Ideal.Read.val_main_v5_eq, a0, a1, a2]
  exact (value1 _ _ _).trans (array1 m c).symm

end

section
open Cert.Kernel22Ideal Cert.Kernel22Ideal.Gen

variable (m : (ℓ : Loc nD τ sig) → Buf (Elt Ideal) ℓ) (c : Dev nD)

theorem step2 (t : Fin cfg0.N) : outsAt0 m c t = k0_pay2 (F := Ideal) (k0_pay1 (F := Ideal)) (iblk m c 0 t) (iblk m c 1 t) := by
  unfold outsAt0
  generalize iblk m c 0 t = b0, iblk m c 1 t = b1
  frame_open
  frame_out

theorem index2 : ∀ t : Fin cfg0.N, win0_0.index t = ![t.val, 0] ∧ win0_1.index t = ![0, 0] ∧ win0_2.index t = ![t.val, 2] :=
  (by decide +kernel : ∀ t : Fin grid0.N, win0_0.index t = ![t.val, 0] ∧ win0_1.index t = ![0, 0] ∧ win0_2.index t = ![t.val, 2])

theorem entry2 : V m c main_v0 = m ((c : Thread nD τ).loc main_arg2) := by
  show StableHlo.after hostOps0 _ _ = _
  rw [hostOps0, StableHlo.after_cons, StableHlo.after_nil]
  exact StableHlo.unary_result main_arg2 main_v0 id _ _ _

theorem array2 : (dats m 0 c).arrAt 2 cfg0.N = wide 2 (m ((c : Thread nD τ).loc main_arg0)) (m ((c : Thread nD τ).loc main_arg1)) (m ((c : Thread nD τ).loc main_arg2)) := by
  rw [← entry2 m c]
  refine (dats m 0 c).arrAt_eq_of_coversWhere 2 (spread (m ((c : Thread nD τ).loc main_arg0)) (m ((c : Thread nD τ).loc main_arg1)))
    (fun β => β (1 : Fin 2) = 2) (by decide +kernel) (fun t hf y => ?_) fun j => Iff.rfl
  blk_simp
  rw [after0_2]
  have ht : t.val < 2 := t.isLt
  obtain ⟨i, j, rfl⟩ : ∃ (i j : Fin 1024), y = ix2 i j := ⟨y 0, y 1, by ext a; fin_cases a <;> rfl⟩
  have he : (win0_2.blk t).view.emb (ix2 i j) = ix2 (⟨t.val * 1024 + i.val, by omega⟩ : Fin 2048) (⟨(2 : Fin 3).val * 1024 + j.val, by omega⟩ : Fin 3072) := by
    blk_ext [(index2 t).2.2]
  rw [he, step2 m c t, spread_at]
  exact part (t := t) (fun i l => by blk_ext [iblk, V_main_arg0, (index2 t).1]) (fun j l => by blk_ext [iblk, V_main_arg1, (index2 t).2.1]) i j

theorem value2 (x : Rows) (w : Weights) (p : Wide) : Reference22Ideal.Read.val_main_v4 (F := Ideal) x w p = wide 2 x w p := by
  funext y
  obtain ⟨i, j, rfl⟩ : ∃ (i : Fin 2048) (j : Fin 3072), y = ix2 i j := ⟨y 0, y 1, by ext a; fin_cases a <;> rfl⟩
  pointwise [wide, spread, product, Reference22Ideal.Read.val_main_v4, Reference22Ideal.Read.val_main_v3, Reference22Ideal.Read.val_main_v2, Reference22Ideal.Read.val_main_v1, Reference22Ideal.Read.val_main_v0]
  rcases Nat.lt_or_ge j.val 2048 with h | h
  · exact (dif_pos h).trans (if_neg (show ¬j.val / 1024 = 2 by omega)).symm
  · refine (dif_neg (by omega)).trans (Eq.trans ?_ (if_pos (show j.val / 1024 = 2 by omega)).symm)
    exact congrArg (product x w i) (Fin.ext (show j.val - 2048 = j.val % 1024 by omega))

theorem equal2 : algebraic_Kernel22Ideal_Reference22Ideal := by
  intro m g m' g' hp ha
  refine ⟨_, Value.run_blocks m g, (θ_run Reference22Ideal.defs _ _).mono (fun r h c => ?_) (Reference22Ideal.Value.run m' g')⟩
  obtain ⟨a0, a1, a2⟩ := ha c
  obtain ⟨h0, k⟩ := h c
  refine ⟨h0.trans ?_, k⟩
  rw [Reference22Ideal.Read.val_main_v4_eq, a0, a1, a2]
  exact (value2 _ _ _).trans (array2 m c).symm

end

/-- The frames, as printed and idealized, and the references'. -/
theorem frame_k0 : quiescent_Kernel20 := fun m ρ _ => Kernel20.Gen.frame m ρ
theorem frame_i0 : quiescent_Kernel20Ideal := fun m ρ _ => Kernel20Ideal.Gen.frame m ρ
theorem frame_r0 : quiescent_Reference20Ideal := fun m ρ _ =>
  (θ_run Reference20Ideal.defs _ _).mono (fun r h => ⟨fun c => (h c).2, sem_eq_zero_of_no_sems (by decide) r.2⟩) (Reference20Ideal.Value.run m ρ)
theorem frame_k1 : quiescent_Kernel21 := fun m ρ _ => Kernel21.Gen.frame m ρ
theorem frame_i1 : quiescent_Kernel21Ideal := fun m ρ _ => Kernel21Ideal.Gen.frame m ρ
theorem frame_r1 : quiescent_Reference21Ideal := fun m ρ _ =>
  (θ_run Reference21Ideal.defs _ _).mono (fun r h => ⟨fun c => (h c).2, sem_eq_zero_of_no_sems (by decide) r.2⟩) (Reference21Ideal.Value.run m ρ)
theorem frame_k2 : quiescent_Kernel22 := fun m ρ _ => Kernel22.Gen.frame m ρ
theorem frame_i2 : quiescent_Kernel22Ideal := fun m ρ _ => Kernel22Ideal.Gen.frame m ρ
theorem frame_r2 : quiescent_Reference22Ideal := fun m ρ _ =>
  (θ_run Reference22Ideal.defs _ _).mono (fun r h => ⟨fun c => (h c).2, sem_eq_zero_of_no_sems (by decide) r.2⟩) (Reference22Ideal.Value.run m ρ)

/-- No operation was replaced. -/
theorem same0 : preserves_Kernel20_Kernel20Ideal := trivial
theorem same1 : preserves_Kernel21_Kernel21Ideal := trivial
theorem same2 : preserves_Kernel22_Kernel22Ideal := trivial

end Cert.Branch

end
-- ==== Proof.Merge.lean ====
/-
  The gradients of the merging: the branches' products, each multiplied with its gate, are added up. A grid step handles 512 rows of one
  branch. The gradient of the gates' logits goes into the 3072 columns of the gates of the wide array that the call is given; the other
  columns stay as they came.
-/
module

public import proofs.«01_k».proof.Defs
public import proofs.«01_k».proof.Proof.Gen.Kernel23.Frame
public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.Merge

open Idealize.ShloMosaic Idealize.SL.Sem Idealize.ShloMosaic.TcCoe Cert.Kernel23Ideal Cert.Kernel23Ideal.Gen

/-- The products of the branches, the wide array with the gates' logits, the merged branches' cotangent. -/
abbrev Products := S2048x3072.Idx → EReal
abbrev Wide := S2048x13440.Idx → EReal
abbrev Merged := S2048x1024.Idx → EReal

/-- The gradient of a product: the gate of its column times the cotangent. -/
def product (x : Wide) (d : Merged) (i : Fin 2048) (b : Fin 3) (j : Fin 1024) : EReal :=
  Ideal.logistic (x (ix2 i (⟨10240 + (b.val * 1024 + j.val), by omega⟩ : Fin 13440))) * d (ix2 i j)

/-- The gradient of a gate's logit. -/
def logit (p : Products) (x : Wide) (d : Merged) (i : Fin 2048) (b : Fin 3) (j : Fin 1024) : EReal :=
  let s := Ideal.logistic (x (ix2 i (⟨10240 + (b.val * 1024 + j.val), by omega⟩ : Fin 13440)))
  d (ix2 i j) * p (ix2 i (⟨b.val * 1024 + j.val, by omega⟩ : Fin 3072)) * (s * (1 - s))

variable (m : (ℓ : Loc nD τ sig) → Buf (Elt Ideal) ℓ) (c : Dev nD) (t : Fin cfg0.N)

theorem step : outsAt0 m c t = (k0_pay2 (F := Ideal) (X0_1 m c t) (iblk m c 2 t), k0_pay3 (F := Ideal) (X0_1 m c t) (iblk m c 2 t) (iblk m c 0 t)) := by
  unfold outsAt0
  generalize iblk m c 0 t = b0, X0_1 m c t = b1, iblk m c 2 t = b2
  frame_open
  frame_out

theorem pay2 (g d : Vec Ideal S512x1024 .f32) (i : Fin 512) (j : Fin 1024) : k0_pay2 (F := Ideal) g d (ix2 i j) = Ideal.logistic (g (ix2 i j)) * (d (ix2 i j) : EReal) := by
  pointwise [k0_pay2, k0_pay1]
  exact mul_comm (G := EReal) _ _

theorem pay3 (g d p : Vec Ideal S512x1024 .f32) (i : Fin 512) (j : Fin 1024) : k0_pay3 (F := Ideal) g d p (ix2 i j)
    = (d (ix2 i j) * p (ix2 i j) : EReal) * (Ideal.logistic (g (ix2 i j)) * (1 - Ideal.logistic (g (ix2 i j)))) := by
  pointwise [k0_pay3, k0_pay1]
  exact mul_assoc (G := EReal) _ _ _

theorem index0 : ∀ t : Fin cfg0.N, win0_0.index t = ![t.val / 3, t.val % 3] := (by decide +kernel : ∀ t : Fin grid0.N, win0_0.index t = ![t.val / 3, t.val % 3])
theorem index1 : ∀ t : Fin cfg0.N, win0_1.index t = ![t.val / 3, 10 + t.val % 3] := (by decide +kernel : ∀ t : Fin grid0.N, win0_1.index t = ![t.val / 3, 10 + t.val % 3])
theorem index2 : ∀ t : Fin cfg0.N, win0_2.index t = ![t.val / 3, 0] := (by decide +kernel : ∀ t : Fin grid0.N, win0_2.index t = ![t.val / 3, 0])
theorem index3 : ∀ t : Fin cfg0.N, win0_3.index t = ![t.val / 3, t.val % 3] := (by decide +kernel : ∀ t : Fin grid0.N, win0_3.index t = ![t.val / 3, t.val % 3])
theorem index4 : ∀ t : Fin cfg0.N, win0_4.index t = ![t.val / 3, 10 + t.val % 3] := (by decide +kernel : ∀ t : Fin grid0.N, win0_4.index t = ![t.val / 3, 10 + t.val % 3])

theorem point_lt (t : Fin cfg0.N) : t.val < 12 := t.isLt

theorem block0 (i : Fin 512) (j : Fin 1024) : (iblk m c 0 t : S512x1024.Idx → EReal) (ix2 i j)
    = m ((c : Thread nD τ).loc main_arg0) (ix2 (⟨t.val / 3 * 512 + i.val, by have := point_lt t; omega⟩ : Fin 2048) (⟨t.val % 3 * 1024 + j.val, by omega⟩ : Fin 3072)) := by
  have := point_lt t
  blk_ext [iblk, V_main_arg0, index0 t]

theorem block1 (i : Fin 512) (j : Fin 1024) : (X0_1 m c t : S512x1024.Idx → EReal) (ix2 i j)
    = m ((c : Thread nD τ).loc main_arg1) (ix2 (⟨t.val / 3 * 512 + i.val, by have := point_lt t; omega⟩ : Fin 2048) (⟨10240 + (t.val % 3 * 1024 + j.val), by omega⟩ : Fin 13440)) := by
  have := point_lt t
  unfold X0_1 Pipeline.Window.fill
  rw [dif_pos (moved0_1 t _)]
  blk_ext [iblk, V_main_arg1, index1 t]

theorem block2 (i : Fin 512) (j : Fin 1024) : (iblk m c 2 t : S512x1024.Idx → EReal) (ix2 i j)
    = m ((c : Thread nD τ).loc main_arg2) (ix2 (⟨t.val / 3 * 512 + i.val, by have := point_lt t; omega⟩ : Fin 2048) j) := by
  have := point_lt t
  blk_ext [iblk, V_main_arg2, index2 t]

/-- The call finds in its second result the wide array that it was given. -/
theorem entry : V m c main_v0_1 = m ((c : Thread nD τ).loc main_arg3) := by
  show StableHlo.after hostOps0 _ _ = _
  rw [hostOps0, StableHlo.after_cons, StableHlo.after_nil]
  exact StableHlo.unary_result main_arg3 main_v0_1 id _ _ _

theorem gate (x : Wide) (i : Fin 2048) (b : Fin 3) (j : Fin 1024) : Reference23Ideal.Read.val_main_v7 (F := Ideal) x (ix3 i b j)
    = Ideal.logistic (x (ix2 i (⟨10240 + (b.val * 1024 + j.val), by omega⟩ : Fin 13440))) := by
  pointwise [Reference23Ideal.Read.val_main_v7, Reference23Ideal.Read.val_main_v6, Reference23Ideal.Read.val_main_cst_0, Reference23Ideal.Read.val_main_v5, Reference23Ideal.Read.val_main_v4, Reference23Ideal.Read.val_main_cst, Reference23Ideal.Read.val_main_v3, Reference23Ideal.Read.val_main_v2, Reference23Ideal.Read.val_main_v1, Reference23Ideal.Read.val_main_v0, Ideal.logistic]

theorem value0 (x : Wide) (d : Merged) (i : Fin 2048) (b : Fin 3) (j : Fin 1024) : Reference23Ideal.Read.val_main_v20 (F := Ideal) x d (ix2 i (⟨b.val * 1024 + j.val, by omega⟩ : Fin 3072)) = product x d i b j := by
  rw [product, ← gate]
  pointwise [Reference23Ideal.Read.val_main_v20, Reference23Ideal.Read.val_main_v17, Reference23Ideal.Read.val_main_v15, Reference23Ideal.Read.val_main_v14]

theorem value1 (p : Products) (x : Wide) (d : Merged) (i : Fin 2048) (b : Fin 3) (j : Fin 1024) : Reference23Ideal.Read.val_main_v22 (F := Ideal) p x d (ix2 i (⟨b.val * 1024 + j.val, by omega⟩ : Fin 3072)) = logit p x d i b j := by
  rw [logit, ← gate]
  pointwise [Reference23Ideal.Read.val_main_v22, Reference23Ideal.Read.val_main_v19, Reference23Ideal.Read.val_main_v18, Reference23Ideal.Read.val_main_v16, Reference23Ideal.Read.val_main_v14, Reference23Ideal.Read.val_main_v11, Reference23Ideal.Read.val_main_v10, Reference23Ideal.Read.val_main_v9, Reference23Ideal.Read.val_main_v8, Reference23Ideal.Read.val_main_cst_1]

theorem array0 : (dats m 0 c).arrAt 3 cfg0.N = (Reference23Ideal.Read.val_main_v20 (F := Ideal) (m ((c : Thread nD τ).loc main_arg1)) (m ((c : Thread nD τ).loc main_arg2)) : S2048x3072.Idx → EReal) := by
  refine (dats m 0 c).arrAt_eq_of_covers 3 _ (by decide +kernel) fun t hf y => ?_
  blk_simp
  rw [after0_3]
  have ht := point_lt t
  obtain ⟨i, j, rfl⟩ : ∃ (i : Fin 512) (j : Fin 1024), y = ix2 i j := ⟨y 0, y 1, by ext a; fin_cases a <;> rfl⟩
  have he : (win0_3.blk t).view.emb (ix2 i j) = ix2 (⟨t.val / 3 * 512 + i.val, by omega⟩ : Fin 2048) (⟨t.val % 3 * 1024 + j.val, by omega⟩ : Fin 3072) := by
    blk_ext [index3 t]
  rw [he, step m c t]
  refine Eq.trans ?_ (value0 _ _ _ (⟨t.val % 3, by omega⟩ : Fin 3) j).symm
  refine (pay2 _ _ i j).trans ?_
  rw [block1, block2, product]

/-- The logit that a column of the wide array holds. -/
def column (k : Fin 13440) : Fin 3072 := ⟨(k.val - 10240) % 3072, Nat.mod_lt _ (by norm_num)⟩

theorem column_at (k : Fin 13440) (q : Fin 3072) (h : k.val = 10240 + q.val) : column k = q := by
  apply Fin.ext
  unfold column
  dsimp only
  omega

/-- The gradient of the gates' logits, put where the gates' columns of the wide array are. -/
def logits (p : Products) (x : Wide) (d : Merged) : Wide := fun y => Reference23Ideal.Read.val_main_v22 (F := Ideal) p x d (ix2 (y 0) (column (y 1)))

theorem logits_at (p : Products) (x : Wide) (d : Merged) (i : Fin 2048) (b : Fin 3) (j : Fin 1024) (k : Fin 13440) (hk : k.val = 10240 + (b.val * 1024 + j.val)) :
    logits p x d (ix2 i k) = logit p x d i b j :=
  (congrArg (fun q => Reference23Ideal.Read.val_main_v22 (F := Ideal) p x d (ix2 i q)) (column_at k _ hk)).trans (value1 p x d i b j)

/-- The second result is the gradient in the gates' columns, what was there before in the others. -/
theorem covered : (dats m 0 c).arrAt 4 cfg0.N = fun y : S2048x13440.Idx => if 10 ≤ (y 1).val / 1024 ∧ (y 1).val / 1024 < 13
    then logits (m ((c : Thread nD τ).loc main_arg0)) (m ((c : Thread nD τ).loc main_arg1)) (m ((c : Thread nD τ).loc main_arg2)) y else V m c main_v0_1 y := by
  refine (dats m 0 c).arrAt_eq_of_coversWhere 4 _ (fun β => 10 ≤ β (1 : Fin 2) ∧ β (1 : Fin 2) < 13) (by decide +kernel) (fun t hf y => ?_) fun j => Iff.rfl
  have ht := point_lt t
  rw [after0_4, step m c t]
  obtain ⟨i, j, e⟩ : ∃ (i : Fin 512) (j : Fin 1024), (cfg0.win 4).xinj (cfg0.grid.coords t) y = ix2 i j :=
    ⟨(cfg0.win 4).xinj (cfg0.grid.coords t) y 0, (cfg0.win 4).xinj (cfg0.grid.coords t) y 1, by ext a; fin_cases a <;> rfl⟩
  have e0 : (y 0).val = i.val := congrArg (fun z => (z 0).val) e
  have e1 : (y 1).val = j.val := congrArg (fun z => (z 1).val) e
  have he : (win0_4.blk t).view.emb y = ix2 (⟨t.val / 3 * 512 + i.val, by omega⟩ : Fin 2048) (⟨10240 + (t.val % 3 * 1024 + j.val), by omega⟩ : Fin 13440) := by
    blk_ext [index4 t]
  rw [e]
  refine Eq.trans ?_ ((congrArg (logits _ _ _) he).trans (logits_at _ _ _ _ (⟨t.val % 3, by omega⟩ : Fin 3) j _ rfl)).symm
  refine (pay3 _ _ _ i j).trans ?_
  rw [block0, block1, block2, logit]

/-- So is the reference's. -/
theorem covered_ref (p : Products) (x : Wide) (d : Merged) (v : Wide) : Reference23Ideal.Read.val_main_v24 (F := Ideal) p x d v
    = fun y : S2048x13440.Idx => if 10 ≤ (y 1).val / 1024 ∧ (y 1).val / 1024 < 13 then logits p x d y else v y := by
  funext y
  obtain ⟨i, j, rfl⟩ : ∃ (i : Fin 2048) (j : Fin 13440), y = ix2 i j := ⟨y 0, y 1, by ext a; fin_cases a <;> rfl⟩
  pointwise [Reference23Ideal.Read.val_main_v24, Reference23Ideal.Read.val_main_v23, Reference23Ideal.Read.val_main_v21]
  rcases Nat.lt_or_ge j.val 10240 with h | h
  · exact (dif_pos h).trans (if_neg (by omega)).symm
  · refine (dif_neg (by omega)).trans ?_
    rcases Nat.lt_or_ge (j.val - 10240) 3072 with h' | h'
    · refine (dif_pos h').trans (Eq.trans ?_ (if_pos (by omega)).symm)
      exact congrArg (fun q => Reference23Ideal.Read.val_main_v22 (F := Ideal) p x d (ix2 i q)) (column_at j ⟨j.val - 10240, h'⟩ (by dsimp only; omega)).symm
    · refine (dif_neg (by omega)).trans (Eq.trans ?_ (if_neg (by omega)).symm)
      exact congrArg (fun k => v (ix2 i k)) (Fin.ext (show 13312 + (j.val - 10240 - 3072) = j.val by omega))

theorem array1 : (dats m 0 c).arrAt 4 cfg0.N = (Reference23Ideal.Read.val_main_v24 (F := Ideal) (m ((c : Thread nD τ).loc main_arg0)) (m ((c : Thread nD τ).loc main_arg1)) (m ((c : Thread nD τ).loc main_arg2)) (m ((c : Thread nD τ).loc main_arg3)) : S2048x13440.Idx → EReal) := by
  rw [covered, entry, covered_ref]

/-- The kernel's frame, as printed and idealized. -/
theorem frame_k : quiescent_Kernel23 := fun m ρ _ => Kernel23.Gen.frame m ρ
theorem frame_i : quiescent_Kernel23Ideal := fun m ρ _ => frame m ρ

/-- The reference's frame. -/
theorem frame_r : quiescent_Reference23Ideal := fun m ρ _ =>
  (θ_run Reference23Ideal.defs _ _).mono (fun r h => ⟨fun c => (h c).2.2, sem_eq_zero_of_no_sems (by decide) r.2⟩) (Reference23Ideal.Value.run m ρ)

theorem same : preserves_Kernel23_Kernel23Ideal := trivial

/-- The kernel's arrays are the reference's gradients. -/
theorem equal : algebraic_Kernel23Ideal_Reference23Ideal := by
  intro m g m' g' hp ha
  refine ⟨_, _, Value.run_blocks m g, (θ_run Reference23Ideal.defs _ _).mono (fun r h c => ?_) (Reference23Ideal.Value.run m' g')⟩
  obtain ⟨a0, a1, a2, a3⟩ := ha c
  obtain ⟨h0, h1, k⟩ := h c
  refine ⟨h0.trans ?_, h1.trans ?_, k⟩
  · rw [Reference23Ideal.Read.val_main_v20_eq, a1, a2]
    exact (array0 m c).symm
  · rw [Reference23Ideal.Read.val_main_v24_eq, a0, a1, a2, a3]
    exact (array1 m c).symm

end Cert.Merge

end
-- ==== Proof.Norm.lean ====
/-
  The norm of the rows: a grid step handles 512 rows.
-/
module

public import proofs.«01_k».proof.Defs
public import proofs.«01_k».proof.Proof.Gen.Kernel25.Frame
public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.Norm

open Idealize.ShloMosaic Idealize.SL.Sem Idealize.ShloMosaic.TcCoe Cert.Kernel25Ideal Cert.Kernel25Ideal.Gen

/-- The mean square of a row, kept off zero, and the factor: one over its root. -/
def square (x : Fin 1024 → EReal) : EReal := Ideal.div (∑ k, x k * x k) (Ideal.ofBits .f32 0x44800000#32) + Ideal.ofBits .f32 0x358637BD#32
def factor (x : Fin 1024 → EReal) : EReal := Ideal.rsqrt (square x)

variable (m : (ℓ : Loc nD τ sig) → Buf (Elt Ideal) ℓ) (c : Dev nD) (t : Fin cfg0.N)

theorem pay (x : Vec Ideal S512x1024 .f32) (w : Vec Ideal S1x1024 .f32) (i : Fin 512) (j : Fin 1024) :
    k0_pay1 (F := Ideal) x w (ix2 i j) = (x (ix2 i j) : EReal) * factor (fun k => x (ix2 i k)) * w (ix2 (0 : Fin 1) j) := by
  pointwise [k0_pay1, factor, square]

theorem step (x : Vec Ideal S512x1024 .f32) (w : Vec Ideal S1x1024 .f32) : out0_2 x w = k0_pay1 x w := by
  unfold out0_2
  frame_out

theorem index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The host gives the weight as one row. -/
theorem weight (j : Fin 1024) : (V m c main_v0 : S1x1024.Idx → EReal) (ix2 (0 : Fin 1) j) = m ((c : Thread nD τ).loc main_arg1) (ix1 j) := by
  after_reads_at

theorem value (x : S2048x1024.Idx → EReal) (w : S1024.Idx → EReal) (i : Fin 2048) (j : Fin 1024) : Reference25Ideal.Read.val_main_v13 (F := Ideal) x w (ix2 i j)
    = x (ix2 i j) * factor (fun k => x (ix2 i k)) * w (ix1 j) := by
  pointwise [Reference25Ideal.Read.val_main_v13, Reference25Ideal.Read.val_main_v12, Reference25Ideal.Read.val_main_v11, Reference25Ideal.Read.val_main_v10, Reference25Ideal.Read.val_main_v9, Reference25Ideal.Read.val_main_v8, Reference25Ideal.Read.val_main_v7, Reference25Ideal.Read.val_main_v6, Reference25Ideal.Read.val_main_v5, Reference25Ideal.Read.val_main_cst_1, Reference25Ideal.Read.val_main_v4, Reference25Ideal.Read.val_main_v3, Reference25Ideal.Read.val_main_cst_0, Reference25Ideal.Read.val_main_v2, Reference25Ideal.Read.val_main_v1, Reference25Ideal.Read.val_main_cst, Reference25Ideal.Read.val_main_v0, factor, square]

theorem array : (dats m 0 c).arrAt 2 cfg0.N = (Reference25Ideal.Read.val_main_v13 (F := Ideal) (m ((c : Thread nD τ).loc main_arg0)) (m ((c : Thread nD τ).loc main_arg1)) : S2048x1024.Idx → EReal) := by
  refine (dats m 0 c).arrAt_eq_of_covers 2 _ (by decide +kernel) fun t hf y => ?_
  blk_simp
  rw [after0_2]
  have ht : t.val < 4 := t.isLt
  obtain ⟨i, j, rfl⟩ : ∃ (i : Fin 512) (j : Fin 1024), y = ix2 i j := ⟨y 0, y 1, by ext a; fin_cases a <;> rfl⟩
  have he : (win0_2.blk t).view.emb (ix2 i j) = ix2 (⟨t.val * 512 + i.val, by omega⟩ : Fin 2048) j := by
    blk_ext [(index t).2.2]
  have hx (k : Fin 1024) : (iblk m c 0 t : S512x1024.Idx → EReal) (ix2 i k) = m ((c : Thread nD τ).loc main_arg0) (ix2 (⟨t.val * 512 + i.val, by omega⟩ : Fin 2048) k) := by
    blk_ext [iblk, V_main_arg0, (index t).1]
  have hw : (iblk m c 1 t : S1x1024.Idx → EReal) (ix2 (0 : Fin 1) j) = m ((c : Thread nD τ).loc main_arg1) (ix1 j) := by
    rw [← weight m c j]
    blk_ext [iblk, (index t).2.1]
  rw [he, step, value]
  refine (pay _ _ i j).trans ?_
  simp only [hx, hw]

/-- The frames, as printed, idealized, and the reference's. -/
theorem frame_k : quiescent_Kernel25 := fun m ρ _ => Kernel25.Gen.frame m ρ
theorem frame_i : quiescent_Kernel25Ideal := fun m ρ _ => frame m ρ
theorem frame_r : quiescent_Reference25Ideal := fun m ρ _ =>
  (θ_run Reference25Ideal.defs _ _).mono (fun r h => ⟨fun c => (h c).2, sem_eq_zero_of_no_sems (by decide) r.2⟩) (Reference25Ideal.Value.run m ρ)

theorem same : preserves_Kernel25_Kernel25Ideal := trivial

/-- The call's array is the reference's. -/
theorem equal : algebraic_Kernel25Ideal_Reference25Ideal := by
  intro m g m' g' hp ha
  refine ⟨_, Value.run_blocks m g, (θ_run Reference25Ideal.defs _ _).mono (fun r h c => ?_) (Reference25Ideal.Value.run m' g')⟩
  obtain ⟨a0, a1⟩ := ha c
  obtain ⟨h0, k⟩ := h c
  refine ⟨h0.trans ?_, k⟩
  rw [Reference25Ideal.Read.val_main_v13_eq, a0, a1]
  exact (array m c).symm

end Cert.Norm

end
-- ==== Proof.NormGrad.lean ====
/-
  The gradients of the norm: a grid step handles 512 rows of the argument's gradient, and adds the rows' share to the weight's.
  Kernel and reference agree for every argument: if a row's mean square is infinite its factor is zero, and both add nothing.
-/
module

public import proofs.«01_k».proof.Defs
public import proofs.«01_k».proof.Proof.Norm
public import proofs.«01_k».proof.Proof.Runs
public import proofs.«01_k».proof.Proof.Gen.Kernel24.Frame
public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.NormGrad

open Idealize.ShloMosaic Idealize.SL.Sem Idealize.ShloMosaic.TcCoe Cert.Kernel24Ideal Cert.Kernel24Ideal.Gen
open Norm (square factor)
open Reference24Ideal.Read (val_main_v0 val_main_cst val_main_v1 val_main_v2 val_main_cst_0 val_main_v3 val_main_v4 val_main_cst_1 val_main_v5 val_main_v6 val_main_v7 val_main_v8 val_main_cst_2 val_main_v9 val_main_v10 val_main_v11 val_main_v12 val_main_v13 val_main_v14 val_main_v16 val_main_cst_3 val_main_v17 val_main_v18 val_main_v19 val_main_v20 val_main_cst_4 val_main_v21 val_main_v22 val_main_cst_5 val_main_v23 val_main_v24 val_main_v25 val_main_v26 val_main_v27 val_main_cst_6 val_main_v28 val_main_v29 val_main_cst_7 val_main_v30 val_main_v31 val_main_v32 val_main_v33 val_main_v34 val_main_v35 val_main_v36 val_main_v37)

/-! ## The arithmetic of one row -/

theorem thousand : Ideal.ofBits .f32 0x44800000#32 = ((1024 : ℝ) : EReal) := by
  simp [Ideal.ofBits, Ideal.ieee, -EReal.coe_mul]; norm_num

theorem half : Ideal.ofBits .f32 0xBF000000#32 = ((-(1 / 2) : ℝ) : EReal) := by
  simp [Ideal.ofBits, Ideal.ieee, -EReal.coe_mul, -EReal.coe_neg]; norm_num

theorem small : (0 : EReal) < Ideal.ofBits .f32 0x358637BD#32 := by
  simp [Ideal.ofBits, Ideal.ieee, -EReal.coe_mul]

theorem div_thousand (a : EReal) : Ideal.div a (Ideal.ofBits .f32 0x44800000#32) = a * ((1 / 1024 : ℝ) : EReal) := by
  rw [thousand, Ideal.div_coe (by norm_num)]

theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The mean square is positive. -/
theorem square_pos (x : Fin 1024 → EReal) : 0 < square x := by
  unfold square
  rw [div_thousand]
  have h : 0 ≤ (∑ k, x k * x k) * ((1 / 1024 : ℝ) : EReal) :=
    mul_nonneg (Finset.sum_nonneg fun k _ => square_nonneg _) (by exact_mod_cast (by norm_num : (0 : ℝ) ≤ 1 / 1024))
  exact lt_of_lt_of_le small (le_add_of_nonneg_left h)

/-- The factor is zero over an infinite mean square; else it is a real number whose cube is the factor over the mean square. -/
theorem factor_cases {v : EReal} (h : 0 < v) : (Ideal.rsqrt v = 0 ∧ Ideal.div (Ideal.rsqrt v) v = 0)
    ∨ ∃ r : ℝ, 0 ≤ r ∧ Ideal.rsqrt v = (r : EReal) ∧ Ideal.div (Ideal.rsqrt v) v = ((r * r * r : ℝ) : EReal) := by
  induction v with
  | bot => exact absurd h (by simp)
  | top => left; simp [Ideal.div]
  | coe v =>
    right
    have hv : 0 < v := by exact_mod_cast h
    have e : Ideal.rsqrt (v : EReal) = (((Real.sqrt v)⁻¹ : ℝ) : EReal) := by
      rw [Ideal.rsqrt_coe, if_neg (not_lt.mpr hv.le), if_neg hv.ne']
    refine ⟨(Real.sqrt v)⁻¹, by positivity, e, ?_⟩
    rw [e, Ideal.div_coe hv.ne', ← EReal.coe_mul, mul_assoc (Real.sqrt v)⁻¹, ← mul_inv, Real.mul_self_sqrt hv.le, one_div]

theorem real_distrib {r : ℝ} (hr : 0 ≤ r) (a b : EReal) : (r : EReal) * (a + b) = r * a + r * b :=
  EReal.left_distrib_of_nonneg_of_ne_top (by exact_mod_cast hr) (EReal.coe_ne_top r) a b

/-- A nonnegative real number goes into a sum. -/
theorem real_sum {r : ℝ} (hr : 0 ≤ r) {n : ℕ} (f : Fin n → EReal) : ∑ k, (r : EReal) * f k = r * ∑ k, f k := by
  induction (Finset.univ : Finset (Fin n)) using Finset.induction_on with
  | empty => simp
  | insert a s ha ih => rw [Finset.sum_insert ha, Finset.sum_insert ha, ih, real_distrib hr]

/-- The kernel's form of a row's gradient is the reference's. -/
theorem row (x g : Fin 1024 → EReal) (j : Fin 1024) :
    factor x * (g j - x j * factor x * Ideal.div (∑ k, g k * (x k * factor x)) (Ideal.ofBits .f32 0x44800000#32))
      = g j * factor x + x j * Ideal.div ((∑ k, x k * g k) * (Ideal.ofBits .f32 0xBF000000#32 * Ideal.div (factor x) (square x))) (Ideal.ofBits .f32 0x44800000#32)
        + Ideal.div ((∑ k, x k * g k) * (Ideal.ofBits .f32 0xBF000000#32 * Ideal.div (factor x) (square x))) (Ideal.ofBits .f32 0x44800000#32) * x j := by
  simp only [div_thousand, half]
  unfold factor
  rcases factor_cases (square_pos x) with ⟨h0, h1⟩ | ⟨r, hr, h0, h1⟩
  · rw [h1, h0]
    simp
  · rw [h1, h0, show (∑ k, g k * (x k * (r : EReal))) = (r : EReal) * ∑ k, x k * g k by
      rw [← real_sum hr]
      exact Finset.sum_congr rfl fun k _ => by rw [← mul_assoc, mul_comm (_ * _), mul_comm (g k)]]
    generalize (∑ k, x k * g k) = S, x j = y, g j = z
    have double (a : EReal) : a + a = ((2 : ℝ) : EReal) * a := by
      rw [show (2 : ℝ) = 1 + 1 by norm_num, EReal.coe_add, EReal.right_distrib_of_nonneg (by simp) (by simp)]
      simp
    have left : (r : EReal) * (y * r * (r * S * ((1 / 1024 : ℝ) : EReal))) = ((r * r * r * (1 / 1024) : ℝ) : EReal) * (y * S) := by
      simp only [EReal.coe_mul]
      ac_rfl
    have right : y * (S * (((-(1 / 2) : ℝ) : EReal) * ((r * r * r : ℝ) : EReal)) * ((1 / 1024 : ℝ) : EReal)) = ((-(1 / 2) * (r * r * r) * (1 / 1024) : ℝ) : EReal) * (y * S) := by
      rw [← EReal.coe_mul, mul_assoc S, ← EReal.coe_mul, ← mul_assoc y, mul_comm (y * S)]
    rw [sub_eq_add_neg, real_distrib hr, mul_neg, left, mul_comm (_ * _) y, right, add_assoc, double, ← mul_assoc ((2 : ℝ) : EReal), ← EReal.coe_mul,
      mul_comm (r : EReal) z, ← neg_mul, ← EReal.coe_neg]
    congr 3
    ring_nf

/-! ## The blocks -/

variable (m : (ℓ : Loc nD τ sig) → Buf (Elt Ideal) ℓ) (c : Dev nD)

abbrev Rows := S2048x1024.Idx → EReal

/-- Row i of step t. -/
def place (t : Fin cfg0.N) (i : Fin 512) : Fin 2048 := ⟨t.val * 512 + i.val, by have : t.val < 4 := t.isLt; omega⟩

theorem index : ∀ t : Fin cfg0.N, (win0_0.index t = ![t.val, 0] ∧ win0_1.index t = ![0, 0] ∧ win0_2.index t = ![t.val, 0] ∧ win0_3.index t = ![t.val, 0])
    ∧ win0_4.index t = ![t.val, 0] ∧ win0_5.index t = ![0, 0] :=
  (by decide +kernel : ∀ t : Fin grid0.N, (win0_0.index t = ![t.val, 0] ∧ win0_1.index t = ![0, 0] ∧ win0_2.index t = ![t.val, 0] ∧ win0_3.index t = ![t.val, 0])
    ∧ win0_4.index t = ![t.val, 0] ∧ win0_5.index t = ![0, 0])

/-- The host gives the weight as one row. -/
theorem weight (j : Fin 1024) : (V m c main_v0 : S1x1024.Idx → EReal) (ix2 (0 : Fin 1) j) = m ((c : Thread nD τ).loc main_arg1) (ix1 j) := by
  after_reads_at

theorem block_x (t : Fin cfg0.N) (i : Fin 512) (j : Fin 1024) : (iblk m c 0 t : S512x1024.Idx → EReal) (ix2 i j) = m ((c : Thread nD τ).loc main_arg0) (ix2 (place t i) j) := by
  blk_ext [iblk, V_main_arg0, (index t).1.1, place]

theorem block_w (t : Fin cfg0.N) (j : Fin 1024) : (iblk m c 1 t : S1x1024.Idx → EReal) (ix2 (0 : Fin 1) j) = m ((c : Thread nD τ).loc main_arg1) (ix1 j) := by
  rw [← weight m c j]
  blk_ext [iblk, (index t).1.2.1]

theorem block_dh (t : Fin cfg0.N) (i : Fin 512) (j : Fin 1024) : (iblk m c 2 t : S512x1024.Idx → EReal) (ix2 i j) = m ((c : Thread nD τ).loc main_arg2) (ix2 (place t i) j) := by
  blk_ext [iblk, V_main_arg2, (index t).1.2.2.1, place]

theorem block_res (t : Fin cfg0.N) (i : Fin 512) (j : Fin 1024) : (iblk m c 3 t : S512x1024.Idx → EReal) (ix2 i j) = m ((c : Thread nD τ).loc main_arg3) (ix2 (place t i) j) := by
  blk_ext [iblk, V_main_arg3, (index t).1.2.2.2, place]

/-! ## The gradient of the argument -/

theorem step (t : Fin cfg0.N) : (outsAt0 m c t.val t.isLt).1 = k0_pay4 (F := Ideal) (iblk m c 0 t) (iblk m c 2 t) (iblk m c 1 t) (iblk m c 3 t) := by
  by_cases h0 : t.val % 4 = 0
  · rw [outsAt0_A m c t h0]
    generalize iblk m c 0 t = b0, iblk m c 1 t = b1, iblk m c 2 t = b2, iblk m c 3 t = b3
    frame_open
    frame_out
  · rw [outsAt0_B m c t h0]
    generalize iblk m c 0 t = b0, iblk m c 1 t = b1, iblk m c 2 t = b2, iblk m c 3 t = b3
    generalize outsAt0 m c (t.val - 1) _ = prev
    frame_open
    frame_out

theorem pay (x dh : Vec Ideal S512x1024 .f32) (w : Vec Ideal S1x1024 .f32) (res : Vec Ideal S512x1024 .f32) (i : Fin 512) (j : Fin 1024) : k0_pay4 (F := Ideal) x dh w res (ix2 i j)
    = (res (ix2 i j) : EReal) + factor (fun k => x (ix2 i k)) * (dh (ix2 i j) * w (ix2 (0 : Fin 1) j) - x (ix2 i j) * factor (fun k => x (ix2 i k))
      * Ideal.div (∑ k, (dh (ix2 i k) * w (ix2 (0 : Fin 1) k)) * (x (ix2 i k) * factor (fun k => x (ix2 i k)))) (Ideal.ofBits .f32 0x44800000#32)) := by
  pointwise [k0_pay4, k0_pay3, k0_pay2, factor, square]

theorem value (x : Rows) (w : S1024.Idx → EReal) (dh res : Rows) (i : Fin 2048) (j : Fin 1024) : val_main_v36 (F := Ideal) x w dh res (ix2 i j)
    = res (ix2 i j) + factor (fun k => x (ix2 i k)) * (dh (ix2 i j) * w (ix1 j) - x (ix2 i j) * factor (fun k => x (ix2 i k))
      * Ideal.div (∑ k, (dh (ix2 i k) * w (ix1 k)) * (x (ix2 i k) * factor (fun k => x (ix2 i k)))) (Ideal.ofBits .f32 0x44800000#32)) := by
  rw [row (fun k => x (ix2 i k)) fun k => dh (ix2 i k) * w (ix1 k)]
  pointwise [val_main_v36, val_main_v35, val_main_v34, val_main_v33, val_main_v32, val_main_v31, val_main_v30, val_main_cst_7, val_main_v29, val_main_v28, val_main_cst_6, val_main_v27, val_main_v26, val_main_v25, val_main_v24, val_main_v23, val_main_cst_5, val_main_v22, val_main_v20, val_main_v19, val_main_v13, val_main_v10, val_main_v9, val_main_cst_2, val_main_v8, val_main_v7, val_main_v6, val_main_v5, val_main_cst_1, val_main_v4, val_main_v3, val_main_cst_0, val_main_v2, val_main_v1, val_main_cst, val_main_v0, factor, square]
  simp only [Fin.sum_univ_one]

theorem array0 : (dats m 0 c).arrAt 4 cfg0.N = (val_main_v36 (F := Ideal) (m ((c : Thread nD τ).loc main_arg0)) (m ((c : Thread nD τ).loc main_arg1)) (m ((c : Thread nD τ).loc main_arg2)) (m ((c : Thread nD τ).loc main_arg3)) : S2048x1024.Idx → EReal) := by
  refine (dats m 0 c).arrAt_eq_of_covers 4 _ (by decide +kernel) fun t hf y => ?_
  blk_simp
  rw [after0_4]
  obtain ⟨i, j, rfl⟩ : ∃ (i : Fin 512) (j : Fin 1024), y = ix2 i j := ⟨y 0, y 1, by ext a; fin_cases a <;> rfl⟩
  have he : (win0_4.blk t).view.emb (ix2 i j) = ix2 (place t i) j := by
    blk_ext [(index t).2.1, place]
  rw [he, step m c t, value]
  refine (pay _ _ _ _ i j).trans ?_
  simp only [block_x, block_w, block_dh, block_res]

/-! ## The gradient of the weight -/

theorem scratch : Runs.Scratch 4 cfg0.N (fun s h => (outsAt0 m c s h).2) (k0_pay5 (F := Ideal)) fun p s => k0_pay1 (k0_pay6 p) (k0_pay7 (iblk m c 0 s) (iblk m c 2 s)) where
  first t h0 := by
    rw [outsAt0_A m c t h0]
    generalize iblk m c 0 t = b0, iblk m c 1 t = b1, iblk m c 2 t = b2, iblk m c 3 t = b3
    frame_open
    frame_out
  later t h0 := by
    rw [outsAt0_B m c t h0]
    generalize iblk m c 0 t = b0, iblk m c 1 t = b1, iblk m c 2 t = b2, iblk m c 3 t = b3
    generalize outsAt0 m c (t.val - 1) _ = prev
    frame_open
    frame_out

/-- A step adds its rows' share. -/
theorem gain (p : Vec Ideal S1x1024 .f32) (x dh : Vec Ideal S512x1024 .f32) (j : Fin 1024) : k0_pay1 (F := Ideal) (k0_pay6 p) (k0_pay7 x dh) (ix2 (0 : Fin 1) j)
    = (p (ix2 (0 : Fin 1) j) : EReal) + Runs.dot (fun i : Fin 512 => dh (ix2 i j)) fun i => x (ix2 i j) * factor (fun k => x (ix2 i k)) := by
  pointwise [k0_pay1, k0_pay6, k0_pay7, k0_pay3, k0_pay2, factor, square]

/-- A row's entry times the row's factor. -/
def scaled (x : Rows) (q : Fin 2048) (j : Fin 1024) : EReal := x (ix2 q j) * factor fun k => x (ix2 q k)

theorem whole (t : Fin cfg0.N) (h : t.val % 4 = 3) (j : Fin 1024) : (outsAt0 m c t.val t.isLt).2 (ix2 (0 : Fin 1) j)
    = Runs.dot (fun q : Fin 2048 => m ((c : Thread nD τ).loc main_arg2) (ix2 q j)) fun q => scaled (m ((c : Thread nD τ).loc main_arg0)) q j := by
  refine (scratch m c).whole (L := 512) (by norm_num) (by pointwise [k0_pay5]) (fun p s => gain p _ _ j) (by omega) (fun k hk l s hd hm => ?_) (fun k hk l s hd hm => ?_)
  all_goals
    have hs : s.val < 4 := s.isLt
    have e : place s l = ⟨k * 512 + l.val, by omega⟩ := Fin.ext (by simp only [place]; omega)
  · simp only [block_dh, e]
  · simp only [block_x, e, scaled]

theorem array1 : (dats m 0 c).arrAt 5 cfg0.N = (val_main_v37 (F := Ideal) (m ((c : Thread nD τ).loc main_arg0)) (m ((c : Thread nD τ).loc main_arg2)) : S1x1024.Idx → EReal) := by
  refine (dats m 0 c).arrAt_eq_of_covers 5 _ (by decide +kernel) fun t hf y => ?_
  blk_simp
  rw [after0_5]
  obtain ⟨j, rfl⟩ : ∃ (j : Fin 1024), y = ix2 (0 : Fin 1) j := ⟨y 1, by ext a; fin_cases a; exacts [by simpa using (y 0).isLt, rfl]⟩
  have he : (win0_5.blk t).view.emb (ix2 (0 : Fin 1) j) = ix2 (0 : Fin 1) j := by
    blk_ext [(index t).2.2]
  rw [he]
  refine (whole m c t ((flush0_5 t).mp hf) j).trans (.trans (Runs.dot_comm _ _) ?_)
  pointwise [val_main_v37, val_main_v21, val_main_cst_4, val_main_v18, val_main_v17, val_main_cst_3, val_main_v16, val_main_v12, val_main_v11, val_main_v7, val_main_v6, val_main_v5, val_main_cst_1, val_main_v4, val_main_v3, val_main_cst_0, val_main_v2, val_main_v1, val_main_cst, val_main_v0, scaled, factor, square]
  simp only [Fin.sum_univ_one]

/-! ## The claims -/

/-- The frames, as printed, idealized, and the reference's. -/
theorem frame_k : quiescent_Kernel24 := fun m ρ _ => Kernel24.Gen.frame m ρ
theorem frame_i : quiescent_Kernel24Ideal := fun m ρ _ => frame m ρ
theorem frame_r : quiescent_Reference24Ideal := fun m ρ _ =>
  (θ_run Reference24Ideal.defs _ _).mono (fun r h => ⟨fun c => (h c).2.2, sem_eq_zero_of_no_sems (by decide) r.2⟩) (Reference24Ideal.Value.run m ρ)

theorem same : preserves_Kernel24_Kernel24Ideal := trivial

/-- Both arrays of the call are the reference's. -/
theorem equal : algebraic_Kernel24Ideal_Reference24Ideal := by
  intro m g m' g' hp ha
  refine ⟨_, _, Value.run_blocks m g, (θ_run Reference24Ideal.defs _ _).mono (fun r h c => ?_) (Reference24Ideal.Value.run m' g')⟩
  obtain ⟨a0, a1, a2, a3⟩ := ha c
  obtain ⟨h0, h1, k⟩ := h c
  refine ⟨h0.trans ?_, h1.trans ?_, k⟩
  · rw [Reference24Ideal.Read.val_main_v36_eq, a0, a1, a2, a3]
    exact (array0 m c).symm
  · rw [Reference24Ideal.Read.val_main_v37_eq, a0, a2]
    exact (array1 m c).symm

end Cert.NormGrad

end
-- ==== Proof.MergeFwd.lean ====
/-
  The merging of the branches: three products, each multiplied with its gate, are added up. A grid step handles 512 rows of all three.
-/
module

public import proofs.«01_k».proof.Defs
public import proofs.«01_k».proof.Proof.Gen.Kernel26.Frame
public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.Quiescent

@[expose] public section

set_option maxRecDepth 16384

noncomputable section

namespace Cert.MergeFwd

open Idealize.ShloMosaic Idealize.SL.Sem Idealize.ShloMosaic.TcCoe Cert.Kernel26Ideal Cert.Kernel26Ideal.Gen

/-- The products of the branches, the wide array with the gates' logits. -/
abbrev Products := S2048x3072.Idx → EReal
abbrev Wide := S2048x13440.Idx → EReal

/-- A product times its gate. -/
def term (p : Products) (x : Wide) (i : Fin 2048) (j : Fin 1024) (b : Fin 3) : EReal :=
  Ideal.logistic (x (ix2 i (⟨10240 + (b.val * 1024 + j.val), by omega⟩ : Fin 13440))) * p (ix2 i (⟨b.val * 1024 + j.val, by omega⟩ : Fin 3072))

variable (m : (ℓ : Loc nD τ sig) → Buf (Elt Ideal) ℓ) (c : Dev nD) (t : Fin cfg0.N)

theorem step : outsAt0 m c t = k0_pay1 (F := Ideal) (X0_3 m c t) (iblk m c 0 t) (X0_4 m c t) (iblk m c 1 t) (X0_5 m c t) (iblk m c 2 t) := by
  unfold outsAt0
  generalize iblk m c 0 t = b0, iblk m c 1 t = b1, iblk m c 2 t = b2, X0_3 m c t = b3, X0_4 m c t = b4, X0_5 m c t = b5
  frame_open
  frame_out

theorem pay (g0 p0 g1 p1 g2 p2 : Vec Ideal S512x1024 .f32) (i : Fin 512) (j : Fin 1024) : k0_pay1 (F := Ideal) g0 p0 g1 p1 g2 p2 (ix2 i j)
    = Ideal.logistic (g0 (ix2 i j)) * (p0 (ix2 i j) : EReal) + Ideal.logistic (g1 (ix2 i j)) * (p1 (ix2 i j) : EReal) + Ideal.logistic (g2 (ix2 i j)) * (p2 (ix2 i j) : EReal) := by
  pointwise [k0_pay1]

/-- Where the blocks lie: the b-th products, the b-th gates, the result. -/
theorem index : ∀ t : Fin cfg0.N, (win0_0.index t = ![t.val, 0] ∧ win0_1.index t = ![t.val, 1] ∧ win0_2.index t = ![t.val, 2])
    ∧ (win0_3.index t = ![t.val, 10] ∧ win0_4.index t = ![t.val, 11] ∧ win0_5.index t = ![t.val, 12]) ∧ win0_6.index t = ![t.val, 0] :=
  (by decide +kernel : ∀ t : Fin grid0.N, (win0_0.index t = ![t.val, 0] ∧ win0_1.index t = ![t.val, 1] ∧ win0_2.index t = ![t.val, 2])
    ∧ (win0_3.index t = ![t.val, 10] ∧ win0_4.index t = ![t.val, 11] ∧ win0_5.index t = ![t.val, 12]) ∧ win0_6.index t = ![t.val, 0])

theorem point_lt (t : Fin cfg0.N) : t.val < 4 := t.isLt

theorem value (p : Products) (x : Wide) (i : Fin 2048) (j : Fin 1024) : Reference26Ideal.Read.val_main_v11 (F := Ideal) p x (ix2 i j) = ∑ b, term p x i j b := by
  pointwise [Reference26Ideal.Read.val_main_v11, Reference26Ideal.Read.val_main_v10, Reference26Ideal.Read.val_main_cst_1, Reference26Ideal.Read.val_main_v9, Reference26Ideal.Read.val_main_v8, Reference26Ideal.Read.val_main_v7, Reference26Ideal.Read.val_main_v6, Reference26Ideal.Read.val_main_cst_0, Reference26Ideal.Read.val_main_v5, Reference26Ideal.Read.val_main_v4, Reference26Ideal.Read.val_main_cst, Reference26Ideal.Read.val_main_v3, Reference26Ideal.Read.val_main_v2, Reference26Ideal.Read.val_main_v1, Reference26Ideal.Read.val_main_v0, term, Ideal.logistic]

theorem array : (dats m 0 c).arrAt 6 cfg0.N = (Reference26Ideal.Read.val_main_v11 (F := Ideal) (m ((c : Thread nD τ).loc main_arg0)) (m ((c : Thread nD τ).loc main_arg1)) : S2048x1024.Idx → EReal) := by
  refine (dats m 0 c).arrAt_eq_of_covers 6 _ (by decide +kernel) fun t hf y => ?_
  blk_simp
  rw [after0_6]
  have ht := point_lt t
  obtain ⟨i, j, rfl⟩ : ∃ (i : Fin 512) (j : Fin 1024), y = ix2 i j := ⟨y 0, y 1, by ext a; fin_cases a <;> rfl⟩
  obtain ⟨⟨i0, i1, i2⟩, ⟨i3, i4, i5⟩, i6⟩ := index t
  have he : (win0_6.blk t).view.emb (ix2 i j) = ix2 (⟨t.val * 512 + i.val, by omega⟩ : Fin 2048) j := by
    blk_ext [i6]
  rw [he, step m c t, value, Fin.sum_univ_three]
  refine (pay _ _ _ _ _ _ i j).trans ?_
  have p0 : (iblk m c 0 t : S512x1024.Idx → EReal) (ix2 i j) = m ((c : Thread nD τ).loc main_arg0) (ix2 (⟨t.val * 512 + i.val, by omega⟩ : Fin 2048) (⟨(0 : Fin 3).val * 1024 + j.val, by omega⟩ : Fin 3072)) := by
    blk_ext [iblk, V_main_arg0, i0]
  have p1 : (iblk m c 1 t : S512x1024.Idx → EReal) (ix2 i j) = m ((c : Thread nD τ).loc main_arg0) (ix2 (⟨t.val * 512 + i.val, by omega⟩ : Fin 2048) (⟨(1 : Fin 3).val * 1024 + j.val, by omega⟩ : Fin 3072)) := by
    blk_ext [iblk, V_main_arg0, i1]
  have p2 : (iblk m c 2 t : S512x1024.Idx → EReal) (ix2 i j) = m ((c : Thread nD τ).loc main_arg0) (ix2 (⟨t.val * 512 + i.val, by omega⟩ : Fin 2048) (⟨(2 : Fin 3).val * 1024 + j.val, by omega⟩ : Fin 3072)) := by
    blk_ext [iblk, V_main_arg0, i2]
  have g0 : (X0_3 m c t : S512x1024.Idx → EReal) (ix2 i j) = m ((c : Thread nD τ).loc main_arg1) (ix2 (⟨t.val * 512 + i.val, by omega⟩ : Fin 2048) (⟨10240 + ((0 : Fin 3).val * 1024 + j.val), by omega⟩ : Fin 13440)) := by
    unfold X0_3 Pipeline.Window.fill
    rw [dif_pos (moved0_3 t _)]
    blk_ext [iblk, V_main_arg1, i3]
  have g1 : (X0_4 m c t : S512x1024.Idx → EReal) (ix2 i j) = m ((c : Thread nD τ).loc main_arg1) (ix2 (⟨t.val * 512 + i.val, by omega⟩ : Fin 2048) (⟨10240 + ((1 : Fin 3).val * 1024 + j.val), by omega⟩ : Fin 13440)) := by
    unfold X0_4 Pipeline.Window.fill
    rw [dif_pos (moved0_4 t _)]
    blk_ext [iblk, V_main_arg1, i4]
  have g2 : (X0_5 m c t : S512x1024.Idx → EReal) (ix2 i j) = m ((c : Thread nD τ).loc main_arg1) (ix2 (⟨t.val * 512 + i.val, by omega⟩ : Fin 2048) (⟨10240 + ((2 : Fin 3).val * 1024 + j.val), by omega⟩ : Fin 13440)) := by
    unfold X0_5 Pipeline.Window.fill
    rw [dif_pos (moved0_5 t _)]
    blk_ext [iblk, V_main_arg1, i5]
  rw [p0, p1, p2, g0, g1, g2]
  rfl

/-- The frames, as printed, idealized, and the reference's. -/
theorem frame_k : quiescent_Kernel26 := fun m ρ _ => Kernel26.Gen.frame m ρ
theorem frame_i : quiescent_Kernel26Ideal := fun m ρ _ => frame m ρ
theorem frame_r : quiescent_Reference26Ideal := fun m ρ _ =>
  (θ_run Reference26Ideal.defs _ _).mono (fun r h => ⟨fun c => (h c).2, sem_eq_zero_of_no_sems (by decide) r.2⟩) (Reference26Ideal.Value.run m ρ)

theorem same : preserves_Kernel26_Kernel26Ideal := trivial

/-- The call's array is the reference's. -/
theorem equal : algebraic_Kernel26Ideal_Reference26Ideal := by
  intro m g m' g' hp ha
  refine ⟨_, Value.run_blocks m g, (θ_run Reference26Ideal.defs _ _).mono (fun r h c => ?_) (Reference26Ideal.Value.run m' g')⟩
  obtain ⟨a0, a1⟩ := ha c
  obtain ⟨h0, k⟩ := h c
  refine ⟨h0.trans ?_, k⟩
  rw [Reference26Ideal.Read.val_main_v11_eq, a0, a1]
  exact (array m c).symm

end Cert.MergeFwd

end
-- ==== Proof.SsmPost.lean ====
/-
  What follows the state-space scan: the skip connection, the gate, the norm over a group of 256 columns and the weight. A grid step handles one group of 512 rows.
-/
module

public import proofs.«01_k».proof.Defs
public import proofs.«01_k».proof.Proof.Gen.Kernel27.Frame
public import proofs.«01_k».proof.Proof.Gen.Kernel27Ideal.Value
public import proofs.«01_k».proof.Proof.Gen.Reference27Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.SsmPost

open Idealize.ShloMosaic Idealize.SL.Sem Idealize.ShloMosaic.TcCoe Cert.Kernel27Ideal Cert.Kernel27Ideal.Gen
open Reference27Ideal.Read (val_main_v0 val_main_v1 val_main_v2 val_main_v3 val_main_v4 val_main_v5 val_main_v6 val_main_v7 val_main_v8 val_main_v9 val_main_v10 val_main_v11 val_main_v12 val_main_v13 val_main_cst val_main_v14 val_main_v15 val_main_cst_0 val_main_v16 val_main_v17 val_main_cst_1 val_main_v18 val_main_v19 val_main_v20 val_main_v21 val_main_v22 val_main_v23 val_main_v24 val_main_v25 val_main_v26 val_main_v27 val_main_call0_v0 val_main_call0_v1 val_main_call0_cst val_main_call0_v2 val_main_call0_v3 val_main_call0_cst_0 val_main_call0_v4 val_main_call0_v5)

/-- The value after skip connection and gate: y + x d, times z over 1 + exp (-z). -/
def gated (y x d z : EReal) : EReal := (y + x * d) * (z * Ideal.logistic z)

/-- The factor of a group: one over the root of the mean of the squares. -/
def factor (x : Fin 256 → EReal) : EReal := Ideal.rsqrt (Ideal.div (∑ k, x k * x k) (Ideal.ofBits .f32 0x43800000#32) + Ideal.ofBits .f32 0x358637BD#32)

/-- Column k of group g. -/
def column (g : Fin 4) (k : Fin 256) : Fin 1024 := ⟨g.val * 256 + k.val, by omega⟩
/-- The head of a column. -/
def head (j : Fin 1024) : Fin 16 := ⟨j.val / 64, by omega⟩
/-- A column of the input of the scan, and of the gate. -/
def wide (j : Fin 1024) : Fin 2048 := ⟨j.val, by omega⟩
def gate (j : Fin 1024) : Fin 13440 := ⟨7168 + j.val, by omega⟩

variable (m : (ℓ : Loc nD τ sig) → Buf (Elt Ideal) ℓ) (c : Dev nD) (t : Fin cfg0.N)

theorem step : outsAt0 m c t = k0_pay1 (F := Ideal) (iblk m c 0 t) (iblk m c 1 t) (iblk m c 3 t) (X0_2 m c t) (iblk m c 4 t) := by
  unfold outsAt0
  generalize iblk m c 0 t = b0, iblk m c 1 t = b1, iblk m c 3 t = b2, iblk m c 4 t = b3, X0_2 m c t = b4
  frame_open
  frame_out

theorem pay (y x : Vec Ideal S512x256 .f32) (d : Vec Ideal S1x256 .f32) (z : Vec Ideal S512x256 .f32) (w : Vec Ideal S1x256 .f32) (i : Fin 512) (k : Fin 256) : k0_pay1 (F := Ideal) y x d z w (ix2 i k)
    = gated (y (ix2 i k)) (x (ix2 i k)) (d (ix2 (0 : Fin 1) k)) (z (ix2 i k)) * factor (fun k => gated (y (ix2 i k)) (x (ix2 i k)) (d (ix2 (0 : Fin 1) k)) (z (ix2 i k))) * w (ix2 (0 : Fin 1) k) := by
  pointwise [k0_pay1, gated, factor]

theorem index : ∀ t : Fin cfg0.N, (win0_0.index t = ![t.val % 4, t.val / 4] ∧ win0_1.index t = ![t.val % 4, t.val / 4] ∧ win0_2.index t = ![t.val % 4, 28 + t.val / 4])
    ∧ (win0_3.index t = ![0, t.val / 4] ∧ win0_4.index t = ![0, t.val / 4]) ∧ win0_5.index t = ![t.val % 4, t.val / 4] :=
  (by decide +kernel : ∀ t : Fin grid0.N, (win0_0.index t = ![t.val % 4, t.val / 4] ∧ win0_1.index t = ![t.val % 4, t.val / 4] ∧ win0_2.index t = ![t.val % 4, 28 + t.val / 4])
    ∧ (win0_3.index t = ![0, t.val / 4] ∧ win0_4.index t = ![0, t.val / 4]) ∧ win0_5.index t = ![t.val % 4, t.val / 4])

theorem point_lt (t : Fin cfg0.N) : t.val < 16 := t.isLt

/-- The host repeats the skip weight of a head over its 64 columns. -/
theorem skip (j : Fin 1024) : (V m c main_v2 : S1x1024.Idx → EReal) (ix2 (0 : Fin 1) j) = m ((c : Thread nD τ).loc main_arg3) (ix1 (head j)) := by
  after_reads_at
  rfl

/-- The host gives the weight of the norm as one row. -/
theorem weight (j : Fin 1024) : (V m c main_v3 : S1x1024.Idx → EReal) (ix2 (0 : Fin 1) j) = m ((c : Thread nD τ).loc main_arg4) (ix1 j) := by
  after_reads_at

/-- The reference's value after skip connection and gate. -/
def mixed (y : S2048x1024.Idx → EReal) (x : S2048x2048.Idx → EReal) (z : S2048x13440.Idx → EReal) (d : S16.Idx → EReal) (i : Fin 2048) (j : Fin 1024) : EReal :=
  gated (y (ix2 i j)) (x (ix2 i (wide j))) (d (ix1 (head j))) (z (ix2 i (gate j)))

theorem value_mixed (y : S2048x1024.Idx → EReal) (x : S2048x2048.Idx → EReal) (z : S2048x13440.Idx → EReal) (d : S16.Idx → EReal) (i : Fin 2048) (j : Fin 1024) :
    val_main_v11 (F := Ideal) y x z d (ix2 i j) = mixed y x z d i j := by
  pointwise [val_main_v11, val_main_v10, val_main_call0_v5, val_main_call0_v4, val_main_call0_cst_0, val_main_call0_v3, val_main_call0_v2, val_main_call0_cst, val_main_call0_v1, val_main_call0_v0, val_main_v9, val_main_v8, val_main_v7, val_main_v6, val_main_v5, val_main_v4, val_main_v3, val_main_v2, val_main_v1, val_main_v0, mixed, gated, Ideal.logistic, wide, head, gate]

theorem value (y : S2048x1024.Idx → EReal) (x : S2048x2048.Idx → EReal) (z : S2048x13440.Idx → EReal) (d : S16.Idx → EReal) (w : S1024.Idx → EReal) (i : Fin 2048) (g : Fin 4) (k : Fin 256) :
    val_main_v27 (F := Ideal) y x z d w (ix2 i (column g k)) = mixed y x z d i (column g k) * factor (fun k => mixed y x z d i (column g k)) * w (ix1 (column g k)) := by
  simp only [← value_mixed]
  pointwise [val_main_v27, val_main_v26, val_main_v25, val_main_v24, val_main_v23, val_main_v22, val_main_v21, val_main_v20, val_main_v19, val_main_v18, val_main_cst_1, val_main_v17, val_main_v16, val_main_cst_0, val_main_v15, val_main_v14, val_main_cst, val_main_v13, val_main_v12, factor, column]

theorem array : (dats m 0 c).arrAt 5 cfg0.N = (val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S2048x1024.Idx → EReal) := by
  refine (dats m 0 c).arrAt_eq_of_covers 5 _ (by decide +kernel) fun t hf y => ?_
  blk_simp
  rw [after0_5]
  have ht := point_lt t
  obtain ⟨i, k, rfl⟩ : ∃ (i : Fin 512) (k : Fin 256), y = ix2 i k := ⟨y 0, y 1, by ext a; fin_cases a <;> rfl⟩
  obtain ⟨⟨i0, i1, i2⟩, ⟨i3, i4⟩, i5⟩ := index t
  obtain ⟨r, hr⟩ : ∃ r : Fin 2048, r.val = t.val % 4 * 512 + i.val := ⟨⟨_, by omega⟩, rfl⟩
  obtain ⟨g, hg⟩ : ∃ g : Fin 4, g.val = t.val / 4 := ⟨⟨_, by omega⟩, rfl⟩
  have he : (win0_5.blk t).view.emb (ix2 i k) = ix2 r (column g k) := by
    blk_ext [i5, column, hr, hg]
  have hy (k : Fin 256) : (iblk m c 0 t : S512x256.Idx → EReal) (ix2 i k) = m ((c : Thread nD τ).loc main_arg0) (ix2 r (column g k)) := by
    blk_ext [iblk, V_main_arg0, i0, column, hr, hg]
  have hx (k : Fin 256) : (iblk m c 1 t : S512x256.Idx → EReal) (ix2 i k) = m ((c : Thread nD τ).loc main_arg1) (ix2 r (wide (column g k))) := by
    blk_ext [iblk, V_main_arg1, i1, column, wide, hr, hg]
  have hz (k : Fin 256) : (X0_2 m c t : S512x256.Idx → EReal) (ix2 i k) = m ((c : Thread nD τ).loc main_arg2) (ix2 r (gate (column g k))) := by
    unfold X0_2 Pipeline.Window.fill
    rw [dif_pos (moved0_2 t _)]
    blk_ext [iblk, V_main_arg2, i2, column, gate, hr, hg]
  have hd (k : Fin 256) : (iblk m c 3 t : S1x256.Idx → EReal) (ix2 (0 : Fin 1) k) = m ((c : Thread nD τ).loc main_arg3) (ix1 (head (column g k))) := by
    rw [← skip m c (column g k)]
    blk_ext [iblk, i3, column, hg]
  have hw : (iblk m c 4 t : S1x256.Idx → EReal) (ix2 (0 : Fin 1) k) = m ((c : Thread nD τ).loc main_arg4) (ix1 (column g k)) := by
    rw [← weight m c (column g k)]
    blk_ext [iblk, i4, column, hg]
  rw [he, step m c t, value]
  refine (pay _ _ _ _ _ i k).trans ?_
  simp only [hy, hx, hz, hd, hw]
  rfl

/-- The frames, as printed, idealized, and the reference's. -/
theorem frame_k : quiescent_Kernel27 := fun m ρ _ => Kernel27.Gen.frame m ρ
theorem frame_i : quiescent_Kernel27Ideal := fun m ρ _ => frame m ρ
theorem frame_r : quiescent_Reference27Ideal := fun m ρ _ =>
  (θ_run Reference27Ideal.defs _ _).mono (fun r h => ⟨fun c => (h c).2, sem_eq_zero_of_no_sems (by decide) r.2⟩) (Reference27Ideal.Value.run m ρ)

theorem same : preserves_Kernel27_Kernel27Ideal := trivial

/-- The call's array is the reference's. -/
theorem equal : algebraic_Kernel27Ideal_Reference27Ideal := by
  intro m g m' g' hp ha
  refine ⟨_, Value.run_blocks m g, (θ_run Reference27Ideal.defs _ _).mono (fun r h c => ?_) (Reference27Ideal.Value.run m' g')⟩
  obtain ⟨a0, a1, a2, a3, a4⟩ := ha c
  obtain ⟨h0, k⟩ := h c
  refine ⟨h0.trans ?_, k⟩
  rw [Reference27Ideal.Read.val_main_v27_eq, a0, a1, a2, a3, a4]
  exact (array m c).symm

end Cert.SsmPost

end
-- ==== Proof.FinalLoss.lean ====
/-
  The loss and the last norm's gradients: a grid step handles 512 rows of the argument's gradient, and adds the rows' share to the
  loss and to the weight's gradient. The row's arithmetic is that of the other norms.
-/
module

public import proofs.«01_k».proof.Defs
public import proofs.«01_k».proof.Proof.NormGrad
public import proofs.«01_k».proof.Proof.Gen.Kernel28.Frame
public import proofs.«01_k».proof.Proof.Gen.Kernel28Ideal.Value
public import proofs.«01_k».proof.Proof.Gen.Reference28Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.FinalLoss

open Idealize.ShloMosaic Idealize.SL.Sem Idealize.ShloMosaic.TcCoe Cert.Kernel28Ideal Cert.Kernel28Ideal.Gen
open Norm (square factor)
open NormGrad (row real_sum div_thousand)
open Reference28Ideal.Read (val_main_v50 val_main_v48 val_main_v41 val_main_v35 val_main_v30 val_main_v29 val_main_v28 val_main_v26 val_main_v25 val_main_cst_8 val_main_cst_9 val_main_v27 val_main_cst_10 val_main_v19 val_main_v18 val_main_cst_3 val_main_v16 val_main_v15 val_main_v12 val_main_v11 val_main_v7 val_main_v6 val_main_v4 val_main_v2 val_main_v1 val_main_v0 val_main_cst val_main_v3 val_main_cst_0 val_main_v5 val_main_cst_1 val_main_v14 val_main_v13 val_main_v34 val_main_v40 val_main_v47 val_main_v46 val_main_v45 val_main_v44 val_main_v42 val_main_v39 val_main_v38 val_main_v37 val_main_cst_13 val_main_v10 val_main_v9 val_main_cst_2 val_main_v8 val_main_v43 val_main_cst_14 val_main_cst_15 val_main_v49 val_main_v51 val_main_v24 val_main_cst_7 val_main_v23 val_main_v22 val_main_v20 val_main_v17 val_main_cst_4 val_main_v21 val_main_cst_5 val_main_cst_6 val_main_v52 val_main_v36 val_main_v33 val_main_v32 val_main_v31 val_main_cst_11 val_main_cst_12)

/-! ## The arithmetic of one row -/

/-- What is missing from the target. -/
def miss (x w t : Fin 1024 → EReal) (k : Fin 1024) : EReal := x k * factor x * w k - t k

theorem part : Ideal.ofBits .f32 0x3A800000#32 = ((1 / 1024 : ℝ) : EReal) := by
  simp [Ideal.ofBits, Ideal.ieee, -EReal.coe_mul]; norm_num

theorem half_part : Ideal.ofBits .f32 0x3A000000#32 = ((1 / 2048 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- Half of the square's derivative over 1024. -/
theorem derivative (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [div_thousand, half, one, two, part, ← mul_assoc, ← EReal.coe_mul, ← EReal.coe_mul, ← EReal.coe_mul, mul_comm e]
  norm_num

/-- Half of the sum of the rows' means is the sum of the rows' shares. -/
theorem shares (f : Fin 2048 → EReal) : Ideal.ofBits .f32 0x3F000000#32 * ∑ q, Ideal.div (f q) (Ideal.ofBits .f32 0x44800000#32)
    = Runs.dot f fun _ => Ideal.ofBits .f32 0x3A000000#32 := by
  rw [half, ← real_sum (by norm_num)]
  refine Finset.sum_congr rfl fun q _ => ?_
  rw [div_thousand, half_part, mul_comm, mul_assoc, ← EReal.coe_mul]
  norm_num

/-! ## The blocks -/

variable (m : (ℓ : Loc nD τ sig) → Buf (Elt Ideal) ℓ) (c : Dev nD)

abbrev Rows := S2048x1024.Idx → EReal

/-- Row i of step t. -/
def place (t : Fin cfg0.N) (i : Fin 512) : Fin 2048 := ⟨t.val * 512 + i.val, by have : t.val < 4 := t.isLt; omega⟩

theorem index : ∀ t : Fin cfg0.N, (win0_0.index t = ![t.val, 0] ∧ win0_1.index t = ![0, 0] ∧ win0_2.index t = ![t.val, 0])
    ∧ win0_3.index t = ![0, 0] ∧ win0_4.index t = ![t.val, 0] ∧ win0_5.index t = ![0, 0] :=
  (by decide +kernel : ∀ t : Fin grid0.N, (win0_0.index t = ![t.val, 0] ∧ win0_1.index t = ![0, 0] ∧ win0_2.index t = ![t.val, 0])
    ∧ win0_3.index t = ![0, 0] ∧ win0_4.index t = ![t.val, 0] ∧ win0_5.index t = ![0, 0])

/-- The host gives the weight as one row. -/
theorem weight (j : Fin 1024) : (V m c main_v0 : S1x1024.Idx → EReal) (ix2 (0 : Fin 1) j) = m ((c : Thread nD τ).loc main_arg1) (ix1 j) := by
  after_reads_at

theorem block_x (t : Fin cfg0.N) (i : Fin 512) (j : Fin 1024) : (iblk m c 0 t : S512x1024.Idx → EReal) (ix2 i j) = m ((c : Thread nD τ).loc main_arg0) (ix2 (place t i) j) := by
  blk_ext [iblk, V_main_arg0, (index t).1.1, place]

theorem block_w (t : Fin cfg0.N) (j : Fin 1024) : (iblk m c 1 t : S1x1024.Idx → EReal) (ix2 (0 : Fin 1) j) = m ((c : Thread nD τ).loc main_arg1) (ix1 j) := by
  rw [← weight m c j]
  blk_ext [iblk, (index t).1.2.1]

theorem block_target (t : Fin cfg0.N) (i : Fin 512) (j : Fin 1024) : (iblk m c 2 t : S512x1024.Idx → EReal) (ix2 i j) = m ((c : Thread nD τ).loc main_arg2) (ix2 (place t i) j) := by
  blk_ext [iblk, V_main_arg2, (index t).1.2.2, place]

/-- What a row of the arguments misses. -/
def missed (x : Rows) (w : S1024.Idx → EReal) (t : Rows) (q : Fin 2048) : Fin 1024 → EReal :=
  miss (fun k => x (ix2 q k)) (fun k => w (ix1 k)) fun k => t (ix2 q k)

/-- What a row of a step's blocks misses. -/
def missing (t : Fin cfg0.N) (i : Fin 512) : Fin 1024 → EReal :=
  miss (fun k => (iblk m c 0 t : S512x1024.Idx → EReal) (ix2 i k)) (fun k => (iblk m c 1 t : S1x1024.Idx → EReal) (ix2 (0 : Fin 1) k))
    fun k => (iblk m c 2 t : S512x1024.Idx → EReal) (ix2 i k)

theorem missing_eq (t : Fin cfg0.N) (i : Fin 512) : missing m c t i
    = missed (m ((c : Thread nD τ).loc main_arg0)) (m ((c : Thread nD τ).loc main_arg1)) (m ((c : Thread nD τ).loc main_arg2)) (place t i) := by
  unfold missing missed
  simp only [block_x, block_w, block_target]

/-! ## The gradient of the argument -/

theorem step (t : Fin cfg0.N) : (outsAt0 m c t.val t.isLt).2.1 = k0_pay7 (F := Ideal) (iblk m c 0 t) (iblk m c 1 t) (iblk m c 2 t) (iblk m c 1 t) := by
  by_cases h0 : t.val % 4 = 0
  · rw [outsAt0_A m c t h0]
    generalize iblk m c 0 t = b0, iblk m c 1 t = b1, iblk m c 2 t = b2
    frame_open
    frame_out
  · rw [outsAt0_B m c t h0]
    generalize iblk m c 0 t = b0, iblk m c 1 t = b1, iblk m c 2 t = b2
    generalize outsAt0 m c (t.val - 1) _ = prev
    frame_open
    frame_out

theorem pay (x : Vec Ideal S512x1024 .f32) (w : Vec Ideal S1x1024 .f32) (t : Vec Ideal S512x1024 .f32) (i : Fin 512) (j : Fin 1024) : k0_pay7 (F := Ideal) x w t w (ix2 i j)
    = factor (fun k => x (ix2 i k)) * (miss (fun k => x (ix2 i k)) (fun k => w (ix2 (0 : Fin 1) k)) (fun k => t (ix2 i k)) j * Ideal.ofBits .f32 0x3A800000#32 * w (ix2 (0 : Fin 1) j)
      - x (ix2 i j) * factor (fun k => x (ix2 i k))
      * Ideal.div (∑ k, (miss (fun k => x (ix2 i k)) (fun k => w (ix2 (0 : Fin 1) k)) (fun k => t (ix2 i k)) k * Ideal.ofBits .f32 0x3A800000#32 * w (ix2 (0 : Fin 1) k)) * (x (ix2 i k) * factor (fun k => x (ix2 i k)))) (Ideal.ofBits .f32 0x44800000#32)) := by
  pointwise [k0_pay7, k0_pay6, k0_pay5, k0_pay4, k0_pay3, miss, factor, square]

theorem value (x : Rows) (w : S1024.Idx → EReal) (t : Rows) (i : Fin 2048) (j : Fin 1024) : val_main_v50 (F := Ideal) x w t (ix2 i j)
    = factor (fun k => x (ix2 i k)) * (missed x w t i j * Ideal.ofBits .f32 0x3A800000#32 * w (ix1 j)
      - x (ix2 i j) * factor (fun k => x (ix2 i k))
      * Ideal.div (∑ k, (missed x w t i k * Ideal.ofBits .f32 0x3A800000#32 * w (ix1 k)) * (x (ix2 i k) * factor (fun k => x (ix2 i k)))) (Ideal.ofBits .f32 0x44800000#32)) := by
  rw [row (fun k => x (ix2 i k)) fun k => missed x w t i k * Ideal.ofBits .f32 0x3A800000#32 * w (ix1 k)]
  simp only [← derivative]
  pointwise [val_main_v50, val_main_v48, val_main_v41, val_main_v35, val_main_v30, val_main_v29, val_main_v28, val_main_v26, val_main_v25, val_main_cst_8, val_main_cst_9, val_main_v27, val_main_cst_10, val_main_v19, val_main_v18, val_main_cst_3, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_v34, val_main_v40, val_main_v47, val_main_v46, val_main_v45, val_main_v44, val_main_v42, val_main_v39, val_main_v38, val_main_v37, val_main_cst_13, val_main_v10, val_main_v9, val_main_cst_2, val_main_v8, val_main_v43, val_main_cst_14, val_main_cst_15, val_main_v49, missed, miss, factor, square]
  simp only [Fin.sum_univ_one]

theorem array1 : (dats m 0 c).arrAt 4 cfg0.N = (val_main_v50 (F := Ideal) (m ((c : Thread nD τ).loc main_arg0)) (m ((c : Thread nD τ).loc main_arg1)) (m ((c : Thread nD τ).loc main_arg2)) : S2048x1024.Idx → EReal) := by
  refine (dats m 0 c).arrAt_eq_of_covers 4 _ (by decide +kernel) fun t hf y => ?_
  blk_simp
  rw [after0_4]
  obtain ⟨i, j, rfl⟩ : ∃ (i : Fin 512) (j : Fin 1024), y = ix2 i j := ⟨y 0, y 1, by ext a; fin_cases a <;> rfl⟩
  have he : (win0_4.blk t).view.emb (ix2 i j) = ix2 (place t i) j := by
    blk_ext [(index t).2.2.1, place]
  rw [he, step m c t, value]
  refine (pay _ _ _ i j).trans ?_
  simp only [← missing_eq m c t i]
  simp only [block_x, block_w, missing]

/-! ## The gradient of the weight -/

theorem scratch : Runs.Scratch 4 cfg0.N (fun s h => (outsAt0 m c s h).2.2) (k0_pay8 (F := Ideal))
    fun p s => k0_pay1 (k0_pay4 (iblk m c 0 s)) (k0_pay6 (iblk m c 0 s) (iblk m c 1 s) (iblk m c 2 s)) p where
  first t h0 := by
    rw [outsAt0_A m c t h0]
    generalize iblk m c 0 t = b0, iblk m c 1 t = b1, iblk m c 2 t = b2
    frame_open
    frame_out
  later t h0 := by
    rw [outsAt0_B m c t h0]
    generalize iblk m c 0 t = b0, iblk m c 1 t = b1, iblk m c 2 t = b2
    generalize outsAt0 m c (t.val - 1) _ = prev
    frame_open
    frame_out

/-- A step adds its rows' share. -/
theorem gain (p : Vec Ideal S1x1024 .f32) (x : Vec Ideal S512x1024 .f32) (w : Vec Ideal S1x1024 .f32) (t : Vec Ideal S512x1024 .f32) (j : Fin 1024) :
    k0_pay1 (F := Ideal) (k0_pay4 x) (k0_pay6 x w t) p (ix2 (0 : Fin 1) j) = (p (ix2 (0 : Fin 1) j) : EReal)
      + Runs.dot (fun i : Fin 512 => miss (fun k => x (ix2 i k)) (fun k => w (ix2 (0 : Fin 1) k)) (fun k => t (ix2 i k)) j * Ideal.ofBits .f32 0x3A800000#32) fun i => x (ix2 i j) * factor (fun k => x (ix2 i k)) := by
  pointwise [k0_pay1, k0_pay6, k0_pay5, k0_pay4, k0_pay3, miss, factor, square]

/-- A row's entry times the row's factor. -/
def scaled (x : Rows) (q : Fin 2048) (j : Fin 1024) : EReal := x (ix2 q j) * factor fun k => x (ix2 q k)

theorem whole (t : Fin cfg0.N) (h : t.val % 4 = 3) (j : Fin 1024) : (outsAt0 m c t.val t.isLt).2.2 (ix2 (0 : Fin 1) j)
    = Runs.dot (fun q : Fin 2048 => missed (m ((c : Thread nD τ).loc main_arg0)) (m ((c : Thread nD τ).loc main_arg1)) (m ((c : Thread nD τ).loc main_arg2)) q j * Ideal.ofBits .f32 0x3A800000#32)
      fun q => scaled (m ((c : Thread nD τ).loc main_arg0)) q j := by
  refine (scratch m c).whole (L := 512) (by norm_num) (by pointwise [k0_pay8]) (fun p s => gain p _ _ _ j) (by omega) (fun k hk l s hd hm => ?_) (fun k hk l s hd hm => ?_)
  all_goals
    have hs : s.val < 4 := s.isLt
    have e : place s l = ⟨k * 512 + l.val, by omega⟩ := Fin.ext (by simp only [place]; omega)
  · exact congrArg (fun f : Fin 1024 → EReal => f j * Ideal.ofBits .f32 0x3A800000#32) ((missing_eq m c s l).trans (by rw [e]))
  · simp only [block_x, e, scaled]

theorem array2 : (dats m 0 c).arrAt 5 cfg0.N = (val_main_v52 (F := Ideal) (m ((c : Thread nD τ).loc main_arg0)) (m ((c : Thread nD τ).loc main_arg1)) (m ((c : Thread nD τ).loc main_arg2)) : S1x1024.Idx → EReal) := by
  refine (dats m 0 c).arrAt_eq_of_covers 5 _ (by decide +kernel) fun t hf y => ?_
  blk_simp
  rw [after0_5]
  obtain ⟨j, rfl⟩ : ∃ (j : Fin 1024), y = ix2 (0 : Fin 1) j := ⟨y 1, by ext a; fin_cases a; exacts [by simpa using (y 0).isLt, rfl]⟩
  have he : (win0_5.blk t).view.emb (ix2 (0 : Fin 1) j) = ix2 (0 : Fin 1) j := by
    blk_ext [(index t).2.2.2]
  rw [he]
  refine (whole m c t ((flush0_5 t).mp hf) j).trans (.trans (Runs.dot_comm _ _) ?_)
  simp only [← derivative]
  pointwise [val_main_v52, val_main_v36, val_main_v33, val_main_v32, val_main_v31, val_main_v12, val_main_v11, val_main_v7, val_main_v6, val_main_v4, val_main_v2, val_main_v1, val_main_v0, val_main_cst, val_main_v3, val_main_cst_0, val_main_v5, val_main_cst_1, val_main_v30, val_main_v29, val_main_v28, val_main_v26, val_main_v25, val_main_cst_8, val_main_cst_9, val_main_v27, val_main_cst_10, val_main_v19, val_main_v18, val_main_cst_3, val_main_v16, val_main_v15, val_main_v14, val_main_v13, val_main_cst_11, val_main_cst_12, missed, miss, scaled, factor, square]
  simp only [Fin.sum_univ_one]

/-! ## The loss -/

theorem scratch_loss : Runs.Scratch 4 cfg0.N (fun s h => (outsAt0 m c s h).1) (k0_pay9 (F := Ideal))
    fun p s => k0_pay2 (k0_pay5 (iblk m c 0 s) (iblk m c 1 s) (iblk m c 2 s)) p where
  first t h0 := by
    rw [outsAt0_A m c t h0]
    generalize iblk m c 0 t = b0, iblk m c 1 t = b1, iblk m c 2 t = b2
    frame_open
    frame_out
  later t h0 := by
    rw [outsAt0_B m c t h0]
    generalize iblk m c 0 t = b0, iblk m c 1 t = b1, iblk m c 2 t = b2
    generalize outsAt0 m c (t.val - 1) _ = prev
    frame_open
    frame_out

/-- The sum of a row's squares. -/
def squares (f : Fin 1024 → EReal) : EReal := ∑ k, f k * f k

theorem gain_loss (p : Vec Ideal S1x1 .f32) (x : Vec Ideal S512x1024 .f32) (w : Vec Ideal S1x1024 .f32) (t : Vec Ideal S512x1024 .f32) :
    k0_pay2 (F := Ideal) (k0_pay5 x w t) p (ix2 (0 : Fin 1) (0 : Fin 1)) = (p (ix2 (0 : Fin 1) (0 : Fin 1)) : EReal)
      + Runs.dot (fun i : Fin 512 => squares (miss (fun k => x (ix2 i k)) (fun k => w (ix2 (0 : Fin 1) k)) fun k => t (ix2 i k))) fun _ => Ideal.ofBits .f32 0x3A000000#32 := by
  pointwise [k0_pay2, k0_pay5, k0_pay4, k0_pay3, squares, miss, factor, square]

theorem whole_loss (t : Fin cfg0.N) (h : t.val % 4 = 3) : (outsAt0 m c t.val t.isLt).1 (ix2 (0 : Fin 1) (0 : Fin 1))
    = Runs.dot (fun q : Fin 2048 => squares (missed (m ((c : Thread nD τ).loc main_arg0)) (m ((c : Thread nD τ).loc main_arg1)) (m ((c : Thread nD τ).loc main_arg2)) q))
      fun _ => Ideal.ofBits .f32 0x3A000000#32 := by
  refine (scratch_loss m c).whole (L := 512) (by norm_num) (by pointwise [k0_pay9]) (fun p s => gain_loss p _ _ _) (by omega) (fun k hk l s hd hm => ?_) (fun k hk l s hd hm => rfl)
  have hs : s.val < 4 := s.isLt
  have e : place s l = ⟨k * 512 + l.val, by omega⟩ := Fin.ext (by simp only [place]; omega)
  exact congrArg squares ((missing_eq m c s l).trans (by rw [e]))

theorem array0 : (dats m 0 c).arrAt 3 cfg0.N = (val_main_v51 (F := Ideal) (m ((c : Thread nD τ).loc main_arg0)) (m ((c : Thread nD τ).loc main_arg1)) (m ((c : Thread nD τ).loc main_arg2)) : S1x1.Idx → EReal) := by
  refine (dats m 0 c).arrAt_eq_of_covers 3 _ (by decide +kernel) fun t hf y => ?_
  blk_simp
  rw [after0_3]
  obtain rfl : y = ix2 (0 : Fin 1) (0 : Fin 1) := by
    ext a; fin_cases a; exacts [by simpa using (y 0).isLt, by simpa using (y 1).isLt]
  have he : (win0_3.blk t).view.emb (ix2 (0 : Fin 1) (0 : Fin 1)) = ix2 (0 : Fin 1) (0 : Fin 1) := by
    blk_ext [(index t).2.1]
  rw [he]
  refine (whole_loss m c t ((flush0_3 t).mp hf)).trans ((shares _).symm.trans ?_)
  pointwise [val_main_v51, val_main_v24, val_main_cst_7, val_main_v23, val_main_v22, val_main_v20, val_main_v17, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_cst_4, val_main_v21, val_main_cst_5, val_main_cst_6, squares, missed, miss, factor, square]

/-! ## The claims -/

/-- The frames, as printed, idealized, and the reference's. -/
theorem frame_k : quiescent_Kernel28 := fun m ρ _ => Kernel28.Gen.frame m ρ
theorem frame_i : quiescent_Kernel28Ideal := fun m ρ _ => frame m ρ
theorem frame_r : quiescent_Reference28Ideal := fun m ρ _ =>
  (θ_run Reference28Ideal.defs _ _).mono (fun r h => ⟨fun c => (h c).2.2.2, sem_eq_zero_of_no_sems (by decide) r.2⟩) (Reference28Ideal.Value.run m ρ)

theorem same : preserves_Kernel28_Kernel28Ideal := trivial

/-- The three arrays of the call are the reference's. -/
theorem equal : algebraic_Kernel28Ideal_Reference28Ideal := by
  intro m g m' g' hp ha
  refine ⟨_, _, _, Value.run_blocks m g, (θ_run Reference28Ideal.defs _ _).mono (fun r h c => ?_) (Reference28Ideal.Value.run m' g')⟩
  obtain ⟨a0, a1, a2⟩ := ha c
  obtain ⟨h0, h1, h2, k⟩ := h c
  refine ⟨h0.trans ?_, h1.trans ?_, h2.trans ?_, k⟩
  · rw [Reference28Ideal.Read.val_main_v51_eq, a0, a1, a2]
    exact (array0 m c).symm
  · rw [Reference28Ideal.Read.val_main_v50_eq, a0, a1, a2]
    exact (array1 m c).symm
  · rw [Reference28Ideal.Read.val_main_v52_eq, a0, a1, a2]
    exact (array2 m c).symm

end Cert.FinalLoss

end
-- ==== Proof.DeltaPost.lean ====
/-
  The end of the delta rule's branch: the norm of each head, its weight and the gate. A grid step handles 512 rows of all eight heads.
-/
module

public import proofs.«01_k».proof.Defs
public import proofs.«01_k».proof.Proof.Gen.Kernel29.Frame
public import proofs.«01_k».proof.Proof.Gen.Kernel29Ideal.Value
public import proofs.«01_k».proof.Proof.Gen.Reference29Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DeltaPost

open Idealize.ShloMosaic Idealize.SL.Sem Idealize.ShloMosaic.TcCoe Cert.Kernel29Ideal Cert.Kernel29Ideal.Gen
open Reference29Ideal.Read (val_main_v19 val_main_v18 val_main_v17 val_main_v15 val_main_v12 val_main_v2 val_main_v11 val_main_v10 val_main_v9 val_main_v7 val_main_v5 val_main_v4 val_main_v3 val_main_cst val_main_v6 val_main_cst_0 val_main_v8 val_main_cst_1 val_main_v14 val_main_v13 val_main_v16 val_main_v1 val_main_v0 val_main_call0_v5 val_main_call0_v4 val_main_call0_cst_0 val_main_call0_v3 val_main_call0_v2 val_main_call0_cst val_main_call0_v1 val_main_call0_v0)

/-- The factor of a head: one over the root of the mean of the squares. -/
def factor (x : Fin 128 → EReal) : EReal := Ideal.rsqrt (Ideal.div (∑ k, x k * x k) (Ideal.ofBits .f32 0x43000000#32) + Ideal.ofBits .f32 0x358637BD#32)

/-- A head's numbers, divided by their root mean square, times the weight and the gate. -/
def ended (x w z : Fin 128 → EReal) (k : Fin 128) : EReal := x k * factor x * w k * (z k * Ideal.logistic (z k))

/-- Column k of head h, and the column of its gate. -/
def column (h : Fin 8) (k : Fin 128) : Fin 1024 := ⟨h.val * 128 + k.val, by omega⟩
def gate (j : Fin 1024) : Fin 13440 := ⟨3072 + j.val, by omega⟩

variable (m : (ℓ : Loc nD τ sig) → Buf (Elt Ideal) ℓ) (c : Dev nD)

/-- What a step stores for one head. -/
theorem pay (x : Vec Ideal S512x128 .f32) (w : Vec Ideal S1x128 .f32) (z : Vec Ideal S512x128 .f32) (i : Fin 512) (k : Fin 128) : k0_pay2 (F := Ideal) x w z (ix2 i k)
    = ended (fun k => x (ix2 i k)) (fun k => w (ix2 (0 : Fin 1) k)) (fun k => z (ix2 i k)) k := by
  pointwise [k0_pay2, ended, factor]

/-- A load of a head's columns. -/
theorem load (b : Vec Ideal S512x1024 .f32) (n : ℕ) (inb : ∀ a, (![0, n] : Fin 2 → ℕ) a + (![512, 128] : Fin 2 → ℕ) a ≤ S512x1024.size a) (h : Fin 8) (hn : n = h.val * 128) (i : Fin 512) (k : Fin 128) :
    (View.ld b (Rect.unit (s := S512x1024) ![0, n] ![512, 128] inb) : S512x128.Idx → EReal) (ix2 i k) = b (ix2 i (column h k)) := by
  subst hn
  pointwise [column]

/-- The payload of a head, from the blocks of all heads. -/
theorem pay_load (o z : Vec Ideal S512x1024 .f32) (w : Vec Ideal S1x128 .f32) (n : ℕ) (inb : ∀ a, (![0, n] : Fin 2 → ℕ) a + (![512, 128] : Fin 2 → ℕ) a ≤ S512x1024.size a) (h : Fin 8) (hn : n = h.val * 128)
    (i : Fin 512) (k : Fin 128) :
    k0_pay2 (F := Ideal) (View.ld o (Rect.unit (s := S512x1024) ![0, n] ![512, 128] inb)) w (View.ld z (Rect.unit (s := S512x1024) ![0, n] ![512, 128] inb)) (ix2 i k)
      = ended (fun k => o (ix2 i (column h k))) (fun k => w (ix2 (0 : Fin 1) k)) (fun k => z (ix2 i (column h k))) k := by
  refine (pay _ _ _ i k).trans ?_
  simp only [load o n inb h hn, load z n inb h hn]

theorem step (t : Fin cfg0.N) (i : Fin 512) (h : Fin 8) (k : Fin 128) : outsAt0 m c t (ix2 i (column h k))
    = ended (fun k => (iblk m c 0 t : S512x1024.Idx → EReal) (ix2 i (column h k))) (fun k => (iblk m c 2 t : S1x128.Idx → EReal) (ix2 (0 : Fin 1) k)) (fun k => (X0_1 m c t : S512x1024.Idx → EReal) (ix2 i (column h k))) k := by
  unfold outsAt0
  generalize iblk m c 0 t = b0, X0_1 m c t = b1, iblk m c 2 t = b2
  frame_open
  frame_out
  canon_tiles x q
  all_goals
    idx_vars x
    have e0 : x0 = i := by have := q0; simp [ix2] at this; omega
    subst e0
    have e1 := q1
    simp [ix2, column] at e1
    have ek : x1 = k := by omega
    subst ek
    exact pay_load b0 b1 b2 _ _ h (by omega) _ _

theorem index : ∀ t : Fin cfg0.N, win0_0.index t = ![t.val, 0] ∧ win0_1.index t = ![t.val, 3] ∧ win0_2.index t = ![0, 0] ∧ win0_3.index t = ![t.val, 0] :=
  (by decide +kernel : ∀ t : Fin grid0.N, win0_0.index t = ![t.val, 0] ∧ win0_1.index t = ![t.val, 3] ∧ win0_2.index t = ![0, 0] ∧ win0_3.index t = ![t.val, 0])

theorem point_lt (t : Fin cfg0.N) : t.val < 4 := t.isLt

/-- The host gives the weight as one row. -/
theorem weight (k : Fin 128) : (V m c main_v0 : S1x128.Idx → EReal) (ix2 (0 : Fin 1) k) = m ((c : Thread nD τ).loc main_arg2) (ix1 k) := by
  after_reads_at

theorem value (o : S2048x1024.Idx → EReal) (z : S2048x13440.Idx → EReal) (w : S128.Idx → EReal) (i : Fin 2048) (h : Fin 8) (k : Fin 128) : val_main_v19 (F := Ideal) o z w (ix2 i (column h k))
    = ended (fun k => o (ix2 i (column h k))) (fun k => w (ix1 k)) (fun k => z (ix2 i (gate (column h k)))) k := by
  pointwise [val_main_v19, val_main_v18, val_main_v17, val_main_v15, val_main_v12, val_main_v2, val_main_v11, val_main_v10, val_main_v9, val_main_v7, val_main_v5, val_main_v4, val_main_v3, val_main_cst, val_main_v6, val_main_cst_0, val_main_v8, val_main_cst_1, val_main_v14, val_main_v13, val_main_v16, val_main_v1, val_main_v0, val_main_call0_v5, val_main_call0_v4, val_main_call0_cst_0, val_main_call0_v3, val_main_call0_v2, val_main_call0_cst, val_main_call0_v1, val_main_call0_v0, ended, factor, column, gate, Ideal.logistic]

theorem array : (dats m 0 c).arrAt 3 cfg0.N = (val_main_v19 (F := Ideal) (m ((c : Thread nD τ).loc main_arg0)) (m ((c : Thread nD τ).loc main_arg1)) (m ((c : Thread nD τ).loc main_arg2)) : S2048x1024.Idx → EReal) := by
  refine (dats m 0 c).arrAt_eq_of_covers 3 _ (by decide +kernel) fun t hf y => ?_
  blk_simp
  rw [after0_3]
  have ht := point_lt t
  obtain ⟨i, h, k, rfl⟩ : ∃ (i : Fin 512) (h : Fin 8) (k : Fin 128), y = ix2 i (column h k) := by
    have hy : (y 1).val < 1024 := (y 1).isLt
    refine ⟨y 0, ⟨(y 1).val / 128, by omega⟩, ⟨(y 1).val % 128, by omega⟩, ?_⟩
    ext a
    fin_cases a
    · rfl
    · show (y 1).val = (y 1).val / 128 * 128 + (y 1).val % 128
      omega
  obtain ⟨i0, i1, i2, i3⟩ := index t
  obtain ⟨r, hr⟩ : ∃ r : Fin 2048, r.val = t.val * 512 + i.val := ⟨⟨_, by omega⟩, rfl⟩
  have he : (win0_3.blk t).view.emb (ix2 i (column h k)) = ix2 r (column h k) := by
    blk_ext [i3, hr]
  have ho (k : Fin 128) : (iblk m c 0 t : S512x1024.Idx → EReal) (ix2 i (column h k)) = m ((c : Thread nD τ).loc main_arg0) (ix2 r (column h k)) := by
    blk_ext [iblk, V_main_arg0, i0, hr]
  have hz (k : Fin 128) : (X0_1 m c t : S512x1024.Idx → EReal) (ix2 i (column h k)) = m ((c : Thread nD τ).loc main_arg1) (ix2 r (gate (column h k))) := by
    unfold X0_1 Pipeline.Window.fill
    rw [dif_pos (moved0_1 t _)]
    blk_ext [iblk, V_main_arg1, i1, gate, hr]
  have hw (k : Fin 128) : (iblk m c 2 t : S1x128.Idx → EReal) (ix2 (0 : Fin 1) k) = m ((c : Thread nD τ).loc main_arg2) (ix1 k) := by
    rw [← weight m c k]
    blk_ext [iblk, i2]
  rw [he, value, step m c t]
  simp only [ho, hz, hw]

/-- The frames, as printed, idealized, and the reference's. -/
theorem frame_k : quiescent_Kernel29 := fun m ρ _ => Kernel29.Gen.frame m ρ
theorem frame_i : quiescent_Kernel29Ideal := fun m ρ _ => frame m ρ
theorem frame_r : quiescent_Reference29Ideal := fun m ρ _ =>
  (θ_run Reference29Ideal.defs _ _).mono (fun r h => ⟨fun c => (h c).2, sem_eq_zero_of_no_sems (by decide) r.2⟩) (Reference29Ideal.Value.run m ρ)

theorem same : preserves_Kernel29_Kernel29Ideal := trivial

/-- The call's array is the reference's. -/
theorem equal : algebraic_Kernel29Ideal_Reference29Ideal := by
  intro m g m' g' hp ha
  refine ⟨_, Value.run_blocks m g, (θ_run Reference29Ideal.defs _ _).mono (fun r h c => ?_) (Reference29Ideal.Value.run m' g')⟩
  obtain ⟨a0, a1, a2⟩ := ha c
  obtain ⟨h0, k⟩ := h c
  refine ⟨h0.trans ?_, k⟩
  rw [Reference29Ideal.Read.val_main_v19_eq, a0, a1, a2]
  exact (array m c).symm

end Cert.DeltaPost

end
-- ==== Proof.Adam.lean ====
/-
  The optimiser's step for the small weights: one grid step handles all of the packed numbers, each by itself.
-/
module

public import proofs.«01_k».proof.Defs
public import proofs.«01_k».proof.Proof.Gen.Kernel30.Frame
public import proofs.«01_k».proof.Proof.Gen.Kernel30Ideal.Value
public import proofs.«01_k».proof.Proof.Gen.Reference30Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.Adam

open Idealize.ShloMosaic Idealize.SL.Sem Idealize.ShloMosaic.TcCoe Cert.Kernel30Ideal Cert.Kernel30Ideal.Gen
open Reference30Ideal.Read (val_main_v23 val_main_v22 val_main_cst_7 val_main_v21 val_main_v18 val_main_v12 val_main_v4 val_main_v1 val_main_v0 val_main_cst val_main_v3 val_main_v2 val_main_cst_0 val_main_v11 val_main_cst_3 val_main_v17 val_main_v15 val_main_v14 val_main_v10 val_main_v6 val_main_v5 val_main_cst_1 val_main_v9 val_main_v8 val_main_cst_2 val_main_v7 val_main_v13 val_main_cst_4 val_main_v16 val_main_cst_5 val_main_v20 val_main_v19 val_main_cst_6)

/-! ## One number -/

/-- The new means of the gradient and of its square. -/
def mean (g m : EReal) : EReal := Ideal.ofBits .f32 0x3F666666#32 * m + Ideal.ofBits .f32 0x3DCCCCCD#32 * g
def spread (g v : EReal) : EReal := Ideal.ofBits .f32 0x3F7FBE77#32 * v + Ideal.ofBits .f32 0x3A83126F#32 * (g * g)

/-- The weight's change. -/
def change (w g m v : EReal) : EReal := Ideal.ofBits .f32 0xBA83126F#32
  * (Ideal.div (Ideal.div (mean g m) (Ideal.ofBits .f32 0x3F26BD02#32)) (Ideal.sqrt (Ideal.div (spread g v) (Ideal.ofBits .f32 0x3C231ACC#32)) + Ideal.ofBits .f32 0x322BCC77#32)
    + Ideal.ofBits .f32 0x3C23D70A#32 * w)

/-! ## The packed numbers -/

variable (m : (ℓ : Loc nD τ sig) → Buf (Elt Ideal) ℓ) (c : Dev nD)

abbrev Pack := S144x128.Idx → EReal

theorem pay_mean (g p : Vec Ideal S144x128 .f32) (i : Fin 144) (j : Fin 128) : k0_pay1 (F := Ideal) g p (ix2 i j) = mean (g (ix2 i j)) (p (ix2 i j)) := by
  pointwise [k0_pay1, mean]

theorem pay_spread (g p : Vec Ideal S144x128 .f32) (i : Fin 144) (j : Fin 128) : k0_pay2 (F := Ideal) g p (ix2 i j) = spread (g (ix2 i j)) (p (ix2 i j)) := by
  pointwise [k0_pay2, spread]

theorem pay_change (w g p q : Vec Ideal S144x128 .f32) (i : Fin 144) (j : Fin 128) : k0_pay3 (F := Ideal) w g p q (ix2 i j) = change (w (ix2 i j)) (g (ix2 i j)) (p (ix2 i j)) (q (ix2 i j)) := by
  pointwise [k0_pay3, k0_pay2, k0_pay1, change, mean, spread]

theorem value_mean (g p : Pack) (i : Fin 144) (j : Fin 128) : val_main_v4 (F := Ideal) g p (ix2 i j) = mean (g (ix2 i j)) (p (ix2 i j)) := by
  pointwise [val_main_v4, val_main_v1, val_main_v0, val_main_cst, val_main_v3, val_main_v2, val_main_cst_0, mean]

theorem value_spread (g p : Pack) (i : Fin 144) (j : Fin 128) : val_main_v10 (F := Ideal) g p (ix2 i j) = spread (g (ix2 i j)) (p (ix2 i j)) := by
  pointwise [val_main_v10, val_main_v6, val_main_v5, val_main_cst_1, val_main_v9, val_main_v8, val_main_cst_2, val_main_v7, spread]

theorem value_change (w g p q : Pack) (i : Fin 144) (j : Fin 128) : val_main_v23 (F := Ideal) w g p q (ix2 i j) = change (w (ix2 i j)) (g (ix2 i j)) (p (ix2 i j)) (q (ix2 i j)) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, change, mean, spread]

theorem step_mean (w g p q : Vec Ideal S144x128 .f32) : out0_5 w g p q = k0_pay1 g p := by
  unfold out0_5
  frame_out

theorem step_spread (w g p q : Vec Ideal S144x128 .f32) : out0_6 w g p q = k0_pay2 g q := by
  unfold out0_6
  frame_out

theorem step_change (w g p q : Vec Ideal S144x128 .f32) : out0_4 w g p q = k0_pay3 w g p q := by
  unfold out0_4
  frame_out

theorem index : ∀ t : Fin cfg0.N, (win0_0.index t = ![0, 0] ∧ win0_1.index t = ![0, 0] ∧ win0_2.index t = ![0, 0] ∧ win0_3.index t = ![0, 0])
    ∧ win0_4.index t = ![0, 0] ∧ win0_5.index t = ![0, 0] ∧ win0_6.index t = ![0, 0] :=
  (by decide +kernel : ∀ t : Fin grid0.N, (win0_0.index t = ![0, 0] ∧ win0_1.index t = ![0, 0] ∧ win0_2.index t = ![0, 0] ∧ win0_3.index t = ![0, 0])
    ∧ win0_4.index t = ![0, 0] ∧ win0_5.index t = ![0, 0] ∧ win0_6.index t = ![0, 0])

theorem block_w (t : Fin cfg0.N) (i : Fin 144) (j : Fin 128) : (iblk m c 0 t : Pack) (ix2 i j) = m ((c : Thread nD τ).loc main_arg0) (ix2 i j) := by
  blk_ext [iblk, V_main_arg0, (index t).1.1]
theorem block_g (t : Fin cfg0.N) (i : Fin 144) (j : Fin 128) : (iblk m c 1 t : Pack) (ix2 i j) = m ((c : Thread nD τ).loc main_arg1) (ix2 i j) := by
  blk_ext [iblk, V_main_arg1, (index t).1.2.1]
theorem block_m (t : Fin cfg0.N) (i : Fin 144) (j : Fin 128) : (iblk m c 2 t : Pack) (ix2 i j) = m ((c : Thread nD τ).loc main_arg2) (ix2 i j) := by
  blk_ext [iblk, V_main_arg2, (index t).1.2.2.1]
theorem block_v (t : Fin cfg0.N) (i : Fin 144) (j : Fin 128) : (iblk m c 3 t : Pack) (ix2 i j) = m ((c : Thread nD τ).loc main_arg3) (ix2 i j) := by
  blk_ext [iblk, V_main_arg3, (index t).1.2.2.2]

theorem entry (y : S144x128.Idx) : ∃ (i : Fin 144) (j : Fin 128), y = ix2 i j := ⟨y 0, y 1, by ext a; fin_cases a <;> rfl⟩

theorem array0 : (dats m 0 c).arrAt 4 cfg0.N = (val_main_v23 (F := Ideal) (m ((c : Thread nD τ).loc main_arg0)) (m ((c : Thread nD τ).loc main_arg1)) (m ((c : Thread nD τ).loc main_arg2)) (m ((c : Thread nD τ).loc main_arg3)) : Pack) := by
  refine (dats m 0 c).arrAt_eq_of_covers 4 _ (by decide +kernel) fun t hf y => ?_
  blk_simp
  rw [after0_4]
  obtain ⟨i, j, rfl⟩ := entry y
  have he : (win0_4.blk t).view.emb (ix2 i j) = ix2 i j := by
    blk_ext [(index t).2.1]
  rw [he, step_change, value_change]
  refine (pay_change _ _ _ _ i j).trans ?_
  simp only [block_w, block_g, block_m, block_v]

theorem array1 : (dats m 0 c).arrAt 5 cfg0.N = (val_main_v4 (F := Ideal) (m ((c : Thread nD τ).loc main_arg1)) (m ((c : Thread nD τ).loc main_arg2)) : Pack) := by
  refine (dats m 0 c).arrAt_eq_of_covers 5 _ (by decide +kernel) fun t hf y => ?_
  blk_simp
  rw [after0_5]
  obtain ⟨i, j, rfl⟩ := entry y
  have he : (win0_5.blk t).view.emb (ix2 i j) = ix2 i j := by
    blk_ext [(index t).2.2.1]
  rw [he, step_mean, value_mean]
  refine (pay_mean _ _ i j).trans ?_
  simp only [block_g, block_m]

theorem array2 : (dats m 0 c).arrAt 6 cfg0.N = (val_main_v10 (F := Ideal) (m ((c : Thread nD τ).loc main_arg1)) (m ((c : Thread nD τ).loc main_arg3)) : Pack) := by
  refine (dats m 0 c).arrAt_eq_of_covers 6 _ (by decide +kernel) fun t hf y => ?_
  blk_simp
  rw [after0_6]
  obtain ⟨i, j, rfl⟩ := entry y
  have he : (win0_6.blk t).view.emb (ix2 i j) = ix2 i j := by
    blk_ext [(index t).2.2.2]
  rw [he, step_spread, value_spread]
  refine (pay_spread _ _ i j).trans ?_
  simp only [block_g, block_v]

/-- The frames, as printed, idealized, and the reference's. -/
theorem frame_k : quiescent_Kernel30 := fun m ρ _ => Kernel30.Gen.frame m ρ
theorem frame_i : quiescent_Kernel30Ideal := fun m ρ _ => frame m ρ
theorem frame_r : quiescent_Reference30Ideal := fun m ρ _ =>
  (θ_run Reference30Ideal.defs _ _).mono (fun r h => ⟨fun c => (h c).2.2.2, sem_eq_zero_of_no_sems (by decide) r.2⟩) (Reference30Ideal.Value.run m ρ)

theorem same : preserves_Kernel30_Kernel30Ideal := trivial

/-- The three arrays of the call are the reference's. -/
theorem equal : algebraic_Kernel30Ideal_Reference30Ideal := by
  intro m g m' g' hp ha
  refine ⟨_, _, _, Value.run_blocks m g, (θ_run Reference30Ideal.defs _ _).mono (fun r h c => ?_) (Reference30Ideal.Value.run m' g')⟩
  obtain ⟨a0, a1, a2, a3⟩ := ha c
  obtain ⟨h0, h1, h2, k⟩ := h c
  refine ⟨h0.trans ?_, h1.trans ?_, h2.trans ?_, k⟩
  · rw [Reference30Ideal.Read.val_main_v23_eq, a0, a1, a2, a3]
    exact (array0 m c).symm
  · rw [Reference30Ideal.Read.val_main_v4_eq, a1, a2]
    exact (array1 m c).symm
  · rw [Reference30Ideal.Read.val_main_v10_eq, a1, a3]
    exact (array2 m c).symm

end Cert.Adam

end
-- ==== Proof.AdamSum.lean ====
/-
  The sum of the eight devices' gradients of the first layer's w_in, and the optimiser's step with it. A grid step handles 256 rows of the
  first layer; the second layer's results are those that the call is given.
-/
module

public import proofs.«01_k».proof.Defs
public import proofs.«01_k».proof.Proof.Adam
public import proofs.«01_k».proof.Proof.Gen.Kernel31.Frame
public import proofs.«01_k».proof.Proof.Gen.Kernel31Ideal.Value
public import proofs.«01_k».proof.Proof.Gen.Reference31Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.AdamSum

open Idealize.ShloMosaic Idealize.SL.Sem Idealize.ShloMosaic.TcCoe Cert.Kernel31Ideal Cert.Kernel31Ideal.Gen
open Adam (mean spread change)
open Reference31Ideal.Read (val_main_v36 val_main_v34 val_main_v1 val_main_v0 val_main_cst val_main_v35 val_main_v33 val_main_v32 val_main_v41 val_main_v39 val_main_v31 val_main_v30 val_main_cst_8 val_main_v29 val_main_v26 val_main_v20 val_main_v12 val_main_v9 val_main_v8 val_main_cst_0 val_main_v5 val_main_v4 val_main_v11 val_main_v10 val_main_cst_1 val_main_v19 val_main_cst_4 val_main_v25 val_main_v23 val_main_v22 val_main_v18 val_main_v14 val_main_v13 val_main_cst_2 val_main_v7 val_main_v6 val_main_v17 val_main_v16 val_main_cst_3 val_main_v15 val_main_v21 val_main_cst_5 val_main_v24 val_main_cst_6 val_main_v28 val_main_v27 val_main_cst_7 val_main_v3 val_main_v2 val_main_v40 val_main_v38 val_main_v37 val_main_v46 val_main_v44 val_main_v45 val_main_v43 val_main_v42 val_main_v51 val_main_v49 val_main_v50 val_main_v48 val_main_v47)

/-- The devices' gradients, the two layers. -/
abbrev Parts := S8x1024x1668.Idx → EReal
abbrev Layers := S2x1024x1668.Idx → EReal

/-- The sum of the devices' gradients. -/
def total (p : Parts) (i : Fin 1024) (j : Fin 1668) : EReal := ∑ k : Fin 8, p (ix3 k i j)

/-- A first layer, with a second layer as it was given. -/
def layers (f : Fin 1024 → Fin 1668 → EReal) (later : Layers) : Layers := fun y => if (y 0).val / 1 < 1 then f (y 1) (y 2) else later y

/-! ## A step -/

variable (m : (ℓ : Loc nD τ sig) → Buf (Elt Ideal) ℓ) (c : Dev nD) (t : Fin cfg0.N)

/-- The sum of a step's blocks. -/
def added (b : Vec Ideal S8x1x256x1668 .bf16) (i : Fin 256) (j : Fin 1668) : EReal := ∑ k : Fin 8, b (ix4 k (0 : Fin 1) i j)

theorem step_g (i : Fin 256) (j : Fin 1668) : (outsAt0 m c t).1 (ix3 (0 : Fin 1) i j) = added (iblk m c 0 t) i j := by
  unfold outsAt0
  generalize iblk m c 0 t = b0, iblk m c 1 t = b1, iblk m c 2 t = b2, iblk m c 3 t = b3
  frame_open
  frame_out
  rw [added, Fin.sum_univ_eight]
  pointwise [k0_pay9, k0_pay5, k0_pay4]

theorem step_change (i : Fin 256) (j : Fin 1668) : (outsAt0 m c t).2.1 (ix3 (0 : Fin 1) i j)
    = change ((iblk m c 1 t : S1x256x1668.Idx → EReal) (ix3 (0 : Fin 1) i j)) (added (iblk m c 0 t) i j) ((iblk m c 2 t : S1x256x1668.Idx → EReal) (ix3 (0 : Fin 1) i j)) ((iblk m c 3 t : S1x256x1668.Idx → EReal) (ix3 (0 : Fin 1) i j)) := by
  unfold outsAt0
  generalize iblk m c 0 t = b0, iblk m c 1 t = b1, iblk m c 2 t = b2, iblk m c 3 t = b3
  frame_open
  frame_out
  rw [added, Fin.sum_univ_eight]
  pointwise [k0_pay1, k0_pay8, k0_pay7, k0_pay6, k0_pay5, k0_pay4, change, mean, spread]

theorem step_mean (i : Fin 256) (j : Fin 1668) : (outsAt0 m c t).2.2.1 (ix3 (0 : Fin 1) i j)
    = mean (added (iblk m c 0 t) i j) ((iblk m c 2 t : S1x256x1668.Idx → EReal) (ix3 (0 : Fin 1) i j)) := by
  unfold outsAt0
  generalize iblk m c 0 t = b0, iblk m c 1 t = b1, iblk m c 2 t = b2, iblk m c 3 t = b3
  frame_open
  frame_out
  rw [added, Fin.sum_univ_eight]
  pointwise [k0_pay2, k0_pay6, k0_pay5, k0_pay4, mean]

theorem step_spread (i : Fin 256) (j : Fin 1668) : (outsAt0 m c t).2.2.2 (ix3 (0 : Fin 1) i j)
    = spread (added (iblk m c 0 t) i j) ((iblk m c 3 t : S1x256x1668.Idx → EReal) (ix3 (0 : Fin 1) i j)) := by
  unfold outsAt0
  generalize iblk m c 0 t = b0, iblk m c 1 t = b1, iblk m c 2 t = b2, iblk m c 3 t = b3
  frame_open
  frame_out
  rw [added, Fin.sum_univ_eight]
  pointwise [k0_pay3, k0_pay7, k0_pay5, k0_pay4, spread]

/-! ## The blocks -/

theorem index : ∀ t : Fin cfg0.N, (win0_0.index t = ![0, 0, t.val, 0] ∧ win0_1.index t = ![0, t.val, 0] ∧ win0_2.index t = ![0, t.val, 0] ∧ win0_3.index t = ![0, t.val, 0])
    ∧ (win0_4.index t = ![0, t.val, 0] ∧ win0_5.index t = ![0, t.val, 0] ∧ win0_6.index t = ![0, t.val, 0] ∧ win0_7.index t = ![0, t.val, 0]) :=
  (by decide +kernel : ∀ t : Fin grid0.N, (win0_0.index t = ![0, 0, t.val, 0] ∧ win0_1.index t = ![0, t.val, 0] ∧ win0_2.index t = ![0, t.val, 0] ∧ win0_3.index t = ![0, t.val, 0])
    ∧ (win0_4.index t = ![0, t.val, 0] ∧ win0_5.index t = ![0, t.val, 0] ∧ win0_6.index t = ![0, t.val, 0] ∧ win0_7.index t = ![0, t.val, 0]))

/-- Row i of step t. -/
def place (t : Fin cfg0.N) (i : Fin 256) : Fin 1024 := ⟨t.val * 256 + i.val, by have : t.val < 4 := t.isLt; omega⟩

/-- The host gives the devices' gradients with an axis of one layer. -/
theorem given (k : Fin 8) (i : Fin 1024) (j : Fin 1668) : (V m c main_v0 : S8x1x1024x1668.Idx → EReal) (ix4 k (0 : Fin 1) i j) = m ((c : Thread nD τ).loc main_arg0) (ix3 k i j) := by
  after_reads_at

theorem block_g (i : Fin 256) (j : Fin 1668) : added (iblk m c 0 t) i j = total (m ((c : Thread nD τ).loc main_arg0)) (place t i) j := by
  refine Finset.sum_congr rfl fun k _ => ?_
  rw [← given m c k (place t i) j]
  blk_ext [iblk, (index t).1.1, place]

theorem block_w (i : Fin 256) (j : Fin 1668) : (iblk m c 1 t : S1x256x1668.Idx → EReal) (ix3 (0 : Fin 1) i j) = m ((c : Thread nD τ).loc main_arg1) (ix3 (0 : Fin 2) (place t i) j) := by
  blk_ext [iblk, V_main_arg1, (index t).1.2.1, place]
theorem block_m (i : Fin 256) (j : Fin 1668) : (iblk m c 2 t : S1x256x1668.Idx → EReal) (ix3 (0 : Fin 1) i j) = m ((c : Thread nD τ).loc main_arg2) (ix3 (0 : Fin 2) (place t i) j) := by
  blk_ext [iblk, V_main_arg2, (index t).1.2.2.1, place]
theorem block_v (i : Fin 256) (j : Fin 1668) : (iblk m c 3 t : S1x256x1668.Idx → EReal) (ix3 (0 : Fin 1) i j) = m ((c : Thread nD τ).loc main_arg3) (ix3 (0 : Fin 2) (place t i) j) := by
  blk_ext [iblk, V_main_arg3, (index t).1.2.2.2, place]

/-- The call finds in its results the arrays that it was given. -/
theorem entry0 : V m c main_v1_0 = m ((c : Thread nD τ).loc main_arg4) := by
  funext y
  after_reads_at
  rfl
theorem entry1 : V m c main_v1_1 = m ((c : Thread nD τ).loc main_arg5) := by
  funext y
  after_reads_at
  rfl
theorem entry2 : V m c main_v1_2 = m ((c : Thread nD τ).loc main_arg6) := by
  funext y
  after_reads_at
  rfl
theorem entry3 : V m c main_v1_3 = m ((c : Thread nD τ).loc main_arg7) := by
  funext y
  after_reads_at
  rfl

/-! ## The reference -/

theorem value_g (p : Parts) (later : Layers) : val_main_v36 (F := Ideal) p later = layers (total p) later := by
  funext y
  obtain ⟨l, i, j, rfl⟩ : ∃ (l : Fin 2) (i : Fin 1024) (j : Fin 1668), y = ix3 l i j := ⟨y 0, y 1, y 2, by ext a; fin_cases a <;> rfl⟩
  fin_cases l
  · pointwise [val_main_v36, val_main_v34, val_main_v1, val_main_v0, val_main_cst, val_main_v35, val_main_v33, val_main_v32, layers, total]
  · pointwise [val_main_v36, val_main_v34, val_main_v1, val_main_v0, val_main_cst, val_main_v35, val_main_v33, val_main_v32, layers]

theorem value_change (p : Parts) (w q r later : Layers) : val_main_v41 (F := Ideal) p w q r later
    = layers (fun i j => change (w (ix3 (0 : Fin 2) i j)) (total p i j) (q (ix3 (0 : Fin 2) i j)) (r (ix3 (0 : Fin 2) i j))) later := by
  funext y
  obtain ⟨l, i, j, rfl⟩ : ∃ (l : Fin 2) (i : Fin 1024) (j : Fin 1668), y = ix3 l i j := ⟨y 0, y 1, y 2, by ext a; fin_cases a <;> rfl⟩
  fin_cases l
  · pointwise [val_main_v41, val_main_v39, val_main_v31, val_main_v30, val_main_cst_8, val_main_v29, val_main_v26, val_main_v20, val_main_v12, val_main_v9, val_main_v8, val_main_cst_0, val_main_v5, val_main_v4, val_main_v11, val_main_v10, val_main_cst_1, val_main_v1, val_main_v0, val_main_cst, val_main_v19, val_main_cst_4, val_main_v25, val_main_v23, val_main_v22, val_main_v18, val_main_v14, val_main_v13, val_main_cst_2, val_main_v7, val_main_v6, val_main_v17, val_main_v16, val_main_cst_3, val_main_v15, val_main_v21, val_main_cst_5, val_main_v24, val_main_cst_6, val_main_v28, val_main_v27, val_main_cst_7, val_main_v3, val_main_v2, val_main_v40, val_main_v38, val_main_v37, layers, change, mean, spread, total]
  · pointwise [val_main_v41, val_main_v39, val_main_v31, val_main_v30, val_main_cst_8, val_main_v29, val_main_v26, val_main_v20, val_main_v12, val_main_v9, val_main_v8, val_main_cst_0, val_main_v5, val_main_v4, val_main_v11, val_main_v10, val_main_cst_1, val_main_v1, val_main_v0, val_main_cst, val_main_v19, val_main_cst_4, val_main_v25, val_main_v23, val_main_v22, val_main_v18, val_main_v14, val_main_v13, val_main_cst_2, val_main_v7, val_main_v6, val_main_v17, val_main_v16, val_main_cst_3, val_main_v15, val_main_v21, val_main_cst_5, val_main_v24, val_main_cst_6, val_main_v28, val_main_v27, val_main_cst_7, val_main_v3, val_main_v2, val_main_v40, val_main_v38, val_main_v37, layers]

theorem value_mean (p : Parts) (q later : Layers) : val_main_v46 (F := Ideal) p q later
    = layers (fun i j => mean (total p i j) (q (ix3 (0 : Fin 2) i j))) later := by
  funext y
  obtain ⟨l, i, j, rfl⟩ : ∃ (l : Fin 2) (i : Fin 1024) (j : Fin 1668), y = ix3 l i j := ⟨y 0, y 1, y 2, by ext a; fin_cases a <;> rfl⟩
  fin_cases l
  · pointwise [val_main_v46, val_main_v44, val_main_v12, val_main_v9, val_main_v8, val_main_cst_0, val_main_v5, val_main_v4, val_main_v11, val_main_v10, val_main_cst_1, val_main_v1, val_main_v0, val_main_cst, val_main_v45, val_main_v43, val_main_v42, layers, mean, total]
  · pointwise [val_main_v46, val_main_v44, val_main_v12, val_main_v9, val_main_v8, val_main_cst_0, val_main_v5, val_main_v4, val_main_v11, val_main_v10, val_main_cst_1, val_main_v1, val_main_v0, val_main_cst, val_main_v45, val_main_v43, val_main_v42, layers]

theorem value_spread (p : Parts) (r later : Layers) : val_main_v51 (F := Ideal) p r later
    = layers (fun i j => spread (total p i j) (r (ix3 (0 : Fin 2) i j))) later := by
  funext y
  obtain ⟨l, i, j, rfl⟩ : ∃ (l : Fin 2) (i : Fin 1024) (j : Fin 1668), y = ix3 l i j := ⟨y 0, y 1, y 2, by ext a; fin_cases a <;> rfl⟩
  fin_cases l
  · pointwise [val_main_v51, val_main_v49, val_main_v18, val_main_v14, val_main_v13, val_main_cst_2, val_main_v7, val_main_v6, val_main_v17, val_main_v16, val_main_cst_3, val_main_v15, val_main_v1, val_main_v0, val_main_cst, val_main_v50, val_main_v48, val_main_v47, layers, spread, total]
  · pointwise [val_main_v51, val_main_v49, val_main_v18, val_main_v14, val_main_v13, val_main_cst_2, val_main_v7, val_main_v6, val_main_v17, val_main_v16, val_main_cst_3, val_main_v15, val_main_v1, val_main_v0, val_main_cst, val_main_v50, val_main_v48, val_main_v47, layers]

/-! ## The results -/

theorem array0 : (dats m 0 c).arrAt 4 cfg0.N = layers (fun i j => total (m ((c : Thread nD τ).loc main_arg0)) i j) (m ((c : Thread nD τ).loc main_arg4)) := by
  rw [← entry0 m c]
  refine (dats m 0 c).arrAt_eq_of_coversWhere 4 (fun y : S2x1024x1668.Idx => (fun i j => total (m ((c : Thread nD τ).loc main_arg0)) i j) (y 1) (y 2)) (fun β => β (0 : Fin 3) < 1) (by decide +kernel) (fun t hf y => ?_) fun j => Iff.rfl
  rw [after0_4]
  obtain ⟨i, j, rfl⟩ : ∃ (i : Fin 256) (j : Fin 1668), y = ix3 (0 : Fin 1) i j := ⟨y 1, y 2, by ext a; fin_cases a; exacts [by simpa using (y 0).isLt, rfl, rfl]⟩
  have he : (win0_4.blk t).view.emb (ix3 (0 : Fin 1) i j) = ix3 (0 : Fin 2) (place t i) j := by
    blk_ext [(index t).2.1, place]
  rw [he]
  refine (step_g m c t i j).trans ?_
  rw [block_g]
  rfl

theorem array1 : (dats m 0 c).arrAt 5 cfg0.N = layers (fun i j => change (m ((c : Thread nD τ).loc main_arg1) (ix3 (0 : Fin 2) i j)) (total (m ((c : Thread nD τ).loc main_arg0)) i j) (m ((c : Thread nD τ).loc main_arg2) (ix3 (0 : Fin 2) i j)) (m ((c : Thread nD τ).loc main_arg3) (ix3 (0 : Fin 2) i j))) (m ((c : Thread nD τ).loc main_arg5)) := by
  rw [← entry1 m c]
  refine (dats m 0 c).arrAt_eq_of_coversWhere 5 (fun y : S2x1024x1668.Idx => (fun i j => change (m ((c : Thread nD τ).loc main_arg1) (ix3 (0 : Fin 2) i j)) (total (m ((c : Thread nD τ).loc main_arg0)) i j) (m ((c : Thread nD τ).loc main_arg2) (ix3 (0 : Fin 2) i j)) (m ((c : Thread nD τ).loc main_arg3) (ix3 (0 : Fin 2) i j))) (y 1) (y 2)) (fun β => β (0 : Fin 3) < 1) (by decide +kernel) (fun t hf y => ?_) fun j => Iff.rfl
  rw [after0_5]
  obtain ⟨i, j, rfl⟩ : ∃ (i : Fin 256) (j : Fin 1668), y = ix3 (0 : Fin 1) i j := ⟨y 1, y 2, by ext a; fin_cases a; exacts [by simpa using (y 0).isLt, rfl, rfl]⟩
  have he : (win0_5.blk t).view.emb (ix3 (0 : Fin 1) i j) = ix3 (0 : Fin 2) (place t i) j := by
    blk_ext [(index t).2.2.1, place]
  rw [he]
  refine (step_change m c t i j).trans ?_
  rw [block_g, block_w, block_m, block_v]
  rfl

theorem array2 : (dats m 0 c).arrAt 6 cfg0.N = layers (fun i j => mean (total (m ((c : Thread nD τ).loc main_arg0)) i j) (m ((c : Thread nD τ).loc main_arg2) (ix3 (0 : Fin 2) i j))) (m ((c : Thread nD τ).loc main_arg6)) := by
  rw [← entry2 m c]
  refine (dats m 0 c).arrAt_eq_of_coversWhere 6 (fun y : S2x1024x1668.Idx => (fun i j => mean (total (m ((c : Thread nD τ).loc main_arg0)) i j) (m ((c : Thread nD τ).loc main_arg2) (ix3 (0 : Fin 2) i j))) (y 1) (y 2)) (fun β => β (0 : Fin 3) < 1) (by decide +kernel) (fun t hf y => ?_) fun j => Iff.rfl
  rw [after0_6]
  obtain ⟨i, j, rfl⟩ : ∃ (i : Fin 256) (j : Fin 1668), y = ix3 (0 : Fin 1) i j := ⟨y 1, y 2, by ext a; fin_cases a; exacts [by simpa using (y 0).isLt, rfl, rfl]⟩
  have he : (win0_6.blk t).view.emb (ix3 (0 : Fin 1) i j) = ix3 (0 : Fin 2) (place t i) j := by
    blk_ext [(index t).2.2.2.1, place]
  rw [he]
  refine (step_mean m c t i j).trans ?_
  rw [block_g, block_m]
  rfl

theorem array3 : (dats m 0 c).arrAt 7 cfg0.N = layers (fun i j => spread (total (m ((c : Thread nD τ).loc main_arg0)) i j) (m ((c : Thread nD τ).loc main_arg3) (ix3 (0 : Fin 2) i j))) (m ((c : Thread nD τ).loc main_arg7)) := by
  rw [← entry3 m c]
  refine (dats m 0 c).arrAt_eq_of_coversWhere 7 (fun y : S2x1024x1668.Idx => (fun i j => spread (total (m ((c : Thread nD τ).loc main_arg0)) i j) (m ((c : Thread nD τ).loc main_arg3) (ix3 (0 : Fin 2) i j))) (y 1) (y 2)) (fun β => β (0 : Fin 3) < 1) (by decide +kernel) (fun t hf y => ?_) fun j => Iff.rfl
  rw [after0_7]
  obtain ⟨i, j, rfl⟩ : ∃ (i : Fin 256) (j : Fin 1668), y = ix3 (0 : Fin 1) i j := ⟨y 1, y 2, by ext a; fin_cases a; exacts [by simpa using (y 0).isLt, rfl, rfl]⟩
  have he : (win0_7.blk t).view.emb (ix3 (0 : Fin 1) i j) = ix3 (0 : Fin 2) (place t i) j := by
    blk_ext [(index t).2.2.2.2, place]
  rw [he]
  refine (step_spread m c t i j).trans ?_
  rw [block_g, block_v]
  rfl

/-- The frames, as printed, idealized, and the reference's. -/
theorem frame_k : quiescent_Kernel31 := fun m ρ _ => Kernel31.Gen.frame m ρ
theorem frame_i : quiescent_Kernel31Ideal := fun m ρ _ => frame m ρ
theorem frame_r : quiescent_Reference31Ideal := fun m ρ _ =>
  (θ_run Reference31Ideal.defs _ _).mono (fun r h => ⟨fun c => (h c).2.2.2.2, sem_eq_zero_of_no_sems (by decide) r.2⟩) (Reference31Ideal.Value.run m ρ)

theorem same : preserves_Kernel31_Kernel31Ideal := trivial

/-- The four arrays of the call are the reference's. -/
theorem equal : algebraic_Kernel31Ideal_Reference31Ideal := by
  intro m g m' g' hp ha
  refine ⟨_, _, _, _, Value.run_blocks m g, (θ_run Reference31Ideal.defs _ _).mono (fun r h c => ?_) (Reference31Ideal.Value.run m' g')⟩
  obtain ⟨a0, a1, a2, a3, a4, a5, a6, a7⟩ := ha c
  obtain ⟨h0, h1, h2, h3, k⟩ := h c
  refine ⟨h0.trans ?_, h1.trans ?_, h2.trans ?_, h3.trans ?_, k⟩
  · rw [Reference31Ideal.Read.val_main_v36_eq, a0, a4, value_g]
    exact (array0 m c).symm
  · rw [Reference31Ideal.Read.val_main_v41_eq, a0, a1, a2, a3, a5, value_change]
    exact (array1 m c).symm
  · rw [Reference31Ideal.Read.val_main_v46_eq, a0, a2, a6, value_mean]
    exact (array2 m c).symm
  · rw [Reference31Ideal.Read.val_main_v51_eq, a0, a3, a7, value_spread]
    exact (array3 m c).symm

end Cert.AdamSum

end
-- ==== Proof.Conv.lean ====
/-
  A causal convolution of four taps along the rows, as the convolutions before the delta rule and the state-space mixer use it: the value
  at a row is made of the row's number and the numbers of the three rows before it, zero where there are none.
-/
module

public import proofs.«01_k».proof.Defs
public import Idealize.ShloMosaic.Lib.KernelVsHost
public import Idealize.ShloMosaic.Lib.WordCmp
public import Idealize.ShloMosaic.Lib.Pointwise

@[expose] public section

noncomputable section

namespace Cert.Conv

open Idealize.ShloMosaic

/-- The number k rows earlier. -/
def earlier (x : Fin 2048 → EReal) (k : ℕ) (i : Fin 2048) : EReal := if h : k ≤ i.val then x ⟨i.val - k, by omega⟩ else 0

/-- The convolution. -/
def taps (x : Fin 2048 → EReal) (w : Fin 4 → EReal) (i : Fin 2048) : EReal := earlier x 3 i * w 0 + earlier x 2 i * w 1 + earlier x 1 i * w 2 + x i * w 3

/-- y over 1 + exp (-y). -/
def silu (y : EReal) : EReal := y * Ideal.logistic y

/-- The same, added up from the last tap on. -/
theorem taps_last (x : Fin 2048 → EReal) (w : Fin 4 → EReal) (b : EReal) (i : Fin 2048) :
    w 3 * x i + b + w 2 * earlier x 1 i + w 1 * earlier x 2 i + w 0 * earlier x 3 i = taps x w i + b := by
  unfold taps
  rw [mul_comm (w 3), mul_comm (w 2), mul_comm (w 1), mul_comm (w 0)]
  generalize earlier x 3 i * w 0 = p, earlier x 2 i * w 1 = q, earlier x 1 i * w 2 = r, x i * w 3 = s
  abel

/-- The numbers rotated by k rows, and zero in the first k rows, are those k rows earlier. -/
theorem rotated (x : Fin 2048 → EReal) (a : EReal) (k : ℕ) (hk : k < 2048) (i : Fin 2048) (h : (i.val + 2048 - k) % 2048 < 2048) :
    Scalar.select (IntOp.cmpi .sge (BitVec.ofNat 32 i.val) (BitVec.ofNat 32 k)) (a * x ⟨(i.val + 2048 - k) % 2048, h⟩) 0 = a * earlier x k i := by
  have hi := i.isLt
  unfold earlier
  by_cases hc : k ≤ i.val
  · have e : IntOp.cmpi .sge (BitVec.ofNat 32 i.val) (BitVec.ofNat 32 k) = 1#1 := (WordCmp.cmpi_sge_ofNat_eq_one_iff (by norm_num; omega) (by norm_num; omega)).2 hc
    rw [e, ValueIdx.select_one, dif_pos hc]
    exact congrArg (fun q => a * x q) (Fin.ext (by dsimp only; omega))
  · have e : IntOp.cmpi .sge (BitVec.ofNat 32 i.val) (BitVec.ofNat 32 k) = 0#1 := (WordCmp.cmpi_sge_ofNat_eq_zero_iff (by norm_num; omega) (by norm_num; omega)).2 hc
    rw [e, ValueIdx.select_zero, dif_neg hc, mul_zero]

/-- The numbers with three rows of zeros before them, read three rows later less k. -/
theorem padded {n : ℕ} (x : (⟨2, ![2048, n]⟩ : Shape).Idx → EReal) {u : Shape} (v : u.Idx → EReal) (hp : (⟨2, ![2048, n]⟩ : Shape).Pads ![3, 0] ![0, 0] ![0, 0] ⟨2, ![2051, n]⟩)
    (hu : 0 < u.numel) (hv : v (Shape.Idx.first hu) = 0) (k : ℕ) (q : Fin 2051) (i : Fin 2048) (j : Fin n) (hq : q.val + k = i.val + 3) :
    pad ⟨2, ![2051, n]⟩ ![3, 0] ![0, 0] ![0, 0] x v hp hu (ix2 q j) = earlier (fun i => x (ix2 i j)) k i := by
  unfold earlier
  by_cases hc : k ≤ i.val
  · rw [dif_pos hc]
    refine pad_apply_of_inside _ _ _ _ _ _ _ _ (ix2 ⟨i.val - k, by omega⟩ j) fun a => ?_
    fin_cases a
    · show q.val = 3 + (i.val - k) * (0 + 1)
      omega
    · show j.val = 0 + j.val * (0 + 1)
      omega
  · rw [dif_neg hc, ← hv]
    refine pad_apply_of_not_inside _ _ _ _ _ _ _ _ (0 : Fin 2) fun a => ?_
    have h3 : 3 ≤ q.val := a.1
    omega

end Cert.Conv

end
-- ==== Proof.DeltaConv.lean ====
/-
  The convolution before the delta rule, with its silu. A grid step handles one head's 128 columns; those of the first 16 heads are
  divided by their norm.
-/
module

public import proofs.«01_k».proof.Defs
public import proofs.«01_k».proof.Proof.Conv
public import proofs.«01_k».proof.Proof.Gen.Kernel32.Frame
public import proofs.«01_k».proof.Proof.Gen.Kernel32Ideal.Value
public import proofs.«01_k».proof.Proof.Gen.Reference32Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DeltaConv

open Idealize.ShloMosaic Idealize.SL.Sem Idealize.ShloMosaic.TcCoe Cert.Kernel32Ideal Cert.Kernel32Ideal.Gen
open Conv (earlier taps silu)
open Reference32Ideal.Read (val_main_v44 val_main_v43 val_main_v41 val_main_v33 val_main_v32 val_main_v31 val_main_v30 val_main_v23 val_main_v16 val_main_v9 val_main_v8 val_main_cst val_main_v7 val_main_v2 val_main_v1 val_main_v0 val_main_call0_v0 val_main_c val_main_v6 val_main_v5 val_main_v4 val_main_v3 val_main_v15 val_main_v10 val_main_v14 val_main_v13 val_main_v12 val_main_v11 val_main_v22 val_main_v17 val_main_v21 val_main_v20 val_main_v19 val_main_v18 val_main_v29 val_main_v24 val_main_v28 val_main_v27 val_main_v26 val_main_v25 val_main_call1_v5 val_main_call1_v4 val_main_call1_cst_0 val_main_call1_v3 val_main_call1_v2 val_main_call1_cst val_main_call1_v1 val_main_call1_v0 val_main_v40 val_main_v39 val_main_v38 val_main_v36 val_main_v35 val_main_v34 val_main_cst_0 val_main_v37 val_main_cst_1 val_main_v42)

/-- The wide array's columns that are convolved. -/
def wide (j : Fin 3072) : Fin 13440 := ⟨j.val, by omega⟩

/-- The factor of a head: one over the norm. -/
def factor (y : Fin 128 → EReal) : EReal := Ideal.rsqrt ((∑ k, y k * y k) + Ideal.ofBits .f32 0x358637BD#32)

/-- Column k of head b of part a. -/
def column (a : Fin 3) (b : Fin 8) (k : Fin 128) : Fin 3072 := ⟨a.val * 1024 + b.val * 128 + k.val, by omega⟩

variable (m : (ℓ : Loc nD τ sig) → Buf (Elt Ideal) ℓ) (c : Dev nD)

theorem pay2 (w0 w1 w2 w3 : Vec Ideal S1x128 .f32) (x : Vec Ideal S2048x128 .f32) (b : Vec Ideal S1x128 .f32) (i : Fin 2048) (j : Fin 128) : k0_pay2 (F := Ideal) w0 w1 w2 w3 x b (ix2 i j)
    = silu (taps (fun i => x (ix2 i j)) ![w0 (ix2 (0 : Fin 1) j), w1 (ix2 (0 : Fin 1) j), w2 (ix2 (0 : Fin 1) j), w3 (ix2 (0 : Fin 1) j)] i + b (ix2 (0 : Fin 1) j)) := by
  rw [← Conv.taps_last]
  have h (a : EReal) (k : ℕ) (hk : k < 2048) := Conv.rotated (fun i => x (ix2 i j)) a k hk i (Nat.mod_lt _ (by norm_num))
  pointwise [k0_pay2, silu]
  rw [h _ 1 (by norm_num), h _ 2 (by norm_num), h _ 3 (by norm_num)]

theorem pay1 (n : ℕ) (hn : n < 24) (y : Vec Ideal S2048x128 .f32) (i : Fin 2048) (k : Fin 128) : k0_pay1 (F := Ideal) (BitVec.ofNat 32 n) y (ix2 i k)
    = if n < 16 then y (ix2 i k) * factor fun k => y (ix2 i k) else (y (ix2 i k) : EReal) := by
  split
  · next h =>
    have e : Scalar.cmpi .slt (BitVec.ofNat 32 n) 16#32 = 1#1 := (WordCmp.cmpi_slt_ofNat_eq_one_iff (by norm_num; omega) (by norm_num)).2 h
    pointwise [k0_pay1, factor, e]
  · next h =>
    have e : Scalar.cmpi .slt (BitVec.ofNat 32 n) 16#32 = 0#1 := (WordCmp.cmpi_slt_ofNat_eq_zero_iff (by norm_num; omega) (by norm_num)).2 h
    pointwise [k0_pay1, e]

/-- A row of the reference's numbers with three rows of zeros before them. -/
theorem padded (x : S2048x13440.Idx → EReal) (k : ℕ) (q : Fin 2051) (i : Fin 2048) (j : Fin 3072) (h : q.val + k = i.val + 3) : val_main_v1 (F := Ideal) x (ix2 q j) = earlier (fun i => x (ix2 i (wide j))) k i := by
  unfold val_main_v1
  refine (Conv.padded _ _ _ _ (sitofp_zero (φ := .f32)) k q i j h).trans ?_
  refine congrArg (fun f => earlier f k i) (funext fun i => ?_)
  pointwise [val_main_v0, wide]

theorem value_silu (x : S2048x13440.Idx → EReal) (w : S4x3072.Idx → EReal) (i : Fin 2048) (j : Fin 3072) : val_main_v31 (F := Ideal) x w (ix2 i j)
    = silu (taps (fun i => x (ix2 i (wide j))) (fun k => w (ix2 k j)) i) := by
  have hx : x (ix2 i (wide j)) = earlier (fun i => x (ix2 i (wide j))) 0 i := rfl
  unfold taps
  dsimp only
  rw [hx, ← padded x 3 ⟨i.val, by omega⟩ i j rfl, ← padded x 2 ⟨1 + i.val, by omega⟩ i j (by dsimp only; omega), ← padded x 1 ⟨2 + i.val, by omega⟩ i j (by dsimp only; omega),
    ← padded x 0 ⟨3 + i.val, by omega⟩ i j (by dsimp only; omega)]
  pointwise [val_main_v31, val_main_v30, val_main_v23, val_main_v16, val_main_v9, val_main_v8, val_main_cst, val_main_v7, val_main_v2, val_main_v6, val_main_v5, val_main_v4, val_main_v3, val_main_v15, val_main_v10, val_main_v14, val_main_v13, val_main_v12, val_main_v11, val_main_v22, val_main_v17, val_main_v21, val_main_v20, val_main_v19, val_main_v18, val_main_v29, val_main_v24, val_main_v28, val_main_v27, val_main_v26, val_main_v25, val_main_call1_v5, val_main_call1_v4, val_main_call1_cst_0, val_main_call1_v3, val_main_call1_v2, val_main_call1_cst, val_main_call1_v1, val_main_call1_v0, silu, Ideal.logistic]

/-- The reference's number before the norm. -/
def mixed (x : S2048x13440.Idx → EReal) (w : S4x3072.Idx → EReal) (i : Fin 2048) (j : Fin 3072) : EReal :=
  silu (taps (fun i => x (ix2 i (wide j))) (fun k => w (ix2 k j)) i)

theorem value (x : S2048x13440.Idx → EReal) (w : S4x3072.Idx → EReal) (i : Fin 2048) (a : Fin 3) (b : Fin 8) (k : Fin 128) : val_main_v44 (F := Ideal) x w (ix2 i (column a b k))
    = if a.val < 2 then mixed x w i (column a b k) * factor fun k => mixed x w i (column a b k) else mixed x w i (column a b k) := by
  simp only [mixed, ← value_silu]
  have e (k : Fin 128) : (a.val * 1024 + b.val * 128 + k.val) / 1024 = a.val := by omega
  by_cases ha : a.val < 2
  · rw [if_pos ha]
    pointwise [val_main_v44, val_main_v43, val_main_v41, val_main_v33, val_main_v32, val_main_v40, val_main_v39, val_main_v38, val_main_v36, val_main_v35, val_main_v34, val_main_cst_0, val_main_v37, val_main_cst_1, val_main_v42, factor, column]
    simp only [e, ha, dite_true]
  · have h2 : a.val = 2 := by omega
    rw [if_neg ha]
    pointwise [val_main_v44, val_main_v43, val_main_v41, val_main_v33, val_main_v32, val_main_v40, val_main_v39, val_main_v38, val_main_v36, val_main_v35, val_main_v34, val_main_cst_0, val_main_v37, val_main_cst_1, val_main_v42, factor, column]
    simp only [e, h2, Nat.lt_irrefl, dite_false]

/-- What a step computes before the norm. -/
def before (x : Vec Ideal S2048x128 .f32) (w : Vec Ideal S4x128 .f32) (b : Vec Ideal S1x128 .f32) (i : Fin 2048) (k : Fin 128) : EReal :=
  silu (taps (fun i => x (ix2 i k)) (fun l => w (ix2 l k)) i + b (ix2 (0 : Fin 1) k))

theorem step (g : grid0.Coords) (x : Vec Ideal S2048x128 .f32) (w : Vec Ideal S4x128 .f32) (b : Vec Ideal S1x128 .f32) (i : Fin 2048) (k : Fin 128) : out0_3 g x w b (ix2 i k)
    = if (g 0).val < 16 then before x w b i k * factor (before x w b i) else before x w b i k := by
  have hb (k : Fin 128) : k0_pay2 (F := Ideal) (View.ld w r0_0) (View.ld w r0_1) (View.ld w r0_2) (View.ld w r0_3) x b (ix2 i k) = before x w b i k := by
    refine (pay2 _ _ _ _ _ _ i k).trans ?_
    pointwise [before, silu, taps, earlier]
  unfold out0_3
  frame_out
  refine (pay1 _ (g 0).isLt _ i k).trans ?_
  simp only [hb]

theorem index : ∀ t : Fin cfg0.N, win0_0.index t = ![0, t.val] ∧ win0_1.index t = ![0, t.val] ∧ win0_2.index t = ![0, t.val] ∧ win0_3.index t = ![0, t.val] :=
  (by decide +kernel : ∀ t : Fin grid0.N, win0_0.index t = ![0, t.val] ∧ win0_1.index t = ![0, t.val] ∧ win0_2.index t = ![0, t.val] ∧ win0_3.index t = ![0, t.val])

theorem coordinate : ∀ t : Fin cfg0.N, (grid0.coords t 0).val = t.val := (by decide +kernel : ∀ t : Fin grid0.N, (grid0.coords t 0).val = t.val)

theorem point_lt (t : Fin cfg0.N) : t.val < 24 := t.isLt

/-- There is no bias. -/
theorem bias (j : Fin 3072) : (V m c main_v0 : S1x3072.Idx → EReal) (ix2 (0 : Fin 1) j) = (0 : EReal) := by
  after_reads_at

theorem array : (dats m 0 c).arrAt 3 cfg0.N = (val_main_v44 (F := Ideal) (m ((c : Thread nD τ).loc main_arg0)) (m ((c : Thread nD τ).loc main_arg1)) : S2048x3072.Idx → EReal) := by
  refine (dats m 0 c).arrAt_eq_of_covers 3 _ (by decide +kernel) fun t hf y => ?_
  blk_simp
  rw [after0_3]
  have ht := point_lt t
  obtain ⟨i, k, rfl⟩ : ∃ (i : Fin 2048) (k : Fin 128), y = ix2 i k := ⟨y 0, y 1, by ext a; fin_cases a <;> rfl⟩
  obtain ⟨i0, i1, i2, i3⟩ := index t
  obtain ⟨a, ha⟩ : ∃ a : Fin 3, a.val = t.val / 8 := ⟨⟨_, by omega⟩, rfl⟩
  obtain ⟨b, hb⟩ : ∃ b : Fin 8, b.val = t.val % 8 := ⟨⟨_, by omega⟩, rfl⟩
  have hj (k : Fin 128) : (column a b k).val = t.val * 128 + k.val := by
    simp only [column]
    omega
  have he : (win0_3.blk t).view.emb (ix2 i k) = ix2 i (column a b k) := by
    blk_ext [i3, hj]
  have hx (i : Fin 2048) (k : Fin 128) : (iblk m c 0 t : S2048x128.Idx → EReal) (ix2 i k) = m ((c : Thread nD τ).loc main_arg0) (ix2 i (wide (column a b k))) := by
    blk_ext [iblk, V_main_arg0, i0, wide, hj]
  have hw (l : Fin 4) (k : Fin 128) : (iblk m c 1 t : S4x128.Idx → EReal) (ix2 l k) = m ((c : Thread nD τ).loc main_arg1) (ix2 l (column a b k)) := by
    blk_ext [iblk, V_main_arg1, i1, hj]
  have hz (k : Fin 128) : (iblk m c 2 t : S1x128.Idx → EReal) (ix2 (0 : Fin 1) k) = (0 : EReal) := by
    rw [← bias m c (column a b k)]
    blk_ext [iblk, i2, hj]
  have hm (k : Fin 128) : before (iblk m c 0 t) (iblk m c 1 t) (iblk m c 2 t) i k = mixed (m ((c : Thread nD τ).loc main_arg0)) (m ((c : Thread nD τ).loc main_arg1)) i (column a b k) := by
    unfold before mixed
    simp only [hx, hw, hz, add_zero]
  rw [he, value]
  refine (step _ _ _ _ i k).trans ?_
  rw [coordinate t, show (before (iblk m c 0 t) (iblk m c 1 t) (iblk m c 2 t) i) = fun k => mixed (m ((c : Thread nD τ).loc main_arg0)) (m ((c : Thread nD τ).loc main_arg1)) i (column a b k) from funext hm]
  exact if_congr (by omega) rfl rfl

/-- The frames, as printed, idealized, and the reference's. -/
theorem frame_k : quiescent_Kernel32 := fun m ρ _ => Kernel32.Gen.frame m ρ
theorem frame_i : quiescent_Kernel32Ideal := fun m ρ _ => frame m ρ
theorem frame_r : quiescent_Reference32Ideal := fun m ρ _ =>
  (θ_run Reference32Ideal.defs _ _).mono (fun r h => ⟨fun c => (h c).2, sem_eq_zero_of_no_sems (by decide) r.2⟩) (Reference32Ideal.Value.run m ρ)

theorem same : preserves_Kernel32_Kernel32Ideal := trivial

/-- The call's array is the reference's. -/
theorem equal : algebraic_Kernel32Ideal_Reference32Ideal := by
  intro m g m' g' hp ha
  refine ⟨_, Value.run_blocks m g, (θ_run Reference32Ideal.defs _ _).mono (fun r h c => ?_) (Reference32Ideal.Value.run m' g')⟩
  obtain ⟨a0, a1⟩ := ha c
  obtain ⟨h0, k⟩ := h c
  refine ⟨h0.trans ?_, k⟩
  rw [Reference32Ideal.Read.val_main_v44_eq, a0, a1]
  exact (array m c).symm

end Cert.DeltaConv

end
-- ==== Proof.SsmConv.lean ====
/-
  The convolution before the state-space mixer, with its bias and silu. A grid step handles 128 columns.
-/
module

public import proofs.«01_k».proof.Defs
public import proofs.«01_k».proof.Proof.Conv
public import proofs.«01_k».proof.Proof.Gen.Kernel33.Frame
public import proofs.«01_k».proof.Proof.Gen.Kernel33Ideal.Value
public import proofs.«01_k».proof.Proof.Gen.Reference33Ideal.Read
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.SsmConv

open Idealize.ShloMosaic Idealize.SL.Sem Idealize.ShloMosaic.TcCoe Cert.Kernel33Ideal Cert.Kernel33Ideal.Gen
open Conv (earlier taps silu)
open Reference33Ideal.Read (val_main_v34 val_main_v33 val_main_v30 val_main_v23 val_main_v16 val_main_v9 val_main_v8 val_main_cst val_main_v7 val_main_v2 val_main_v1 val_main_v0 val_main_call0_v0 val_main_c val_main_v6 val_main_v5 val_main_v4 val_main_v3 val_main_v15 val_main_v10 val_main_v14 val_main_v13 val_main_v12 val_main_v11 val_main_v22 val_main_v17 val_main_v21 val_main_v20 val_main_v19 val_main_v18 val_main_v29 val_main_v24 val_main_v28 val_main_v27 val_main_v26 val_main_v25 val_main_v32 val_main_v31 val_main_call1_v5 val_main_call1_v4 val_main_call1_cst_0 val_main_call1_v3 val_main_call1_v2 val_main_call1_cst val_main_call1_v1 val_main_call1_v0)

/-- The mixer's columns of the wide array. -/
def wide (j : Fin 2048) : Fin 13440 := ⟨8192 + j.val, by omega⟩

variable (m : (ℓ : Loc nD τ sig) → Buf (Elt Ideal) ℓ) (c : Dev nD)

theorem pay (w0 w1 w2 w3 : Vec Ideal S1x128 .f32) (x : Vec Ideal S2048x128 .f32) (b : Vec Ideal S1x128 .f32) (i : Fin 2048) (j : Fin 128) : k0_pay1 (F := Ideal) w0 w1 w2 w3 x b (ix2 i j)
    = silu (taps (fun i => x (ix2 i j)) ![w0 (ix2 (0 : Fin 1) j), w1 (ix2 (0 : Fin 1) j), w2 (ix2 (0 : Fin 1) j), w3 (ix2 (0 : Fin 1) j)] i + b (ix2 (0 : Fin 1) j)) := by
  rw [← Conv.taps_last]
  have h (a : EReal) (k : ℕ) (hk : k < 2048) := Conv.rotated (fun i => x (ix2 i j)) a k hk i (Nat.mod_lt _ (by norm_num))
  pointwise [k0_pay1, silu]
  rw [h _ 1 (by norm_num), h _ 2 (by norm_num), h _ 3 (by norm_num)]

/-- A row of the reference's numbers with three rows of zeros before them. -/
theorem padded (x : S2048x13440.Idx → EReal) (k : ℕ) (q : Fin 2051) (i : Fin 2048) (j : Fin 2048) (h : q.val + k = i.val + 3) : val_main_v1 (F := Ideal) x (ix2 q j) = earlier (fun i => x (ix2 i (wide j))) k i := by
  unfold val_main_v1
  refine (Conv.padded _ _ _ _ (sitofp_zero (φ := .f32)) k q i j h).trans ?_
  refine congrArg (fun f => earlier f k i) (funext fun i => ?_)
  pointwise [val_main_v0, wide]

theorem value (x : S2048x13440.Idx → EReal) (w : S4x2048.Idx → EReal) (b : S2048.Idx → EReal) (i : Fin 2048) (j : Fin 2048) : val_main_v34 (F := Ideal) x w b (ix2 i j)
    = silu (taps (fun i => x (ix2 i (wide j))) (fun k => w (ix2 k j)) i + b (ix1 j)) := by
  have hx : x (ix2 i (wide j)) = earlier (fun i => x (ix2 i (wide j))) 0 i := rfl
  unfold taps
  dsimp only
  rw [hx, ← padded x 3 ⟨i.val, by omega⟩ i j rfl, ← padded x 2 ⟨1 + i.val, by omega⟩ i j (by dsimp only; omega), ← padded x 1 ⟨2 + i.val, by omega⟩ i j (by dsimp only; omega),
    ← padded x 0 ⟨3 + i.val, by omega⟩ i j (by dsimp only; omega)]
  pointwise [val_main_v34, val_main_v33, val_main_v30, val_main_v23, val_main_v16, val_main_v9, val_main_v8, val_main_cst, val_main_v7, val_main_v2, val_main_v6, val_main_v5, val_main_v4, val_main_v3, val_main_v15, val_main_v10, val_main_v14, val_main_v13, val_main_v12, val_main_v11, val_main_v22, val_main_v17, val_main_v21, val_main_v20, val_main_v19, val_main_v18, val_main_v29, val_main_v24, val_main_v28, val_main_v27, val_main_v26, val_main_v25, val_main_v32, val_main_v31, val_main_call1_v5, val_main_call1_v4, val_main_call1_cst_0, val_main_call1_v3, val_main_call1_v2, val_main_call1_cst, val_main_call1_v1, val_main_call1_v0, silu, Ideal.logistic]

theorem step (x : Vec Ideal S2048x128 .f32) (w : Vec Ideal S4x128 .f32) (b : Vec Ideal S1x128 .f32) (i : Fin 2048) (j : Fin 128) : out0_3 x w b (ix2 i j)
    = silu (taps (fun i => x (ix2 i j)) (fun k => w (ix2 k j)) i + b (ix2 (0 : Fin 1) j)) := by
  unfold out0_3
  frame_out
  refine (pay _ _ _ _ _ _ i j).trans ?_
  pointwise [silu, taps, earlier]

theorem index : ∀ t : Fin cfg0.N, win0_0.index t = ![0, 64 + t.val] ∧ win0_1.index t = ![0, t.val] ∧ win0_2.index t = ![0, t.val] ∧ win0_3.index t = ![0, t.val] :=
  (by decide +kernel : ∀ t : Fin grid0.N, win0_0.index t = ![0, 64 + t.val] ∧ win0_1.index t = ![0, t.val] ∧ win0_2.index t = ![0, t.val] ∧ win0_3.index t = ![0, t.val])

theorem point_lt (t : Fin cfg0.N) : t.val < 16 := t.isLt

/-- The host gives the bias as one row. -/
theorem bias (j : Fin 2048) : (V m c main_v0 : S1x2048.Idx → EReal) (ix2 (0 : Fin 1) j) = m ((c : Thread nD τ).loc main_arg2) (ix1 j) := by
  after_reads_at

theorem array : (dats m 0 c).arrAt 3 cfg0.N = (val_main_v34 (F := Ideal) (m ((c : Thread nD τ).loc main_arg0)) (m ((c : Thread nD τ).loc main_arg1)) (m ((c : Thread nD τ).loc main_arg2)) : S2048x2048.Idx → EReal) := by
  refine (dats m 0 c).arrAt_eq_of_covers 3 _ (by decide +kernel) fun t hf y => ?_
  blk_simp
  rw [after0_3]
  have ht := point_lt t
  obtain ⟨i, k, rfl⟩ : ∃ (i : Fin 2048) (k : Fin 128), y = ix2 i k := ⟨y 0, y 1, by ext a; fin_cases a <;> rfl⟩
  obtain ⟨i0, i1, i2, i3⟩ := index t
  obtain ⟨j, hj⟩ : ∃ j : Fin 2048, j.val = t.val * 128 + k.val := ⟨⟨_, by omega⟩, rfl⟩
  have he : (win0_3.blk t).view.emb (ix2 i k) = ix2 i j := by
    blk_ext [i3, hj]
  have hx (i : Fin 2048) : (iblk m c 0 t : S2048x128.Idx → EReal) (ix2 i k) = m ((c : Thread nD τ).loc main_arg0) (ix2 i (wide j)) := by
    blk_ext [iblk, V_main_arg0, i0, wide, hj]
  have hw (l : Fin 4) : (iblk m c 1 t : S4x128.Idx → EReal) (ix2 l k) = m ((c : Thread nD τ).loc main_arg1) (ix2 l j) := by
    blk_ext [iblk, V_main_arg1, i1, hj]
  have hb : (iblk m c 2 t : S1x128.Idx → EReal) (ix2 (0 : Fin 1) k) = m ((c : Thread nD τ).loc main_arg2) (ix1 j) := by
    rw [← bias m c j]
    blk_ext [iblk, i2, hj]
  rw [he, value]
  refine (step _ _ _ i k).trans ?_
  simp only [hx, hw, hb]

/-- The frames, as printed, idealized, and the reference's. -/
theorem frame_k : quiescent_Kernel33 := fun m ρ _ => Kernel33.Gen.frame m ρ
theorem frame_i : quiescent_Kernel33Ideal := fun m ρ _ => frame m ρ
theorem frame_r : quiescent_Reference33Ideal := fun m ρ _ =>
  (θ_run Reference33Ideal.defs _ _).mono (fun r h => ⟨fun c => (h c).2, sem_eq_zero_of_no_sems (by decide) r.2⟩) (Reference33Ideal.Value.run m ρ)

theorem same : preserves_Kernel33_Kernel33Ideal := trivial

/-- The call's array is the reference's. -/
theorem equal : algebraic_Kernel33Ideal_Reference33Ideal := by
  intro m g m' g' hp ha
  refine ⟨_, Value.run_blocks m g, (θ_run Reference33Ideal.defs _ _).mono (fun r h c => ?_) (Reference33Ideal.Value.run m' g')⟩
  obtain ⟨a0, a1, a2⟩ := ha c
  obtain ⟨h0, k⟩ := h c
  refine ⟨h0.trans ?_, k⟩
  rw [Reference33Ideal.Read.val_main_v34_eq, a0, a1, a2]
  exact (array m c).symm

end Cert.SsmConv

end
-- ==== Proof.lean ====
/-
  The certificate. Here are the claims about the state-space mixer's gradients: the two frames, the reference's frame, the
  replacement of the mask constant, and the equality of the kernel's six gradients with the reference's. The claims about each
  other call are in its own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import proofs.«01_k».proof.Proof.Gen.KernelIdeal.Value
public import proofs.«01_k».proof.Proof.Gen.ReferenceIdeal
public import proofs.«01_k».proof.Proof.Gen.ReferenceIdeal.Read
public import proofs.«01_k».proof.Proof.Gen.Pre_regular
public import proofs.«01_k».proof.Proof.Arrays
public import proofs.«01_k».proof.Proof.Regular
public import proofs.«01_k».proof.Proof.InDw
public import proofs.«01_k».proof.Proof.InDx
public import proofs.«01_k».proof.Proof.DownDx
public import proofs.«01_k».proof.Proof.DownDw
public import proofs.«01_k».proof.Proof.UpDw
public import proofs.«01_k».proof.Proof.UpDx
public import proofs.«01_k».proof.Proof.In
public import proofs.«01_k».proof.Proof.Up
public import proofs.«01_k».proof.Proof.Down
public import proofs.«01_k».proof.Proof.OutDx
public import proofs.«01_k».proof.Proof.OutDw
public import proofs.«01_k».proof.Proof.Out
public import proofs.«01_k».proof.Proof.BranchDw
public import proofs.«01_k».proof.Proof.BranchDx
public import proofs.«01_k».proof.Proof.Branch
public import proofs.«01_k».proof.Proof.Merge
public import proofs.«01_k».proof.Proof.NormGrad
public import proofs.«01_k».proof.Proof.Norm
public import proofs.«01_k».proof.Proof.MergeFwd
public import proofs.«01_k».proof.Proof.SsmPost
public import proofs.«01_k».proof.Proof.FinalLoss
public import proofs.«01_k».proof.Proof.DeltaPost
public import proofs.«01_k».proof.Proof.Adam
public import proofs.«01_k».proof.Proof.AdamSum
public import proofs.«01_k».proof.Proof.DeltaConv
public import proofs.«01_k».proof.Proof.SsmConv
public import Idealize.ShloMosaic.Lib.Quiescent

@[expose] public section

noncomputable section

namespace Cert.Proof

open Idealize.ShloMosaic Idealize.SL.Sem

/-- The kernel's frame. -/
theorem frame_k : Cert.quiescent_Kernel := fun m ρ _ => Cert.Kernel.Gen.frame m ρ

/-- The frame of the kernel with the mask read as −∞. -/
theorem frame_i : Cert.quiescent_KernelIdeal := fun m ρ _ => Cert.KernelIdeal.Gen.frame m ρ
theorem frame_ip : Cert.quiescent_KernelIdeal_pre_regular := fun m ρ _ => Cert.KernelIdeal.Gen.frame m ρ

/-- The reference's frame: a straight line of host operations that declares no semaphore. -/
theorem frame_r : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run m ρ)
theorem frame_rp : Cert.quiescent_ReferenceIdeal_pre_regular := fun m ρ _ => frame_r m ρ trivial

/-- The mask constant is read as −∞, as the claim's table names it. -/
theorem mask : Cert.preserves_Kernel_KernelIdeal := IdealRules.named_const.statement Cert.KernelIdeal.κ "mask" .f32 0xF149F2CA#32 ⊥ rfl

set_option maxHeartbeats 4000000 in
/-- The kernel's six arrays are the reference's six gradients. -/
theorem equal : Cert.algebraic_KernelIdeal_ReferenceIdeal_pre_regular := by
  intro m g m' g' hp ha
  have H := fun c => Cert.Pre_regular.Meaning.fits _ _ _ _ _ _ (hp c)
  refine ⟨_, _, _, _, _, _, Cert.KernelIdeal.Value.run_blocks m g,
    (θ_run Cert.ReferenceIdeal.defs _ _).mono (fun r h c => ?_) (Cert.ReferenceIdeal.Value.run m' g')⟩
  obtain ⟨a0, a1, a2, a3, a4, a5⟩ := ha c
  obtain ⟨h0, h1, h2, h3, h4, h5, k⟩ := h c
  refine ⟨h0.trans ?_, h1.trans ?_, h2.trans ?_, h3.trans ?_, h4.trans ?_, h5.trans ?_, k⟩
  · rw [Cert.ReferenceIdeal.Read.val_main_v94_eq, a0, a1, a2, a3, a4, a5]; exact (Cert.KernelIdeal.Arrays.array9 (H c)).symm
  · rw [Cert.ReferenceIdeal.Read.val_main_v89_eq, a0, a1, a2, a3, a4]; exact (Cert.KernelIdeal.Arrays.array10 (H c)).symm
  · rw [Cert.ReferenceIdeal.Read.val_main_v88_eq, a0, a1, a2, a3, a4]; exact (Cert.KernelIdeal.Arrays.array11 (H c)).symm
  · rw [Cert.ReferenceIdeal.Read.val_main_v93_eq, a0, a1, a2, a3, a4]; exact (Cert.KernelIdeal.Arrays.array12 (H c)).symm
  · rw [Cert.ReferenceIdeal.Read.val_main_v95_eq, a0, a1, a2, a3, a4]; exact (Cert.KernelIdeal.Arrays.array13 (H c)).symm
  · rw [Cert.ReferenceIdeal.Read.val_main_v96_eq, a0, a1, a2, a3, a4]; exact (Cert.KernelIdeal.Arrays.array14 (H c)).symm

/-- The certificate: every program's facts, every frame, and for each call the two claims about its values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Pre_regular.Gen.facts,
    frame_k, frame_i, frame_ip, frame_r, frame_rp,
    InDw.frame_k, InDw.frame_i, InDw.frame_r,
    InDx.frame_k, InDx.frame_i, InDx.frame_r,
    DownDx.frame_k, DownDx.frame_i, DownDx.frame_r,
    DownDw.frame_k, DownDw.frame_i, DownDw.frame_r,
    UpDw.frame_k, UpDw.frame_i, UpDw.frame_r,
    UpDx.frame_k, UpDx.frame_i, UpDx.frame_r,
    In.frame_k, In.frame_i, In.frame_r,
    Up.frame_k, Up.frame_i, Up.frame_r,
    Down.frame_k, Down.frame_i, Down.frame_r,
    OutDx.frame_k, OutDx.frame_i, OutDx.frame_r,
    OutDw.frame_k, OutDw.frame_i, OutDw.frame_r,
    Out.frame_k, Out.frame_i, Out.frame_r,
    BranchDw.frame_k0, BranchDw.frame_i0, BranchDw.frame_r0,
    BranchDw.frame_k1, BranchDw.frame_i1, BranchDw.frame_r1,
    BranchDw.frame_k2, BranchDw.frame_i2, BranchDw.frame_r2,
    BranchDx.frame_k0, BranchDx.frame_i0, BranchDx.frame_r0,
    BranchDx.frame_k1, BranchDx.frame_i1, BranchDx.frame_r1,
    BranchDx.frame_k2, BranchDx.frame_i2, BranchDx.frame_r2,
    Branch.frame_k0, Branch.frame_i0, Branch.frame_r0,
    Branch.frame_k1, Branch.frame_i1, Branch.frame_r1,
    Branch.frame_k2, Branch.frame_i2, Branch.frame_r2,
    Merge.frame_k, Merge.frame_i, Merge.frame_r,
    NormGrad.frame_k, NormGrad.frame_i, NormGrad.frame_r,
    Norm.frame_k, Norm.frame_i, Norm.frame_r,
    MergeFwd.frame_k, MergeFwd.frame_i, MergeFwd.frame_r,
    SsmPost.frame_k, SsmPost.frame_i, SsmPost.frame_r,
    FinalLoss.frame_k, FinalLoss.frame_i, FinalLoss.frame_r,
    DeltaPost.frame_k, DeltaPost.frame_i, DeltaPost.frame_r,
    Adam.frame_k, Adam.frame_i, Adam.frame_r,
    AdamSum.frame_k, AdamSum.frame_i, AdamSum.frame_r,
    DeltaConv.frame_k, DeltaConv.frame_i, DeltaConv.frame_r,
    SsmConv.frame_k, SsmConv.frame_i, SsmConv.frame_r,
    mask, equal,
    InDw.same, InDw.equal,
    InDx.same, InDx.equal,
    DownDx.same, DownDx.equal,
    DownDw.same, DownDw.equal,
    UpDw.same, UpDw.equal,
    UpDx.same, UpDx.equal,
    In.same, In.equal,
    Up.same, Up.equal,
    Down.same, Down.equal,
    OutDx.same, OutDx.equal,
    OutDw.same, OutDw.equal,
    Out.same, Out.equal,
    BranchDw.same0, BranchDw.equal0,
    BranchDw.same1, BranchDw.equal1,
    BranchDw.same2, BranchDw.equal2,
    BranchDx.same0, BranchDx.equal0,
    BranchDx.same1, BranchDx.equal1,
    BranchDx.same2, BranchDx.equal2,
    Branch.same0, Branch.equal0,
    Branch.same1, Branch.equal1,
    Branch.same2, Branch.equal2,
    Merge.same, Merge.equal,
    NormGrad.same, NormGrad.equal,
    Norm.same, Norm.equal,
    MergeFwd.same, MergeFwd.equal,
    SsmPost.same, SsmPost.equal,
    FinalLoss.same, FinalLoss.equal,
    DeltaPost.same, DeltaPost.equal,
    Adam.same, Adam.equal,
    AdamSum.same, AdamSum.equal,
    DeltaConv.same, DeltaConv.equal,
    SsmConv.same, SsmConv.equal⟩

end Cert.Proof

end
